-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4)
      ∧ r.2.mem ((c.tc : Thread Cert.KernelAttn.nD Cert.KernelAttn.τ).loc Cert.KernelAttn.main_arg5) = m ((c.tc : Thread Cert.KernelAttn.nD Cert.KernelAttn.τ).loc Cert.KernelAttn.main_arg5))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)) →
    ∃ (v0 : (c : Dev Cert.KernelQkvIdeal.nD) → Buf (Elt Ideal) ((c.tc : Thread Cert.KernelQkvIdeal.nD Cert.KernelQkvIdeal.τ).loc Cert.KernelQkvIdeal.main_v7_0)) (v1 : (c : Dev Cert.KernelQkvIdeal.nD) → Buf (Elt Ideal) ((c.tc : Thread Cert.KernelQkvIdeal.nD Cert.KernelQkvIdeal.τ).loc Cert.KernelQkvIdeal.main_v7_1)) (v2 : (c : Dev Cert.KernelQkvIdeal.nD) → Buf (Elt Ideal) ((c.tc : Thread Cert.KernelQkvIdeal.nD Cert.KernelQkvIdeal.τ).loc Cert.KernelQkvIdeal.main_v7_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v7_0) = v0 c
          ∧ r.2.mem ((c.tc : Thread Cert.KernelQkvIdeal.nD Cert.KernelQkvIdeal.τ).loc Cert.KernelQkvIdeal.main_v7_1) = v1 c
          ∧ r.2.mem ((c.tc : Thread Cert.KernelQkvIdeal.nD Cert.KernelQkvIdeal.τ).loc Cert.KernelQkvIdeal.main_v7_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v46) = v0 c
          ∧ r.2.mem ((c.tc : Thread Cert.ReferenceQkvIdeal.nD Cert.ReferenceQkvIdeal.τ).loc Cert.ReferenceQkvIdeal.main_v79) = v1 c
          ∧ r.2.mem ((c.tc : Thread Cert.ReferenceQkvIdeal.nD Cert.ReferenceQkvIdeal.τ).loc Cert.ReferenceQkvIdeal.main_v80) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)) →
    ∃ (v0 : (c : Dev Cert.KernelLnIdeal.nD) → Buf (Elt Ideal) ((c.tc : Thread Cert.KernelLnIdeal.nD Cert.KernelLnIdeal.τ).loc Cert.KernelLnIdeal.main_v1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v1) = v0 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v20) = v0 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)
      ∧ m' ((c.tc : Thread Cert.ReferenceAttnIdeal.nD Cert.ReferenceAttnIdeal.τ).loc Cert.ReferenceAttnIdeal.main_arg5) = m ((c.tc : Thread Cert.KernelAttnIdeal.nD Cert.KernelAttnIdeal.τ).loc Cert.KernelAttnIdeal.main_arg5)) →
    ∃ (v0 : (c : Dev Cert.KernelAttnIdeal.nD) → Buf (Elt Ideal) ((c.tc : Thread Cert.KernelAttnIdeal.nD Cert.KernelAttnIdeal.τ).loc Cert.KernelAttnIdeal.main_v11_0)) (v1 : (c : Dev Cert.KernelAttnIdeal.nD) → Buf (Elt Ideal) ((c.tc : Thread Cert.KernelAttnIdeal.nD Cert.KernelAttnIdeal.τ).loc Cert.KernelAttnIdeal.main_v11_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v11_0) = v0 c
          ∧ r.2.mem ((c.tc : Thread Cert.KernelAttnIdeal.nD Cert.KernelAttnIdeal.τ).loc Cert.KernelAttnIdeal.main_v11_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
          ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v60) = v0 c
          ∧ r.2.mem ((c.tc : Thread Cert.ReferenceAttnIdeal.nD Cert.ReferenceAttnIdeal.τ).loc Cert.ReferenceAttnIdeal.main_v61) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4)
          ∧ r.2.mem ((c.tc : Thread Cert.ReferenceAttnIdeal.nD Cert.ReferenceAttnIdeal.τ).loc Cert.ReferenceAttnIdeal.main_arg5) = m' ((c.tc : Thread Cert.ReferenceAttnIdeal.nD Cert.ReferenceAttnIdeal.τ).loc Cert.ReferenceAttnIdeal.main_arg5))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelLn : Cert.KernelLn.Facts) (hKernelLnIdeal : Cert.KernelLnIdeal.Facts) (hReferenceLnIdeal : Cert.ReferenceLnIdeal.Facts) (hKernelAttn : Cert.KernelAttn.Facts) (hKernelAttnIdeal : Cert.KernelAttnIdeal.Facts) (hReferenceAttnIdeal : Cert.ReferenceAttnIdeal.Facts),
    quiescent_Kernel (hKernel := hKernel)
    ∧ quiescent_KernelIdeal (hKernelIdeal := hKernelIdeal)
    ∧ quiescent_ReferenceIdeal (hReferenceIdeal := hReferenceIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ preserves_Kernel_KernelIdeal
    ∧ algebraic_KernelIdeal_ReferenceIdeal (hKernelIdeal := hKernelIdeal) (hReferenceIdeal := hReferenceIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelLn_KernelLnIdeal
    ∧ algebraic_KernelLnIdeal_ReferenceLnIdeal (hKernelLnIdeal := hKernelLnIdeal) (hReferenceLnIdeal := hReferenceLnIdeal)
    ∧ preserves_KernelAttn_KernelAttnIdeal
    ∧ algebraic_KernelAttnIdeal_ReferenceAttnIdeal (hKernelAttnIdeal := hKernelAttnIdeal) (hReferenceAttnIdeal := hReferenceAttnIdeal)
-- ==== Kernel.lean ====
abbrev S1536x4096 : Shape := ⟨2, ![1536, 4096]⟩
abbrev S2048x34816 : Shape := ⟨2, ![2048, 34816]⟩
abbrev S32x34816 : Shape := ⟨2, ![32, 34816]⟩
abbrev S2048x4096 : Shape := ⟨2, ![2048, 4096]⟩
abbrev S32x4096 : Shape := ⟨2, ![32, 4096]⟩
abbrev S7168x4096 : Shape := ⟨2, ![7168, 4096]⟩
abbrev S112x4096 : Shape := ⟨2, ![112, 4096]⟩
abbrev S56x2x4096 : Shape := ⟨3, ![56, 2, 4096]⟩
abbrev S8x4x4096 : Shape := ⟨3, ![8, 4, 4096]⟩
abbrev S2048x256 : Shape := ⟨2, ![2048, 256]⟩
abbrev S128x4096 : Shape := ⟨2, ![128, 4096]⟩
abbrev S32x256 : Shape := ⟨2, ![32, 256]⟩
abbrev S1x2x4096 : Shape := ⟨3, ![1, 2, 4096]⟩
abbrev S1536x512 : Shape := ⟨2, ![1536, 512]⟩
abbrev S256x4096 : Shape := ⟨2, ![256, 4096]⟩
abbrev S1x4x4096 : Shape := ⟨3, ![1, 4, 4096]⟩
abbrev S64x4096 : Shape := ⟨2, ![64, 4096]⟩
abbrev S_ : Shape := ⟨0, ![]⟩
abbrev S4x4096 : Shape := ⟨2, ![4, 4096]⟩
abbrev S64x1x4096 : Shape := ⟨3, ![64, 1, 4096]⟩
abbrev S64x2x4096 : Shape := ⟨3, ![64, 2, 4096]⟩
abbrev S1x4096 : Shape := ⟨2, ![1, 4096]⟩
abbrev S512x4096 : Shape := ⟨2, ![512, 4096]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S4096x256 : Shape := ⟨2, ![4096, 256]⟩
abbrev S1536x256 : Shape := ⟨2, ![1536, 256]⟩
abbrev S2x4096 : Shape := ⟨2, ![2, 4096]⟩

abbrev nBuf : Space → Nat
  | .hbm => 12
  | .vmem => 21
  | .smem => 0
  | _ => 0

abbrev bufTy : (tb : Table) → Fin (tcTables nBuf tb) → BufTy
  | .hbm, ⟨0, _⟩ => ⟨S1536x4096, .bf16⟩
  | .hbm, ⟨1, _⟩ => ⟨S1536x4096, .bf16⟩
  | .hbm, ⟨2, _⟩ => ⟨S1536x4096, .bf16⟩
  | .hbm, ⟨3, _⟩ => ⟨S2048x34816, .i8⟩
  | .hbm, ⟨4, _⟩ => ⟨S32x34816, .f32⟩
  | .hbm, ⟨5, _⟩ => ⟨S2048x4096, .i8⟩
  | .hbm, ⟨6, _⟩ => ⟨S32x4096, .f32⟩
  | .hbm, ⟨7, _⟩ => ⟨S7168x4096, .i8⟩
  | .hbm, ⟨8, _⟩ => ⟨S112x4096, .f32⟩
  | .hbm, ⟨9, _⟩ => ⟨S56x2x4096, .f32⟩
  | .hbm, ⟨10, _⟩ => ⟨S8x4x4096, .f32⟩
  | .hbm, ⟨11, _⟩ => ⟨S1536x4096, .bf16⟩
  | .local _ .vmem, ⟨0, _⟩ => ⟨S1536x4096, .bf16⟩
  | .local _ .vmem, ⟨1, _⟩ => ⟨S2048x256, .i8⟩
  | .local _ .vmem, ⟨2, _⟩ => ⟨S2048x256, .i8⟩
  | .local _ .vmem, ⟨3, _⟩ => ⟨S2048x256, .i8⟩
  | .local _ .vmem, ⟨4, _⟩ => ⟨S2048x256, .i8⟩
  | .local _ .vmem, ⟨5, _⟩ => ⟨S128x4096, .i8⟩
  | .local _ .vmem, ⟨6, _⟩ => ⟨S128x4096, .i8⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S1x2x4096, .f32⟩
  | .local _ .vmem, ⟨12, _⟩ => ⟨S1x2x4096, .f32⟩
  | .local _ .vmem, ⟨13, _⟩ => ⟨S1536x512, .bf16⟩
  | .local _ .vmem, ⟨14, _⟩ => ⟨S1536x512, .bf16⟩
  | .local _ .vmem, ⟨15, _⟩ => ⟨S256x4096, .i8⟩
  | .local _ .vmem, ⟨16, _⟩ => ⟨S256x4096, .i8⟩
  | .local _ .vmem, ⟨17, _⟩ => ⟨S1x4x4096, .f32⟩
  | .local _ .vmem, ⟨18, _⟩ => ⟨S1x4x4096, .f32⟩
  | .local _ .vmem, ⟨19, _⟩ => ⟨S1536x4096, .f32⟩
  | .local _ .vmem, ⟨20, _⟩ => ⟨S64x4096, .bf16⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c24_i32 : BitVec 32 := 24#32
  let v2 : BitVec 32 := Scalar.addi c24_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c80_i32 : BitVec 32 := 80#32
  let v2 : BitVec 32 := Scalar.addi c80_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c24_i32 : BitVec 32 := 24#32
  let v2 : BitVec 32 := Scalar.addi c24_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c80_i32 : BitVec 32 := 80#32
  let v2 : BitVec 32 := Scalar.addi c80_i32 v1
  let c0_i32_0 : BitVec 32 := 0#32
  let c0_i32_1 : BitVec 32 := 0#32
  ![c0_i32_0.toNat, v2.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1536x4096 : Shape := ⟨2, ![1536, 4096]⟩
abbrev S2048x34816 : Shape := ⟨2, ![2048, 34816]⟩
abbrev S32x34816 : Shape := ⟨2, ![32, 34816]⟩
abbrev S2048x4096 : Shape := ⟨2, ![2048, 4096]⟩
abbrev S32x4096 : Shape := ⟨2, ![32, 4096]⟩
abbrev S7168x4096 : Shape := ⟨2, ![7168, 4096]⟩
abbrev S112x4096 : Shape := ⟨2, ![112, 4096]⟩
abbrev S32x64x34816 : Shape := ⟨3, ![32, 64, 34816]⟩
abbrev S_ : Shape := ⟨0, ![]⟩
abbrev S1536x2048 : Shape := ⟨2, ![1536, 2048]⟩
abbrev S1536x34816 : Shape := ⟨2, ![1536, 34816]⟩
abbrev S1536x1024 : Shape := ⟨2, ![1536, 1024]⟩
abbrev S1536x14336 : Shape := ⟨2, ![1536, 14336]⟩
abbrev S32x64x4096 : Shape := ⟨3, ![32, 64, 4096]⟩
abbrev S112x64x4096 : Shape := ⟨3, ![112, 64, 4096]⟩
abbrev S1536x7168 : Shape := ⟨2, ![1536, 7168]⟩

abbrev nBuf : Space → Nat
  | .hbm => 104
  | .vmem => 0
  | .smem => 0
  | _ => 0

abbrev bufTy : (tb : Table) → Fin (tcTables nBuf tb) → BufTy
  | .hbm, ⟨0, _⟩ => ⟨S1536x4096, .bf16⟩
  | .hbm, ⟨1, _⟩ => ⟨S1536x4096, .bf16⟩
  | .hbm, ⟨2, _⟩ => ⟨S1536x4096, .bf16⟩
  | .hbm, ⟨3, _⟩ => ⟨S2048x34816, .i8⟩
  | .hbm, ⟨4, _⟩ => ⟨S32x34816, .f32⟩
  | .hbm, ⟨5, _⟩ => ⟨S2048x4096, .i8⟩
  | .hbm, ⟨6, _⟩ => ⟨S32x4096, .f32⟩
  | .hbm, ⟨7, _⟩ => ⟨S7168x4096, .i8⟩
  | .hbm, ⟨8, _⟩ => ⟨S112x4096, .f32⟩
  | .hbm, ⟨9, _⟩ => ⟨S1536x4096, .f32⟩
  | .hbm, ⟨10, _⟩ => ⟨S32x34816, .bf16⟩
  | .hbm, ⟨11, _⟩ => ⟨S32x64x34816, .bf16⟩
  | .hbm, ⟨12, _⟩ => ⟨S2048x34816, .bf16⟩
  | .hbm, ⟨13, _⟩ => ⟨S2048x34816, .i32⟩
  | .hbm, ⟨14, _⟩ => ⟨S_, .i32⟩
  | .hbm, ⟨15, _⟩ => ⟨S2048x34816, .i32⟩
  | .hbm, ⟨16, _⟩ => ⟨S2048x34816, .i32⟩
  | .hbm, ⟨17, _⟩ => ⟨S_, .i32⟩
  | .hbm, ⟨18, _⟩ => ⟨S2048x34816, .i32⟩
  | .hbm, ⟨19, _⟩ => ⟨S2048x34816, .i32⟩
  | .hbm, ⟨20, _⟩ => ⟨S2048x34816, .bf16⟩
  | .hbm, ⟨21, _⟩ => ⟨S2048x34816, .bf16⟩
  | .hbm, ⟨22, _⟩ => ⟨S_, .i32⟩
  | .hbm, ⟨23, _⟩ => ⟨S2048x34816, .i32⟩
  | .hbm, ⟨24, _⟩ => ⟨S2048x34816, .i32⟩
  | .hbm, ⟨25, _⟩ => ⟨S_, .i32⟩
  | .hbm, ⟨26, _⟩ => ⟨S2048x34816, .i32⟩
  | .hbm, ⟨27, _⟩ => ⟨S2048x34816, .i32⟩
  | .hbm, ⟨28, _⟩ => ⟨S2048x34816, .bf16⟩
  | .hbm, ⟨29, _⟩ => ⟨S2048x34816, .bf16⟩
  | .hbm, ⟨30, _⟩ => ⟨S1536x2048, .bf16⟩
  | .hbm, ⟨31, _⟩ => ⟨S1536x34816, .f32⟩
  | .hbm, ⟨32, _⟩ => ⟨S1536x2048, .bf16⟩
  | .hbm, ⟨33, _⟩ => ⟨S1536x34816, .f32⟩
  | .hbm, ⟨34, _⟩ => ⟨S1536x34816, .f32⟩
  | .hbm, ⟨35, _⟩ => ⟨S1536x4096, .f32⟩
  | .hbm, ⟨36, _⟩ => ⟨S1536x1024, .f32⟩
  | .hbm, ⟨37, _⟩ => ⟨S1536x1024, .f32⟩
  | .hbm, ⟨38, _⟩ => ⟨S1536x14336, .f32⟩
  | .hbm, ⟨39, _⟩ => ⟨S1536x14336, .f32⟩
  | .hbm, ⟨40, _⟩ => ⟨S32x4096, .bf16⟩
  | .hbm, ⟨41, _⟩ => ⟨S32x64x4096, .bf16⟩
  | .hbm, ⟨42, _⟩ => ⟨S2048x4096, .bf16⟩
  | .hbm, ⟨43, _⟩ => ⟨S2048x4096, .i32⟩
  | .hbm, ⟨44, _⟩ => ⟨S_, .i32⟩
  | .hbm, ⟨45, _⟩ => ⟨S2048x4096, .i32⟩
  | .hbm, ⟨46, _⟩ => ⟨S2048x4096, .i32⟩
  | .hbm, ⟨47, _⟩ => ⟨S_, .i32⟩
  | .hbm, ⟨48, _⟩ => ⟨S2048x4096, .i32⟩
  | .hbm, ⟨49, _⟩ => ⟨S2048x4096, .i32⟩
  | .hbm, ⟨50, _⟩ => ⟨S2048x4096, .bf16⟩
  | .hbm, ⟨51, _⟩ => ⟨S2048x4096, .bf16⟩
  | .hbm, ⟨52, _⟩ => ⟨S_, .i32⟩
  | .hbm, ⟨53, _⟩ => ⟨S2048x4096, .i32⟩
  | .hbm, ⟨54, _⟩ => ⟨S2048x4096, .i32⟩
  | .hbm, ⟨55, _⟩ => ⟨S_, .i32⟩
  | .hbm, ⟨56, _⟩ => ⟨S2048x4096, .i32⟩
  | .hbm, ⟨57, _⟩ => ⟨S2048x4096, .i32⟩
  | .hbm, ⟨58, _⟩ => ⟨S2048x4096, .bf16⟩
  | .hbm, ⟨59, _⟩ => ⟨S2048x4096, .bf16⟩
  | .hbm, ⟨60, _⟩ => ⟨S1536x2048, .bf16⟩
  | .hbm, ⟨61, _⟩ => ⟨S1536x4096, .f32⟩
  | .hbm, ⟨62, _⟩ => ⟨S1536x2048, .bf16⟩
  | .hbm, ⟨63, _⟩ => ⟨S1536x4096, .f32⟩
  | .hbm, ⟨64, _⟩ => ⟨S1536x4096, .f32⟩
  | .hbm, ⟨65, _⟩ => ⟨S1536x14336, .f32⟩
  | .hbm, ⟨66, _⟩ => ⟨S1536x14336, .f32⟩
  | .hbm, ⟨67, _⟩ => ⟨S_, .f32⟩
  | .hbm, ⟨68, _⟩ => ⟨S1536x14336, .f32⟩
  | .hbm, ⟨69, _⟩ => ⟨S1536x14336, .f32⟩
  | .hbm, ⟨70, _⟩ => ⟨S_, .f32⟩
  | .hbm, ⟨71, _⟩ => ⟨S1536x14336, .f32⟩
  | .hbm, ⟨72, _⟩ => ⟨S1536x14336, .f32⟩
  | .hbm, ⟨73, _⟩ => ⟨S1536x14336, .f32⟩
  | .hbm, ⟨74, _⟩ => ⟨S1536x14336, .f32⟩
  | .hbm, ⟨75, _⟩ => ⟨S1536x14336, .bf16⟩
  | .hbm, ⟨76, _⟩ => ⟨S112x4096, .bf16⟩
  | .hbm, ⟨77, _⟩ => ⟨S112x64x4096, .bf16⟩
  | .hbm, ⟨78, _⟩ => ⟨S7168x4096, .bf16⟩
  | .hbm, ⟨79, _⟩ => ⟨S7168x4096, .i32⟩
  | .hbm, ⟨80, _⟩ => ⟨S_, .i32⟩
  | .hbm, ⟨81, _⟩ => ⟨S7168x4096, .i32⟩
  | .hbm, ⟨82, _⟩ => ⟨S7168x4096, .i32⟩
  | .hbm, ⟨83, _⟩ => ⟨S_, .i32⟩
  | .hbm, ⟨84, _⟩ => ⟨S7168x4096, .i32⟩
  | .hbm, ⟨85, _⟩ => ⟨S7168x4096, .i32⟩
  | .hbm, ⟨86, _⟩ => ⟨S7168x4096, .bf16⟩
  | .hbm, ⟨87, _⟩ => ⟨S7168x4096, .bf16⟩
  | .hbm, ⟨88, _⟩ => ⟨S_, .i32⟩
  | .hbm, ⟨89, _⟩ => ⟨S7168x4096, .i32⟩
  | .hbm, ⟨90, _⟩ => ⟨S7168x4096, .i32⟩
  | .hbm, ⟨91, _⟩ => ⟨S_, .i32⟩
  | .hbm, ⟨92, _⟩ => ⟨S7168x4096, .i32⟩
  | .hbm, ⟨93, _⟩ => ⟨S7168x4096, .i32⟩
  | .hbm, ⟨94, _⟩ => ⟨S7168x4096, .bf16⟩
  | .hbm, ⟨95, _⟩ => ⟨S7168x4096, .bf16⟩
  | .hbm, ⟨96, _⟩ => ⟨S1536x7168, .bf16⟩
  | .hbm, ⟨97, _⟩ => ⟨S1536x4096, .f32⟩
  | .hbm, ⟨98, _⟩ => ⟨S1536x7168, .bf16⟩
  | .hbm, ⟨99, _⟩ => ⟨S1536x4096, .f32⟩
  | .hbm, ⟨100, _⟩ => ⟨S1536x4096, .f32⟩
  | .hbm, ⟨101, _⟩ => ⟨S1536x4096, .f32⟩
  | .hbm, ⟨102, _⟩ => ⟨S1536x4096, .f32⟩
  | .hbm, ⟨103, _⟩ => ⟨S1536x4096, .bf16⟩
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_7 : Ref sig .tc := ⟨.hbm, 80, rfl⟩
abbrev main_v55 : Ref sig .tc := ⟨.hbm, 81, rfl⟩
abbrev main_v56 : Ref sig .tc := ⟨.hbm, 82, rfl⟩
abbrev main_c_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== KernelQkv.lean ====
abbrev S1536x4096 : Shape := ⟨2, ![1536, 4096]⟩
abbrev S2048x34816 : Shape := ⟨2, ![2048, 34816]⟩
abbrev S32x34816 : Shape := ⟨2, ![32, 34816]⟩
abbrev S1536x64 : Shape := ⟨2, ![1536, 64]⟩
abbrev S8 : Shape := ⟨1, ![8]⟩
abbrev S1536x64x2 : Shape := ⟨3, ![1536, 64, 2]⟩
abbrev S1536x128 : Shape := ⟨2, ![1536, 128]⟩
abbrev S1536x64x1 : Shape := ⟨3, ![1536, 64, 1]⟩
abbrev S1536x1024 : Shape := ⟨2, ![1536, 1024]⟩
abbrev S2048x512 : Shape := ⟨2, ![2048, 512]⟩
abbrev S2048x128 : Shape := ⟨2, ![2048, 128]⟩
abbrev S32x512 : Shape := ⟨2, ![32, 512]⟩
abbrev S32x128 : Shape := ⟨2, ![32, 128]⟩
abbrev S1536x512 : Shape := ⟨2, ![1536, 512]⟩
abbrev S64x128 : Shape := ⟨2, ![64, 128]⟩
abbrev S64x1x128 : Shape := ⟨3, ![64, 1, 128]⟩
abbrev S64x2x128 : Shape := ⟨3, ![64, 2, 128]⟩
abbrev S128x128 : Shape := ⟨2, ![128, 128]⟩
abbrev S1x128 : Shape := ⟨2, ![1, 128]⟩
abbrev S4096x128 : Shape := ⟨2, ![4096, 128]⟩
abbrev S4096x256 : Shape := ⟨2, ![4096, 256]⟩
abbrev S1536x256 : Shape := ⟨2, ![1536, 256]⟩
abbrev S1 : Shape := ⟨1, ![1]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S4096x512 : Shape := ⟨2, ![4096, 512]⟩

abbrev nBuf : Space → Nat
  | .hbm => 17
  | .vmem => 21
  | .smem => 2
  | _ => 0

abbrev bufTy : (tb : Table) → Fin (tcTables nBuf tb) → BufTy
  | .hbm, ⟨0, _⟩ => ⟨S1536x4096, .bf16⟩
  | .hbm, ⟨1, _⟩ => ⟨S2048x34816, .i8⟩
  | .hbm, ⟨2, _⟩ => ⟨S32x34816, .f32⟩
  | .hbm, ⟨3, _⟩ => ⟨S1536x64, .f32⟩
  | .hbm, ⟨4, _⟩ => ⟨S1536x64, .f32⟩
  | .hbm, ⟨5, _⟩ => ⟨S8, .f32⟩
  | .hbm, ⟨6, _⟩ => ⟨S8, .f32⟩
  | .hbm, ⟨7, _⟩ => ⟨S1536x64x2, .f32⟩
  | .hbm, ⟨8, _⟩ => ⟨S1536x128, .f32⟩
  | .hbm, ⟨9, _⟩ => ⟨S1536x64, .f32⟩
  | .hbm, ⟨10, _⟩ => ⟨S1536x64x1, .f32⟩
  | .hbm, ⟨11, _⟩ => ⟨S1536x64x1, .f32⟩
  | .hbm, ⟨12, _⟩ => ⟨S1536x64x2, .f32⟩
  | .hbm, ⟨13, _⟩ => ⟨S1536x128, .f32⟩
  | .hbm, ⟨14, _⟩ => ⟨S1536x4096, .bf16⟩
  | .hbm, ⟨15, _⟩ => ⟨S1536x1024, .fp8e4m3⟩
  | .hbm, ⟨16, _⟩ => ⟨S1536x1024, .fp8e4m3⟩
  | .local _ .vmem, ⟨0, _⟩ => ⟨S1536x4096, .bf16⟩
  | .local _ .vmem, ⟨1, _⟩ => ⟨S2048x512, .i8⟩
  | .local _ .vmem, ⟨2, _⟩ => ⟨S2048x512, .i8⟩
  | .local _ .vmem, ⟨3, _⟩ => ⟨S2048x128, .i8⟩
  | .local _ .vmem, ⟨4, _⟩ => ⟨S2048x128, .i8⟩
  | .local _ .vmem, ⟨5, _⟩ => ⟨S2048x128, .i8⟩
  | .local _ .vmem, ⟨6, _⟩ => ⟨S2048x128, .i8⟩
  | .local _ .vmem, ⟨7, _⟩ => ⟨S32x512, .f32⟩
  | .local _ .vmem, ⟨8, _⟩ => ⟨S32x512, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S1536x128, .f32⟩
  | .local _ .vmem, ⟨14, _⟩ => ⟨S1536x128, .f32⟩
  | .local _ .vmem, ⟨15, _⟩ => ⟨S1536x512, .bf16⟩
  | .local _ .vmem, ⟨16, _⟩ => ⟨S1536x512, .bf16⟩
  | .local _ .vmem, ⟨17, _⟩ => ⟨S1536x128, .fp8e4m3⟩
  | .local _ .vmem, ⟨18, _⟩ => ⟨S1536x128, .fp8e4m3⟩
  | .local _ .vmem, ⟨19, _⟩ => ⟨S1536x128, .fp8e4m3⟩
  | .local _ .vmem, ⟨20, _⟩ => ⟨S1536x128, .fp8e4m3⟩
  | .local _ .smem, ⟨0, _⟩ => ⟨S8, .f32⟩
  | .local _ .smem, ⟨1, _⟩ => ⟨S8, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let v1257 : Index := Scalar.indexCast arg0
  ![v1257.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1536x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceQkvIdeal.lean ====
abbrev S1536x4096 : Shape := ⟨2, ![1536, 4096]⟩
abbrev S2048x34816 : Shape := ⟨2, ![2048, 34816]⟩
abbrev S32x34816 : Shape := ⟨2, ![32, 34816]⟩
abbrev S1536x64 : Shape := ⟨2, ![1536, 64]⟩
abbrev S8 : Shape := ⟨1, ![8]⟩
abbrev S32x64x34816 : Shape := ⟨3, ![32, 64, 34816]⟩
abbrev S_ : Shape := ⟨0, ![]⟩
abbrev S1536x2048 : Shape := ⟨2, ![1536, 2048]⟩
abbrev S1536x34816 : Shape := ⟨2, ![1536, 34816]⟩
abbrev S1536x1024 : Shape := ⟨2, ![1536, 1024]⟩
abbrev S1536x14336 : Shape := ⟨2, ![1536, 14336]⟩
abbrev S1536x32x128 : Shape := ⟨3, ![1536, 32, 128]⟩
abbrev S1536x32x64 : Shape := ⟨3, ![1536, 32, 64]⟩
abbrev S1536x1x64 : Shape := ⟨3, ![1536, 1, 64]⟩
abbrev S1536x32x64x1 : Shape := ⟨4, ![1536, 32, 64, 1]⟩
abbrev S1536x32x64x2 : Shape := ⟨4, ![1536, 32, 64, 2]⟩
abbrev S1536x8x128 : Shape := ⟨3, ![1536, 8, 128]⟩
abbrev S1536x8x64 : Shape := ⟨3, ![1536, 8, 64]⟩
abbrev S1536x8x64x1 : Shape := ⟨4, ![1536, 8, 64, 1]⟩
abbrev S1536x8x64x2 : Shape := ⟨4, ![1536, 8, 64, 2]⟩
abbrev S1x8x1 : Shape := ⟨3, ![1, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S1536x4096, .bf16⟩
  | .hbm, ⟨1, _⟩ => ⟨S2048x34816, .i8⟩
  | .hbm, ⟨2, _⟩ => ⟨S32x34816, .f32⟩
  | .hbm, ⟨3, _⟩ => ⟨S1536x64, .f32⟩
  | .hbm, ⟨4, _⟩ => ⟨S1536x64, .f32⟩
  | .hbm, ⟨5, _⟩ => ⟨S8, .f32⟩
  | .hbm, ⟨6, _⟩ => ⟨S8, .f32⟩
  | .hbm, ⟨7, _⟩ => ⟨S32x34816, .bf16⟩
  | .hbm, ⟨8, _⟩ => ⟨S32x64x34816, .bf16⟩
  | .hbm, ⟨9, _⟩ => ⟨S2048x34816, .bf16⟩
  | .hbm, ⟨10, _⟩ => ⟨S2048x34816, .i32⟩
  | .hbm, ⟨11, _⟩ => ⟨S_, .i32⟩
  | .hbm, ⟨12, _⟩ => ⟨S2048x34816, .i32⟩
  | .hbm, ⟨13, _⟩ => ⟨S2048x34816, .i32⟩
  | .hbm, ⟨14, _⟩ => ⟨S_, .i32⟩
  | .hbm, ⟨15, _⟩ => ⟨S2048x34816, .i32⟩
  | .hbm, ⟨16, _⟩ => ⟨S2048x34816, .i32⟩
  | .hbm, ⟨17, _⟩ => ⟨S2048x34816, .bf16⟩
  | .hbm, ⟨18, _⟩ => ⟨S2048x34816, .bf16⟩
  | .hbm, ⟨19, _⟩ => ⟨S_, .i32⟩
  | .hbm, ⟨20, _⟩ => ⟨S2048x34816, .i32⟩
  | .hbm, ⟨21, _⟩ => ⟨S2048x34816, .i32⟩
  | .hbm, ⟨22, _⟩ => ⟨S_, .i32⟩
  | .hbm, ⟨23, _⟩ => ⟨S2048x34816, .i32⟩
  | .hbm, ⟨24, _⟩ => ⟨S2048x34816, .i32⟩
  | .hbm, ⟨25, _⟩ => ⟨S2048x34816, .bf16⟩
  | .hbm, ⟨26, _⟩ => ⟨S2048x34816, .bf16⟩
  | .hbm, ⟨27, _⟩ => ⟨S1536x2048, .bf16⟩
  | .hbm, ⟨28, _⟩ => ⟨S1536x34816, .f32⟩
  | .hbm, ⟨29, _⟩ => ⟨S1536x2048, .bf16⟩
  | .hbm, ⟨30, _⟩ => ⟨S1536x34816, .f32⟩
  | .hbm, ⟨31, _⟩ => ⟨S1536x34816, .f32⟩
  | .hbm, ⟨32, _⟩ => ⟨S1536x4096, .f32⟩
  | .hbm, ⟨33, _⟩ => ⟨S1536x1024, .f32⟩
  | .hbm, ⟨34, _⟩ => ⟨S1536x1024, .f32⟩
  | .hbm, ⟨35, _⟩ => ⟨S1536x14336, .f32⟩
  | .hbm, ⟨36, _⟩ => ⟨S1536x14336, .f32⟩
  | .hbm, ⟨37, _⟩ => ⟨S1536x32x128, .f32⟩
  | .hbm, ⟨38, _⟩ => ⟨S1536x32x64, .f32⟩
  | .hbm, ⟨39, _⟩ => ⟨S1536x32x64, .f32⟩
  | .hbm, ⟨40, _⟩ => ⟨S1536x1x64, .f32⟩
  | .hbm, ⟨41, _⟩ => ⟨S1536x1x64, .f32⟩
  | .hbm, ⟨42, _⟩ => ⟨S1536x32x64, .f32⟩
  | .hbm, ⟨43, _⟩ => ⟨S1536x32x64, .f32⟩
  | .hbm, ⟨44, _⟩ => ⟨S1536x32x64, .f32⟩
  | .hbm, ⟨45, _⟩ => ⟨S1536x32x64, .f32⟩
  | .hbm, ⟨46, _⟩ => ⟨S1536x32x64, .f32⟩
  | .hbm, ⟨47, _⟩ => ⟨S1536x32x64, .f32⟩
  | .hbm, ⟨48, _⟩ => ⟨S1536x32x64, .f32⟩
  | .hbm, ⟨49, _⟩ => ⟨S1536x32x64, .f32⟩
  | .hbm, ⟨50, _⟩ => ⟨S1536x32x64, .f32⟩
  | .hbm, ⟨51, _⟩ => ⟨S1536x32x64, .f32⟩
  | .hbm, ⟨52, _⟩ => ⟨S1536x32x64x1, .f32⟩
  | .hbm, ⟨53, _⟩ => ⟨S1536x32x64x1, .f32⟩
  | .hbm, ⟨54, _⟩ => ⟨S1536x32x64x2, .f32⟩
  | .hbm, ⟨55, _⟩ => ⟨S1536x32x128, .f32⟩
  | .hbm, ⟨56, _⟩ => ⟨S1536x32x128, .bf16⟩
  | .hbm, ⟨57, _⟩ => ⟨S1536x4096, .bf16⟩
  | .hbm, ⟨58, _⟩ => ⟨S1536x8x128, .f32⟩
  | .hbm, ⟨59, _⟩ => ⟨S1536x8x64, .f32⟩
  | .hbm, ⟨60, _⟩ => ⟨S1536x8x64, .f32⟩
  | .hbm, ⟨61, _⟩ => ⟨S1536x1x64, .f32⟩
  | .hbm, ⟨62, _⟩ => ⟨S1536x1x64, .f32⟩
  | .hbm, ⟨63, _⟩ => ⟨S1536x8x64, .f32⟩
  | .hbm, ⟨64, _⟩ => ⟨S1536x8x64, .f32⟩
  | .hbm, ⟨65, _⟩ => ⟨S1536x8x64, .f32⟩
  | .hbm, ⟨66, _⟩ => ⟨S1536x8x64, .f32⟩
  | .hbm, ⟨67, _⟩ => ⟨S1536x8x64, .f32⟩
  | .hbm, ⟨68, _⟩ => ⟨S1536x8x64, .f32⟩
  | .hbm, ⟨69, _⟩ => ⟨S1536x8x64, .f32⟩
  | .hbm, ⟨70, _⟩ => ⟨S1536x8x64, .f32⟩
  | .hbm, ⟨71, _⟩ => ⟨S1536x8x64, .f32⟩
  | .hbm, ⟨72, _⟩ => ⟨S1536x8x64, .f32⟩
  | .hbm, ⟨73, _⟩ => ⟨S1536x8x64x1, .f32⟩
  | .hbm, ⟨74, _⟩ => ⟨S1536x8x64x1, .f32⟩
  | .hbm, ⟨75, _⟩ => ⟨S1536x8x64x2, .f32⟩
  | .hbm, ⟨76, _⟩ => ⟨S1536x8x128, .f32⟩
  | .hbm, ⟨77, _⟩ => ⟨S1x8x1, .f32⟩
  | .hbm, ⟨78, _⟩ => ⟨S1536x8x128, .f32⟩
  | .hbm, ⟨79, _⟩ => ⟨S1536x8x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1536x8x128, .f32⟩
  | .hbm, ⟨84, _⟩ => ⟨S1536x8x128, .f32⟩
  | .hbm, ⟨85, _⟩ => ⟨S_, .f32⟩
  | .hbm, ⟨86, _⟩ => ⟨S1536x8x128, .f32⟩
  | .hbm, ⟨87, _⟩ => ⟨S1536x8x128, .f32⟩
  | .hbm, ⟨88, _⟩ => ⟨S1536x8x128, .fp8e4m3⟩
  | .hbm, ⟨89, _⟩ => ⟨S1536x8x128, .fp8e4m3⟩
  | .hbm, ⟨90, _⟩ => ⟨S8, .f32⟩
  | .hbm, ⟨91, _⟩ => ⟨S1536x8x128, .f32⟩
  | .hbm, ⟨92, _⟩ => ⟨S1x8x1, .f32⟩
  | .hbm, ⟨93, _⟩ => ⟨S1536x8x128, .f32⟩
  | .hbm, ⟨94, _⟩ => ⟨S1536x8x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1536x8x128, .f32⟩
  | .hbm, ⟨99, _⟩ => ⟨S1536x8x128, .f32⟩
  | .hbm, ⟨100, _⟩ => ⟨S_, .f32⟩
  | .hbm, ⟨101, _⟩ => ⟨S1536x8x128, .f32⟩
  | .hbm, ⟨102, _⟩ => ⟨S1536x8x128, .f32⟩
  | .hbm, ⟨103, _⟩ => ⟨S1536x8x128, .fp8e4m3⟩
  | .hbm, ⟨104, _⟩ => ⟨S1536x8x128, .fp8e4m3⟩
  | .hbm, ⟨105, _⟩ => ⟨S8, .f32⟩
  | .hbm, ⟨106, _⟩ => ⟨S1536x1024, .fp8e4m3⟩
  | .hbm, ⟨107, _⟩ => ⟨S1536x1024, .fp8e4m3⟩
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst : Ref sig .tc := ⟨.hbm, 80, rfl⟩
abbrev main_cst_3 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v69 : Ref sig .tc := ⟨.hbm, 87, rfl⟩
abbrev main_v70 : Ref sig .tc := ⟨.hbm, 88, rfl⟩
abbrev main_v71_0 : Ref sig .tc := ⟨.hbm, 89, rfl⟩
abbrev main_v71_1 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_4 : Ref sig .tc := ⟨.hbm, 95, rfl⟩
abbrev main_cst_5 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v76 : Ref sig .tc := ⟨.hbm, 102, rfl⟩
abbrev main_v77 : Ref sig .tc := ⟨.hbm, 103, rfl⟩
abbrev main_v78_0 : Ref sig .tc := ⟨.hbm, 104, rfl⟩
abbrev main_v78_1 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== KernelLn.lean ====
abbrev S1536x4096 : Shape := ⟨2, ![1536, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S1536x4096, .bf16⟩
  | .hbm, ⟨1, _⟩ => ⟨S4096, .f32⟩
  | .hbm, ⟨2, _⟩ => ⟨S1x4096, .f32⟩
  | .hbm, ⟨3, _⟩ => ⟨S1536x4096, .bf16⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLnIdeal.lean ====
abbrev S1536x4096 : Shape := ⟨2, ![1536, 4096]⟩
abbrev S4096 : Shape := ⟨1, ![4096]⟩
abbrev S_ : Shape := ⟨0, ![]⟩
abbrev S1536 : Shape := ⟨1, ![1536]⟩
abbrev S1536x1 : Shape := ⟨2, ![1536, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S1536x4096, .bf16⟩
  | .hbm, ⟨1, _⟩ => ⟨S4096, .f32⟩
  | .hbm, ⟨2, _⟩ => ⟨S1536x4096, .f32⟩
  | .hbm, ⟨3, _⟩ => ⟨S_, .f32⟩
  | .hbm, ⟨4, _⟩ => ⟨S1536, .f32⟩
  | .hbm, ⟨5, _⟩ => ⟨S1536x1, .f32⟩
  | .hbm, ⟨6, _⟩ => ⟨S_, .f32⟩
  | .hbm, ⟨7, _⟩ => ⟨S1536x1, .f32⟩
  | .hbm, ⟨8, _⟩ => ⟨S1536x1, .f32⟩
  | .hbm, ⟨9, _⟩ => ⟨S1536x4096, .f32⟩
  | .hbm, ⟨10, _⟩ => ⟨S1536x4096, .f32⟩
  | .hbm, ⟨11, _⟩ => ⟨S1536x4096, .f32⟩
  | .hbm, ⟨12, _⟩ => ⟨S_, .f32⟩
  | .hbm, ⟨13, _⟩ => ⟨S1536, .f32⟩
  | .hbm, ⟨14, _⟩ => ⟨S1536x1, .f32⟩
  | .hbm, ⟨15, _⟩ => ⟨S_, .f32⟩
  | .hbm, ⟨16, _⟩ => ⟨S1536x1, .f32⟩
  | .hbm, ⟨17, _⟩ => ⟨S1536x1, .f32⟩
  | .hbm, ⟨18, _⟩ => ⟨S_, .f32⟩
  | .hbm, ⟨19, _⟩ => ⟨S1536x1, .f32⟩
  | .hbm, ⟨20, _⟩ => ⟨S1536x1, .f32⟩
  | .hbm, ⟨21, _⟩ => ⟨S1536x1, .f32⟩
  | .hbm, ⟨22, _⟩ => ⟨S1536x4096, .f32⟩
  | .hbm, ⟨23, _⟩ => ⟨S1536x4096, .f32⟩
  | .hbm, ⟨24, _⟩ => ⟨S1x4096, .f32⟩
  | .hbm, ⟨25, _⟩ => ⟨S1536x4096, .f32⟩
  | .hbm, ⟨26, _⟩ => ⟨S1536x4096, .f32⟩
  | .hbm, ⟨27, _⟩ => ⟨S1536x4096, .bf16⟩
  | _, _ => ⟨S1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelAttn.lean ====
abbrev S1536x4096 : Shape := ⟨2, ![1536, 4096]⟩
abbrev S1536x1024 : Shape := ⟨2, ![1536, 1024]⟩
abbrev S4 : Shape := ⟨1, ![4]⟩
abbrev S8 : Shape := ⟨1, ![8]⟩
abbrev S1536 : Shape := ⟨1, ![1536]⟩
abbrev S1536x1 : Shape := ⟨2, ![1536, 1]⟩
abbrev S3 : Shape := ⟨1, ![3]⟩
abbrev S1x3 : Shape := ⟨2, ![1, 3]⟩
abbrev S1536x3 : Shape := ⟨2, ![1536, 3]⟩
abbrev S_ : Shape := ⟨0, ![]⟩
abbrev S1x1536 : Shape := ⟨2, ![1, 1536]⟩
abbrev S128x512 : Shape := ⟨2, ![128, 512]⟩
abbrev S1536x128 : Shape := ⟨2, ![1536, 128]⟩
abbrev S128x1 : Shape := ⟨2, ![128, 1]⟩
abbrev S512x128 : Shape := ⟨2, ![512, 128]⟩
abbrev S1x128 : Shape := ⟨2, ![1, 128]⟩
abbrev S1x512 : Shape := ⟨2, ![1, 512]⟩
abbrev S1 : Shape := ⟨1, ![1]⟩
abbrev S128x128 : Shape := ⟨2, ![128, 128]⟩
abbrev S128 : Shape := ⟨1, ![128]⟩

abbrev nBuf : Space → Nat
  | .hbm => 20
  | .vmem => 13
  | .smem => 2
  | _ => 0

abbrev bufTy : (tb : Table) → Fin (tcTables nBuf tb) → BufTy
  | .hbm, ⟨0, _⟩ => ⟨S1536x4096, .bf16⟩
  | .hbm, ⟨1, _⟩ => ⟨S1536x1024, .fp8e4m3⟩
  | .hbm, ⟨2, _⟩ => ⟨S1536x1024, .fp8e4m3⟩
  | .hbm, ⟨3, _⟩ => ⟨S4, .i32⟩
  | .hbm, ⟨4, _⟩ => ⟨S8, .f32⟩
  | .hbm, ⟨5, _⟩ => ⟨S8, .f32⟩
  | .hbm, ⟨6, _⟩ => ⟨S1536, .i32⟩
  | .hbm, ⟨7, _⟩ => ⟨S1536x1, .i32⟩
  | .hbm, ⟨8, _⟩ => ⟨S3, .i32⟩
  | .hbm, ⟨9, _⟩ => ⟨S1x3, .i32⟩
  | .hbm, ⟨10, _⟩ => ⟨S1536x3, .i32⟩
  | .hbm, ⟨11, _⟩ => ⟨S1536x3, .i32⟩
  | .hbm, ⟨12, _⟩ => ⟨S1536x3, .i1⟩
  | .hbm, ⟨13, _⟩ => ⟨S1536x3, .i32⟩
  | .hbm, ⟨14, _⟩ => ⟨S_, .i32⟩
  | .hbm, ⟨15, _⟩ => ⟨S1536, .i32⟩
  | .hbm, ⟨16, _⟩ => ⟨S1536x1, .i32⟩
  | .hbm, ⟨17, _⟩ => ⟨S1x1536, .i32⟩
  | .hbm, ⟨18, _⟩ => ⟨S1536x4096, .f32⟩
  | .hbm, ⟨19, _⟩ => ⟨S1536x4096, .bf16⟩
  | .local _ .vmem, ⟨0, _⟩ => ⟨S128x512, .bf16⟩
  | .local _ .vmem, ⟨1, _⟩ => ⟨S128x512, .bf16⟩
  | .local _ .vmem, ⟨2, _⟩ => ⟨S1536x128, .fp8e4m3⟩
  | .local _ .vmem, ⟨3, _⟩ => ⟨S1536x128, .fp8e4m3⟩
  | .local _ .vmem, ⟨4, _⟩ => ⟨S1536x128, .fp8e4m3⟩
  | .local _ .vmem, ⟨5, _⟩ => ⟨S1536x128, .fp8e4m3⟩
  | .local _ .vmem, ⟨6, _⟩ => ⟨S128x1, .i32⟩
  | .local _ .vmem, ⟨7, _⟩ => ⟨S128x1, .i32⟩
  | .local _ .vmem, ⟨8, _⟩ => ⟨S1x1536, .i32⟩
  | .local _ .vmem, ⟨9, _⟩ => ⟨S128x512, .f32⟩
  | .local _ .vmem, ⟨10, _⟩ => ⟨S128x512, .f32⟩
  | .local _ .vmem, ⟨11, _⟩ => ⟨S128x512, .bf16⟩
  | .local _ .vmem, ⟨12, _⟩ => ⟨S128x512, .bf16⟩
  | .local _ .smem, ⟨0, _⟩ => ⟨S8, .f32⟩
  | .local _ .smem, ⟨1, _⟩ => ⟨S8, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c384_i32 : BitVec 32 := 384#32
  let v1 : BitVec 32 := Scalar.subi v0 c384_i32
  let c0_i32 : BitVec 32 := 0#32
  let v2 : BitVec 32 := Scalar.maxsi v1 c0_i32
  v2
def k0_off1 (i : grid0.Coords) : Fin 2 → Nat :=
  let arg1 : BitVec 32 := BitVec.ofNat 32 (i 1).val
  let c128_i32 : BitVec 32 := 128#32
  let v0 : BitVec 32 := Scalar.muli arg1 c128_i32
  let c384_i32 : BitVec 32 := 384#32
  let v1 : BitVec 32 := Scalar.subi v0 c384_i32
  let c0_i32 : BitVec 32 := 0#32
  let v2 : BitVec 32 := Scalar.maxsi v1 c0_i32
  let v3 : BitVec 32 := v2
  let v4 : Index := Scalar.indexCast v3
  let c0 : Index := 0#32
  ![v4.toNat, 0]
def k0_off2 (i : grid0.Coords) (c0_i32_2 : BitVec 32) : Fin 2 → Nat :=
  let c0_3 : Index := 0#32
  let arg1 : BitVec 32 := BitVec.ofNat 32 (i 1).val
  let c128_i32 : BitVec 32 := 128#32
  let v0 : BitVec 32 := Scalar.muli arg1 c128_i32
  let c384_i32 : BitVec 32 := 384#32
  let v1 : BitVec 32 := Scalar.subi v0 c384_i32
  let c0_i32 : BitVec 32 := 0#32
  let v2 : BitVec 32 := Scalar.maxsi v1 c0_i32
  let v3 : BitVec 32 := v2
  let v17 : BitVec 32 := Scalar.addi v3 c0_i32_2
  let v18 : Index := Scalar.indexCast v17
  ![0, v18.toNat]
def k0_off3 (i : grid0.Coords) : Fin 1 → Nat :=
  let arg0 : BitVec 32 := BitVec.ofNat 32 (i 0).val
  let v45 : Index := Scalar.indexCast arg0
  ![v45.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1536x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1536 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAttnIdeal.lean ====
abbrev S1536x4096 : Shape := ⟨2, ![1536, 4096]⟩
abbrev S1536x1024 : Shape := ⟨2, ![1536, 1024]⟩
abbrev S4 : Shape := ⟨1, ![4]⟩
abbrev S8 : Shape := ⟨1, ![8]⟩
abbrev S1536x8x128 : Shape := ⟨3, ![1536, 8, 128]⟩
abbrev S1536x8x4x128 : Shape := ⟨4, ![1536, 8, 4, 128]⟩
abbrev S1536 : Shape := ⟨1, ![1536]⟩
abbrev S1536x1 : Shape := ⟨2, ![1536, 1]⟩
abbrev S3 : Shape := ⟨1, ![3]⟩
abbrev S1x3 : Shape := ⟨2, ![1, 3]⟩
abbrev S1536x3 : Shape := ⟨2, ![1536, 3]⟩
abbrev S_ : Shape := ⟨0, ![]⟩
abbrev S1x1536 : Shape := ⟨2, ![1, 1536]⟩
abbrev S1536x1536 : Shape := ⟨2, ![1536, 1536]⟩
abbrev S8x1x1x1 : Shape := ⟨4, ![8, 1, 1, 1]⟩
abbrev S8x1536x1536x4 : Shape := ⟨4, ![8, 1536, 1536, 4]⟩
abbrev S8x4x1536x1536 : Shape := ⟨4, ![8, 4, 1536, 1536]⟩
abbrev S8x4x1536 : Shape := ⟨3, ![8, 4, 1536]⟩
abbrev S8x4x1536x1 : Shape := ⟨4, ![8, 4, 1536, 1]⟩
abbrev S8x128x4x1536 : Shape := ⟨4, ![8, 128, 4, 1536]⟩
abbrev S1536x8x4 : Shape := ⟨3, ![1536, 8, 4]⟩
abbrev S1536x8x4x1 : Shape := ⟨4, ![1536, 8, 4, 1]⟩

abbrev nBuf : Space → Nat
  | .hbm => 80
  | .vmem => 4
  | .smem => 0
  | _ => 0

abbrev bufTy : (tb : Table) → Fin (tcTables nBuf tb) → BufTy
  | .hbm, ⟨0, _⟩ => ⟨S1536x4096, .bf16⟩
  | .hbm, ⟨1, _⟩ => ⟨S1536x1024, .fp8e4m3⟩
  | .hbm, ⟨2, _⟩ => ⟨S1536x1024, .fp8e4m3⟩
  | .hbm, ⟨3, _⟩ => ⟨S4, .i32⟩
  | .hbm, ⟨4, _⟩ => ⟨S8, .f32⟩
  | .hbm, ⟨5, _⟩ => ⟨S8, .f32⟩
  | .hbm, ⟨6, _⟩ => ⟨S1536x1024, .bf16⟩
  | .hbm, ⟨7, _⟩ => ⟨S1536x1024, .bf16⟩
  | .hbm, ⟨8, _⟩ => ⟨S1536x8x128, .bf16⟩
  | .hbm, ⟨9, _⟩ => ⟨S1536x8x128, .bf16⟩
  | .hbm, ⟨10, _⟩ => ⟨S1536x8x4x128, .bf16⟩
  | .hbm, ⟨11, _⟩ => ⟨S1536, .i32⟩
  | .hbm, ⟨12, _⟩ => ⟨S1536x1, .i32⟩
  | .hbm, ⟨13, _⟩ => ⟨S3, .i32⟩
  | .hbm, ⟨14, _⟩ => ⟨S1x3, .i32⟩
  | .hbm, ⟨15, _⟩ => ⟨S1536x3, .i32⟩
  | .hbm, ⟨16, _⟩ => ⟨S1536x3, .i32⟩
  | .hbm, ⟨17, _⟩ => ⟨S1536x3, .i1⟩
  | .hbm, ⟨18, _⟩ => ⟨S1536x3, .i32⟩
  | .hbm, ⟨19, _⟩ => ⟨S_, .i32⟩
  | .hbm, ⟨20, _⟩ => ⟨S1536, .i32⟩
  | .hbm, ⟨21, _⟩ => ⟨S1536, .i32⟩
  | .hbm, ⟨22, _⟩ => ⟨S1536x1, .i32⟩
  | .hbm, ⟨23, _⟩ => ⟨S1536, .i32⟩
  | .hbm, ⟨24, _⟩ => ⟨S1x1536, .i32⟩
  | .hbm, ⟨25, _⟩ => ⟨S1536x1, .i32⟩
  | .hbm, ⟨26, _⟩ => ⟨S1x1536, .i32⟩
  | .hbm, ⟨27, _⟩ => ⟨S1536x1536, .i32⟩
  | .hbm, ⟨28, _⟩ => ⟨S1536x1536, .i32⟩
  | .hbm, ⟨29, _⟩ => ⟨S1536x1536, .i1⟩
  | .hbm, ⟨30, _⟩ => ⟨S1536x1536, .i32⟩
  | .hbm, ⟨31, _⟩ => ⟨S1536x1536, .i32⟩
  | .hbm, ⟨32, _⟩ => ⟨S1536x1536, .i1⟩
  | .hbm, ⟨33, _⟩ => ⟨S1536x1536, .i1⟩
  | .hbm, ⟨34, _⟩ => ⟨S1536x1536, .i32⟩
  | .hbm, ⟨35, _⟩ => ⟨S1536x1536, .i32⟩
  | .hbm, ⟨36, _⟩ => ⟨S1536x1536, .i32⟩
  | .hbm, ⟨37, _⟩ => ⟨S_, .i32⟩
  | .hbm, ⟨38, _⟩ => ⟨S1536x1536, .i32⟩
  | .hbm, ⟨39, _⟩ => ⟨S1536x1536, .i1⟩
  | .hbm, ⟨40, _⟩ => ⟨S1536x1536, .i1⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8x1x1x1, .f32⟩
  | .hbm, ⟨45, _⟩ => ⟨S8x1x1x1, .f32⟩
  | .hbm, ⟨46, _⟩ => ⟨S8x1536x1536x4, .f32⟩
  | .hbm, ⟨47, _⟩ => ⟨S8x4x1536x1536, .f32⟩
  | .hbm, ⟨48, _⟩ => ⟨S8x4x1536x1536, .f32⟩
  | .hbm, ⟨49, _⟩ => ⟨S8x4x1536x1536, .f32⟩
  | .hbm, ⟨50, _⟩ => ⟨S_, .f32⟩
  | .hbm, ⟨51, _⟩ => ⟨S8x4x1536x1536, .f32⟩
  | .hbm, ⟨52, _⟩ => ⟨S8x4x1536x1536, .f32⟩
  | .hbm, ⟨53, _⟩ => ⟨S_, .f32⟩
  | .hbm, ⟨54, _⟩ => ⟨S_, .f32⟩
  | .hbm, ⟨55, _⟩ => ⟨S8x4x1536x1536, .i1⟩
  | .hbm, ⟨56, _⟩ => ⟨S8x4x1536x1536, .f32⟩
  | .hbm, ⟨57, _⟩ => ⟨S8x4x1536x1536, .f32⟩
  | .hbm, ⟨58, _⟩ => ⟨S_, .f32⟩
  | .hbm, ⟨59, _⟩ => ⟨S8x4x1536, .f32⟩
  | .hbm, ⟨60, _⟩ => ⟨S8x4x1536x1, .f32⟩
  | .hbm, ⟨61, _⟩ => ⟨S8x4x1536x1, .f32⟩
  | .hbm, ⟨62, _⟩ => ⟨S_, .f32⟩
  | .hbm, ⟨63, _⟩ => ⟨S8x4x1536x1536, .f32⟩
  | .hbm, ⟨64, _⟩ => ⟨S8x4x1536x1536, .f32⟩
  | .hbm, ⟨65, _⟩ => ⟨S8x4x1536x1536, .f32⟩
  | .hbm, ⟨66, _⟩ => ⟨S8x4x1536x1536, .f32⟩
  | .hbm, ⟨67, _⟩ => ⟨S_, .f32⟩
  | .hbm, ⟨68, _⟩ => ⟨S8x4x1536, .f32⟩
  | .hbm, ⟨69, _⟩ => ⟨S8x4x1536x1536, .f32⟩
  | .hbm, ⟨70, _⟩ => ⟨S8x4x1536x1536, .f32⟩
  | .hbm, ⟨71, _⟩ => ⟨S8x4x1536x1536, .bf16⟩
  | .hbm, ⟨72, _⟩ => ⟨S8x128x4x1536, .f32⟩
  | .hbm, ⟨73, _⟩ => ⟨S1536x8x4x128, .f32⟩
  | .hbm, ⟨74, _⟩ => ⟨S1536x8x4, .f32⟩
  | .hbm, ⟨75, _⟩ => ⟨S1536x8x4x1, .f32⟩
  | .hbm, ⟨76, _⟩ => ⟨S1536x8x4x128, .f32⟩
  | .hbm, ⟨77, _⟩ => ⟨S1536x8x4x128, .f32⟩
  | .hbm, ⟨78, _⟩ => ⟨S1536x4096, .f32⟩
  | .hbm, ⟨79, _⟩ => ⟨S1536x4096, .bf16⟩
  | .local _ .vmem, ⟨0, _⟩ => ⟨S1536x1024, .fp8e4m3⟩
  | .local _ .vmem, ⟨1, _⟩ => ⟨S1536x1024, .fp8e4m3⟩
  | .local _ .vmem, ⟨2, _⟩ => ⟨S1536x1024, .bf16⟩
  | .local _ .vmem, ⟨3, _⟩ => ⟨S1536x1024, .bf16⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_1 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Steps.lean ====
module

public import proofs.«01_k».proof.Proof.Gen.KernelIdeal.Frame
public import Idealize.ShloMosaic.Lib.Pipeline.Value
public import Idealize.ShloMosaic.Lib.Tactic

@[expose] public section

set_option maxRecDepth 16384

/-!
  What the kernel's body leaves in its accumulator at one grid point, written as whole-array operations.

  `pc256`, `pc4096`: one group of 128 weight rows, from 64 rows of packed bytes and one row of scales.
  `W256`, `W4096x4`, `W4096x2`: the groups of a block of weights, stacked.
  `attnStep`, `mlpStep`: the accumulator after a point of the first eight, and of the other fifty-six.
-/

noncomputable section

namespace Cert.KernelIdeal.Val

open Cert.KernelIdeal Cert.KernelIdeal.Gen
open Idealize.ShloMosaic Idealize.ShloMosaic.TcCoe Idealize.ShloMosaic.Tactic

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- 64 rows of packed bytes unpacked to 128 rows of 4-bit integers: the low halves of a row, then its high halves. -/
def nib256 (b : Vec F S64x256 .i8) : IVec S128x256 4 :=
  trunci 4 (shapeCast S128x256 (concatenate S64x2x256 1
    [⟨S64x1x256, shapeCast S64x1x256 (shrsi (shli (extui 32 b natLt_8_32) (broadcast S64x256 28#32)) (broadcast S64x256 28#32)) shapeCasts_S64x256_S64x1x256⟩,
     ⟨S64x1x256, shapeCast S64x1x256 (shrsi (shli (extui 32 b natLt_8_32) (broadcast S64x256 24#32)) (broadcast S64x256 28#32)) shapeCasts_S64x256_S64x1x256⟩]
    concatenates_S64x1x256_S64x1x256_S64x2x256_d1) shapeCasts_S64x2x256_S128x256) natLt_4_32

/-- One group of 128 weight rows: the unpacked integers times their column's scale. -/
def pc256 (b : Vec F S64x256 .i8) (s : FVec F S1x256 .bf16) : FVec F S128x256 .bf16 :=
  mulf (sitofp .bf16 (nib256 (F := F) b)) (broadcastTo S128x256 s broadcasts_S1x256_S128x256)

/-- 64 rows of packed bytes unpacked to 128 rows of 4-bit integers: the low halves of a row, then its high halves. -/
def nib4096 (b : Vec F S64x4096 .i8) : IVec S128x4096 4 :=
  trunci 4 (shapeCast S128x4096 (concatenate S64x2x4096 1
    [⟨S64x1x4096, shapeCast S64x1x4096 (shrsi (shli (extui 32 b natLt_8_32) (broadcast S64x4096 28#32)) (broadcast S64x4096 28#32)) shapeCasts_S64x4096_S64x1x4096⟩,
     ⟨S64x1x4096, shapeCast S64x1x4096 (shrsi (shli (extui 32 b natLt_8_32) (broadcast S64x4096 24#32)) (broadcast S64x4096 28#32)) shapeCasts_S64x4096_S64x1x4096⟩]
    concatenates_S64x1x4096_S64x1x4096_S64x2x4096_d1) shapeCasts_S64x2x4096_S128x4096) natLt_4_32

/-- One group of 128 weight rows: the unpacked integers times their column's scale. -/
def pc4096 (b : Vec F S64x4096 .i8) (s : FVec F S1x4096 .bf16) : FVec F S128x4096 .bf16 :=
  mulf (sitofp .bf16 (nib4096 (F := F) b)) (broadcastTo S128x4096 s broadcasts_S1x4096_S128x4096)

theorem slices256 (g : Fin 32) : S2048x256.Slices ![64 * g.val, 0] S64x256 :=
  ⟨rfl, fun a => by match a with | ⟨0, _⟩ => (show 64 * g.val + 64 ≤ 2048; omega) | ⟨1, _⟩ => (show 0 + 256 ≤ 256; omega)⟩
theorem slicesS256 (g : Fin 32) : S32x256.Slices ![g.val, 0] S1x256 :=
  ⟨rfl, fun a => by match a with | ⟨0, _⟩ => (show g.val + 1 ≤ 32; omega) | ⟨1, _⟩ => (show 0 + 256 ≤ 256; omega)⟩

/-- A 4096 × 256 block of weights: 32 groups of 128 rows. -/
def W256 (b : Vec F S2048x256 .i8) (s : FVec F S32x256 .bf16) : FVec F S4096x256 .bf16 :=
  concatenate S4096x256 0
    (List.ofFn fun g : Fin 32 => (⟨S128x256, pc256 (extractStridedSlice S64x256 ![64 * g.val, 0] b (slices256 g))
      (extractStridedSlice S1x256 ![g.val, 0] s (slicesS256 g))⟩ : (s : Shape) × (s.Idx → F .bf16)))
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S4096x256_d0

theorem slicesW4 (g : Fin 4) : S256x4096.Slices ![64 * g.val, 0] S64x4096 :=
  ⟨rfl, fun a => by match a with | ⟨0, _⟩ => (show 64 * g.val + 64 ≤ 256; omega) | ⟨1, _⟩ => (show 0 + 4096 ≤ 4096; omega)⟩
theorem slicesSW4 (g : Fin 4) : S4x4096.Slices ![g.val, 0] S1x4096 :=
  ⟨rfl, fun a => by match a with | ⟨0, _⟩ => (show g.val + 1 ≤ 4; omega) | ⟨1, _⟩ => (show 0 + 4096 ≤ 4096; omega)⟩

/-- A 512 × 4096 block of weights: 4 groups of 128 rows. -/
def W4096x4 (b : Vec F S256x4096 .i8) (s : FVec F S4x4096 .bf16) : FVec F S512x4096 .bf16 :=
  concatenate S512x4096 0
    (List.ofFn fun g : Fin 4 => (⟨S128x4096, pc4096 (extractStridedSlice S64x4096 ![64 * g.val, 0] b (slicesW4 g))
      (extractStridedSlice S1x4096 ![g.val, 0] s (slicesSW4 g))⟩ : (s : Shape) × (s.Idx → F .bf16)))
    concatenates_S128x4096_S128x4096_S128x4096_S128x4096_S512x4096_d0

theorem slicesW2 (g : Fin 2) : S128x4096.Slices ![64 * g.val, 0] S64x4096 :=
  ⟨rfl, fun a => by match a with | ⟨0, _⟩ => (show 64 * g.val + 64 ≤ 128; omega) | ⟨1, _⟩ => (show 0 + 4096 ≤ 4096; omega)⟩
theorem slicesSW2 (g : Fin 2) : S2x4096.Slices ![g.val, 0] S1x4096 :=
  ⟨rfl, fun a => by match a with | ⟨0, _⟩ => (show g.val + 1 ≤ 2; omega) | ⟨1, _⟩ => (show 0 + 4096 ≤ 4096; omega)⟩

/-- A 256 × 4096 block of weights: 2 groups of 128 rows. -/
def W4096x2 (b : Vec F S128x4096 .i8) (s : FVec F S2x4096 .bf16) : FVec F S256x4096 .bf16 :=
  concatenate S256x4096 0
    (List.ofFn fun g : Fin 2 => (⟨S128x4096, pc4096 (extractStridedSlice S64x4096 ![64 * g.val, 0] b (slicesW2 g))
      (extractStridedSlice S1x4096 ![g.val, 0] s (slicesSW2 g))⟩ : (s : Shape) × (s.Idx → F .bf16)))
    concatenates_S128x4096_S128x4096_S256x4096_d0

/-- The accumulator after a point of the attention's output projection: one block of 512 columns times the block of
    weights of those 512 rows is added. -/
def attnStep (acc : Vec F S1536x4096 .f32) (x7 : Vec F S1536x512 .bf16) (x8 : Vec F S256x4096 .i8) (x9 : Vec F S1x4x4096 .f32) :
    Vec F S1536x4096 .f32 :=
  addf acc (matmul dot_S1536x512_S512x4096_S1536x4096_1_0_0_1_n_n none x7
    (W4096x4 x8 (truncf .bf16 (shapeCast S4x4096 x9 shapeCasts_S1x4x4096_S4x4096) bitsLt_bf16_f32)) (constant S1536x4096 .f32 0x00000000#32))

/-- 256 columns of a projection of the normalised activations. -/
def proj (x0 : Vec F S1536x4096 .bf16) (b : Vec F S2048x256 .i8) (s : Vec F S32x256 .f32) : FVec F S1536x256 .f32 :=
  matmul dot_S1536x4096_S4096x256_S1536x256_1_0_0_1_n_n none x0
    (W256 b (truncf .bf16 s bitsLt_bf16_f32)) (constant S1536x256 .f32 0x00000000#32)

/-- 256 columns of the gated hidden activations. -/
def hid (x0 : Vec F S1536x4096 .bf16) (x1 x2 : Vec F S2048x256 .i8) (x4 x5 : Vec F S32x256 .f32) : FVec F S1536x256 .bf16 :=
  truncf .bf16 (mulf (mulf (proj x0 x1 x4) (logistic (proj x0 x1 x4))) (proj x0 x2 x5)) bitsLt_bf16_f32

/-- The accumulator after a point of the gated layer: 256 hidden columns times the block of weights of those 256 rows is
    added. -/
def mlpStep (acc : Vec F S1536x4096 .f32) (x0 : Vec F S1536x4096 .bf16) (x1 x2 : Vec F S2048x256 .i8) (x3 : Vec F S128x4096 .i8)
    (x4 x5 : Vec F S32x256 .f32) (x6 : Vec F S1x2x4096 .f32) : Vec F S1536x4096 .f32 :=
  addf acc (matmul dot_S1536x256_S256x4096_S1536x4096_1_0_0_1_n_n none (hid x0 x1 x2 x4 x5)
    (W4096x2 x3 (truncf .bf16 (shapeCast S2x4096 x6 shapeCasts_S1x2x4096_S2x4096) bitsLt_bf16_f32)) (constant S1536x4096 .f32 0x00000000#32))

set_option maxHeartbeats 1000000 in
/-- A point of the attention's output projection after the first leaves the accumulator plus its product. -/
theorem sout_B (c : Dev nD) (i : grid0.Coords) (arg2 : Memref sig .tc .vmem S1536x4096 .bf16) (harg2 : arg2.IsWhole) (arg3 : Memref sig .tc .vmem S2048x256 .i8) (harg3 : arg3.IsWhole) (arg4 : Memref sig .tc .vmem S2048x256 .i8) (harg4 : arg4.IsWhole) (arg5 : Memref sig .tc .vmem S128x4096 .i8) (harg5 : arg5.IsWhole) (arg6 : Memref sig .tc .vmem S32x256 .f32) (harg6 : arg6.IsWhole) (arg7 : Memref sig .tc .vmem S32x256 .f32) (harg7 : arg7.IsWhole) (arg8 : Memref sig .tc .vmem S1x2x4096 .f32) (harg8 : arg8.IsWhole) (arg9 : Memref sig .tc .vmem S1536x512 .bf16) (harg9 : arg9.IsWhole) (arg10 : Memref sig .tc .vmem S256x4096 .i8) (harg10 : arg10.IsWhole) (arg11 : Memref sig .tc .vmem S1x4x4096 .f32) (harg11 : arg11.IsWhole) (arg13 : Memref sig .tc .vmem S1536x4096 .f32) (harg13 : arg13.IsWhole) (arg14 : Memref sig .tc .vmem S64x4096 .bf16) (harg14 : arg14.IsWhole) (hc0 : ¬cond0_0 i) (hc1 : cond0_1 i) (hc2 : ¬cond0_2 i) (hc3 : ¬cond0_3 i)
    (x0 : Vec F S1536x4096 .bf16) (x1 : Vec F S2048x256 .i8) (x2 : Vec F S2048x256 .i8) (x3 : Vec F S128x4096 .i8) (x4 : Vec F S32x256 .f32) (x5 : Vec F S32x256 .f32) (x6 : Vec F S1x2x4096 .f32) (x7 : Vec F S1536x512 .bf16) (x8 : Vec F S256x4096 .i8) (x9 : Vec F S1x4x4096 .f32) (xs0 : Vec F S1536x4096 .f32) (fh0 : HbBuf0 (F := F) c hbM0_0) :
    sout0_B_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 xs0 fh0 = attnStep xs0 x7 x8 x9 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 xs0 fh0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S1536x4096) hz, View.ld_unit_zero (S := S2048x256) hz, View.ld_unit_zero (S := S128x4096) hz, View.ld_unit_zero (S := S32x256) hz, View.ld_unit_zero (S := S1x2x4096) hz3, View.ld_unit_zero (S := S1536x512) hz, View.ld_unit_zero (S := S256x4096) hz, View.ld_unit_zero (S := S1x4x4096) hz3]
  exact shapeCast_self ..

set_option maxHeartbeats 1000000 in
/-- A point of the gated layer leaves the accumulator plus its product. -/
theorem sout_C (c : Dev nD) (i : grid0.Coords) (arg2 : Memref sig .tc .vmem S1536x4096 .bf16) (harg2 : arg2.IsWhole) (arg3 : Memref sig .tc .vmem S2048x256 .i8) (harg3 : arg3.IsWhole) (arg4 : Memref sig .tc .vmem S2048x256 .i8) (harg4 : arg4.IsWhole) (arg5 : Memref sig .tc .vmem S128x4096 .i8) (harg5 : arg5.IsWhole) (arg6 : Memref sig .tc .vmem S32x256 .f32) (harg6 : arg6.IsWhole) (arg7 : Memref sig .tc .vmem S32x256 .f32) (harg7 : arg7.IsWhole) (arg8 : Memref sig .tc .vmem S1x2x4096 .f32) (harg8 : arg8.IsWhole) (arg9 : Memref sig .tc .vmem S1536x512 .bf16) (harg9 : arg9.IsWhole) (arg10 : Memref sig .tc .vmem S256x4096 .i8) (harg10 : arg10.IsWhole) (arg11 : Memref sig .tc .vmem S1x4x4096 .f32) (harg11 : arg11.IsWhole) (arg13 : Memref sig .tc .vmem S1536x4096 .f32) (harg13 : arg13.IsWhole) (arg14 : Memref sig .tc .vmem S64x4096 .bf16) (harg14 : arg14.IsWhole) (hc0 : ¬cond0_0 i) (hc1 : ¬cond0_1 i) (hc2 : cond0_2 i) (hc3 : ¬cond0_3 i)
    (x0 : Vec F S1536x4096 .bf16) (x1 : Vec F S2048x256 .i8) (x2 : Vec F S2048x256 .i8) (x3 : Vec F S128x4096 .i8) (x4 : Vec F S32x256 .f32) (x5 : Vec F S32x256 .f32) (x6 : Vec F S1x2x4096 .f32) (x7 : Vec F S1536x512 .bf16) (x8 : Vec F S256x4096 .i8) (x9 : Vec F S1x4x4096 .f32) (xs0 : Vec F S1536x4096 .f32) (fh0 : HbBuf0 (F := F) c hbM0_0) :
    sout0_C_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 xs0 fh0 = mlpStep xs0 x0 x1 x2 x3 x4 x5 x6 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 xs0 fh0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S1536x4096) hz, View.ld_unit_zero (S := S2048x256) hz, View.ld_unit_zero (S := S128x4096) hz, View.ld_unit_zero (S := S32x256) hz, View.ld_unit_zero (S := S1x2x4096) hz3, View.ld_unit_zero (S := S1536x512) hz, View.ld_unit_zero (S := S256x4096) hz, View.ld_unit_zero (S := S1x4x4096) hz3]
  exact shapeCast_self ..

end Cert.KernelIdeal.Val
-- ==== Proof.StepA.lean ====
module

public import proofs.«01_k».proof.Proof.Steps
public import Idealize.ShloMosaic.Lib.Pipeline.Value
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable {F : FTy → Type} [FloatOps F]

/-- A load of the whole copy buffer after a copy into the whole of it reads what was copied. -/
theorem readCov_whole {S : Shape} {e : EltTy} {sp : Space} (v : View sig .tc sp S e) {off : Fin S.rank → Nat} (h : off = fun _ => 0)
    (inb : ∀ a, off a + S.size a ≤ S.size a) (w : (Rect.whole S).shape.Idx → Elt F e) (L : List (View.Piece (Elt F) S e)) :
    v.readCov (Val := Elt F) (⟨Rect.whole S, w⟩ :: L) (Rect.unit off S.size inb).toLoadRect = w := by
  subst h
  rw [View.readCov_eq_canon']
  funext j
  exact View.canon_cons_emb (Rect.whole S) w L j

/-- A load of the whole of an array after stores that cover it and all agree with `G` reads `G`. -/
theorem readCov_pieces {S : Shape} {e : EltTy} {sp : Space} (v : View sig .tc sp S e) {off : Fin S.rank → Nat} (h : off = fun _ => 0)
    (inb : ∀ a, off a + S.size a ≤ S.size a) (G : S.Idx → Elt F e) (L : List (View.Piece (Elt F) S e))
    (hL : ∀ p ∈ L, ∀ x : p.1.shape.Idx, p.2 x = G (p.1.emb x)) (hc : ∀ y, ∃ p ∈ L, y ∈ p.1.set) :
    v.readCov (Val := Elt F) L (Rect.unit off S.size inb).toLoadRect = G := by
  subst h
  rw [View.readCov_eq_canon']
  funext j
  have e : (Rect.unit (fun _ => 0) S.size inb).toLoadRect.idx j = j := Rect.emb_whole_apply S j
  rw [e]
  exact View.canon_apply_of_pieces G L hL j (hc j)

set_option maxHeartbeats 1000000 in
/-- The first point copies `x` into the accumulator, then adds its product. -/
theorem sout_A (c : Dev nD) (i : grid0.Coords) (arg2 : Memref sig .tc .vmem S1536x4096 .bf16) (harg2 : arg2.IsWhole) (arg3 : Memref sig .tc .vmem S2048x256 .i8) (harg3 : arg3.IsWhole) (arg4 : Memref sig .tc .vmem S2048x256 .i8) (harg4 : arg4.IsWhole) (arg5 : Memref sig .tc .vmem S128x4096 .i8) (harg5 : arg5.IsWhole) (arg6 : Memref sig .tc .vmem S32x256 .f32) (harg6 : arg6.IsWhole) (arg7 : Memref sig .tc .vmem S32x256 .f32) (harg7 : arg7.IsWhole) (arg8 : Memref sig .tc .vmem S1x2x4096 .f32) (harg8 : arg8.IsWhole) (arg9 : Memref sig .tc .vmem S1536x512 .bf16) (harg9 : arg9.IsWhole) (arg10 : Memref sig .tc .vmem S256x4096 .i8) (harg10 : arg10.IsWhole) (arg11 : Memref sig .tc .vmem S1x4x4096 .f32) (harg11 : arg11.IsWhole) (arg13 : Memref sig .tc .vmem S1536x4096 .f32) (harg13 : arg13.IsWhole) (arg14 : Memref sig .tc .vmem S64x4096 .bf16) (harg14 : arg14.IsWhole) (hc0 : cond0_0 i) (hc1 : cond0_1 i) (hc2 : ¬cond0_2 i) (hc3 : ¬cond0_3 i)
    (x0 : Vec F S1536x4096 .bf16) (x1 : Vec F S2048x256 .i8) (x2 : Vec F S2048x256 .i8) (x3 : Vec F S128x4096 .i8) (x4 : Vec F S32x256 .f32) (x5 : Vec F S32x256 .f32) (x6 : Vec F S1x2x4096 .f32) (x7 : Vec F S1536x512 .bf16) (x8 : Vec F S256x4096 .i8) (x9 : Vec F S1x4x4096 .f32) (fh0 : HbBuf0 (F := F) c hbM0_0) :
    sout0_A_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 fh0 = attnStep (extf .f32 (hbM0_0.view.read (Elt F) fh0) bitsLt_bf16_f32) x7 x8 x9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 fh0)]
  unfold kernelRun0_A
  dsimp only
  sl_unfold_words
  rw [View.canon_cons_unit_zero (S := S1536x4096) hz]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S1536x4096) hz, View.ld_unit_zero (S := S2048x256) hz, View.ld_unit_zero (S := S128x4096) hz, View.ld_unit_zero (S := S32x256) hz, View.ld_unit_zero (S := S1x2x4096) hz3, View.ld_unit_zero (S := S1536x512) hz, View.ld_unit_zero (S := S256x4096) hz, View.ld_unit_zero (S := S1x4x4096) hz3, readCov_whole (S := S64x4096) _ hz]
  rw [readCov_pieces (S := S1536x4096) arg13.view hz _ (extf .f32 (hbM0_0.view.read (Elt F) fh0) bitsLt_bf16_f32)]
  · exact shapeCast_self ..
  · simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, shapeCast_self]
    simp only [List.forall_mem_cons, List.not_mem_nil, false_implies, implies_true, and_true]
    refine ⟨?_, ?_, ?_, ?_, ?_, ?_, ?_, ?_, ?_, ?_, ?_, ?_, ?_, ?_, ?_, ?_, ?_, ?_, ?_, ?_, ?_, ?_, ?_, ?_⟩ <;> (intro x; rfl)
  · exact View.cover_of_tiledL _ ![64, 4096] (by sl_kernel_rfl)

end Cert.KernelIdeal.Val
-- ==== Proof.RunD.lean ====
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Val

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large)
set_option maxHeartbeats 1168000 in
/-- The body's run at the last point, with the result's array named: on whole staging buffers holding `x0 … x9` and an
    accumulator holding `xs0` the body runs to its end, and the result's array ends at `G e f`, a function found by the
    run of what the copy buffer (`e`) and the result's array (`f`) held before.  Everything else is as in
    `Gen.kernelRun0_D`. -/
noncomputable def kernelRunD (c : Dev nD) (i : grid0.Coords) (arg2 : Memref sig .tc .vmem S1536x4096 .bf16) (harg2 : arg2.IsWhole) (arg3 : Memref sig .tc .vmem S2048x256 .i8) (harg3 : arg3.IsWhole) (arg4 : Memref sig .tc .vmem S2048x256 .i8) (harg4 : arg4.IsWhole) (arg5 : Memref sig .tc .vmem S128x4096 .i8) (harg5 : arg5.IsWhole) (arg6 : Memref sig .tc .vmem S32x256 .f32) (harg6 : arg6.IsWhole) (arg7 : Memref sig .tc .vmem S32x256 .f32) (harg7 : arg7.IsWhole) (arg8 : Memref sig .tc .vmem S1x2x4096 .f32) (harg8 : arg8.IsWhole) (arg9 : Memref sig .tc .vmem S1536x512 .bf16) (harg9 : arg9.IsWhole) (arg10 : Memref sig .tc .vmem S256x4096 .i8) (harg10 : arg10.IsWhole) (arg11 : Memref sig .tc .vmem S1x4x4096 .f32) (harg11 : arg11.IsWhole) (arg13 : Memref sig .tc .vmem S1536x4096 .f32) (harg13 : arg13.IsWhole) (arg14 : Memref sig .tc .vmem S64x4096 .bf16) (harg14 : arg14.IsWhole) (hc0 : ¬cond0_0 i) (hc1 : ¬cond0_1 i) (hc2 : cond0_2 i) (hc3 : cond0_3 i)
    (x0 : Vec F S1536x4096 .bf16) (x1 : Vec F S2048x256 .i8) (x2 : Vec F S2048x256 .i8) (x3 : Vec F S128x4096 .i8) (x4 : Vec F S32x256 .f32) (x5 : Vec F S32x256 .f32) (x6 : Vec F S1x2x4096 .f32) (x7 : Vec F S1536x512 .bf16) (x8 : Vec F S256x4096 .i8) (x9 : Vec F S1x4x4096 .f32) (xs0 : Vec F S1536x4096 .f32) (fh0 : HbBuf0 (F := F) c hbM0_0) :
    { G : Vec F S64x4096 .bf16 → HbBuf0 (F := F) c hbM0_1 → HbBuf0 (F := F) c hbM0_1 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare xs0 ∗ (∃ d, owns (c : Thread nD τ) arg14 fullShare d) ∗ semVal ((c : Thread nD τ), SemLoc.dma 19) 0 ∗ hbPt0 c hbM0_0 fh0 ∗ (∃ f, hbPt0 c hbM0_1 f) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg13 fullShare d) ∗ (∃ d, owns (c : Thread nD τ) arg14 fullShare d) ∗ semVal ((c : Thread nD τ), SemLoc.dma 19) 0 ∗ hbPt0 c hbM0_0 fh0 ∗ (∃ e f, hbPt0 c hbM0_1 (G e f)) ∗ (∃ W', owes (c : Thread nD τ) 0 W')) -∗ K ⟨⟩))
          ⊢ wp frame (wpE (defs₀ (F := F)) Variants.none c none) Set.univ (cc0_mlp i (Memref.whole main_arg0) (Memref.isWhole_whole _) arg2 harg2 arg3 harg3 arg4 harg4 arg5 harg5 arg6 harg6 arg7 harg7 arg8 harg8 arg9 harg9 arg10 harg10 arg11 harg11 (Memref.whole main_v2) (Memref.isWhole_whole _) arg13 harg13 arg14 harg14 cc0_scratch2) K } := by
  refine ⟨?_, fun W K => ?run⟩
  case run =>
    simp only [cc0_mlp_eq_skeleton]; unfold cc0_mlp_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%ds1, %fs1, %hfs1, HS1⟩, Hq0, Hh0, ⟨%fw1, Hh1⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _, _; isplitr; swap; · iexact HS0
      ipureintro; rfl
    isplitl [HS1]
    · iexists _, _; isplitr; swap; · iexact HS1
      ipureintro; rfl
    isplitl [Hq0]; · iexact Hq0
    isplitl [Hh0]; · iexact Hh0
    isplitl [Hh1]; · iexists ds1, fw1; iexact Hh1
    iexists _; iexact HW

end Cert.KernelIdeal.Val

end
-- ==== Proof.FrameV.lean ====
module

public import proofs.«01_k».proof.Proof.RunD
public import Idealize.ShloMosaic.Lib.Pipeline.FrameValue

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last point of the grid. -/
def tLast : Fin cfg0.N := ⟨63, by rw [show cfg0.N = 64 from N_0]; decide⟩

/-- What the run at the last point leaves in the result's array, from what the copy buffer (`e`) and the result's array
    (`f`) held before it: the accumulator enters it at what the point before left. -/
def lastOut (c : Dev nD) (e : Vec F S64x4096 .bf16) (f : HbBuf0 (F := F) c hbM0_1) : HbBuf0 (F := F) c hbM0_1 :=
  (kernelRunD c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) scM0_0 (Memref.isWhole_whole _) scM0_1 (Memref.isWhole_whole _) (fun h => absurd ((hcond0_0 tLast).mp h) (by decide)) (fun h => absurd ((hcond0_1 tLast).mp h) (by decide)) ((hcond0_2 tLast).mpr (by decide)) ((hcond0_3 tLast).mpr (by decide)) (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (outsAt0 m c 62 (by rw [show cfg0.N = 64 from N_0]; decide)) (V m c main_arg0)).1 e f

-- The contents the result's array ends at; `res` is shown to be what every run leaves (`hG`), so it is a parameter
-- here and supplied once its closed form is known.
variable (res : (c : Dev nD) → HbBuf0 (F := F) c hbM0_1)

/-- The invariant before position `n`: before the last point's end the generated one, after it every scratch at
    anything and the result's array at `res`. -/
def PhiV (c : Dev nD) (n : ℕ) (h : n ≤ cfg0.N) : sProp 𝕄 :=
  if n = 64 then iprop(iprop((∃ d, owns (c : Thread nD τ) scM0_0 fullShare d) ∗ (∃ d, owns (c : Thread nD τ) scM0_1 fullShare d)) ∗ (∃ r, prngReg c r) ∗ iprop(semVal ((c : Thread nD τ), SemLoc.dma 19) 0) ∗ iprop(hbPt0 c hbM0_0 (V m c main_arg0)) ∗ iprop(hbPt0 c hbM0_1 (res c)))
  else PhiS m c n h

/-- The proof data: the generated one with the invariant `PhiV`. -/
def datsV (_ : Fin 1) (c : Dev nD) : Dat τ (Elt F) Unit ℕ (Pipeline.UD sig nD τ) ℕ cfg0 c where
  A := (dats m 0 c).A
  after := (dats m 0 c).after
  Φ t := PhiV m res c t.val (Nat.le_of_lt_succ t.isLt)
  q := (dats m 0 c).q
  owed _ := 0

theorem A_eqV (c : Dev nD) (w : Fin cfg0.W) : (datsV m res 0 c).A w = V m c (Pipeline.arrRef spec0 w) := by
  dsimp only [datsV, dats]

theorem after0V_0 (c : Dev nD) (t : Fin cfg0.N) : (datsV m res 0 c).after 0 t = iblk m c 0 t := by dsimp only [datsV, dats]
theorem after0V_1 (c : Dev nD) (t : Fin cfg0.N) : (datsV m res 0 c).after 1 t = iblk m c 1 t := by dsimp only [datsV, dats]
theorem after0V_2 (c : Dev nD) (t : Fin cfg0.N) : (datsV m res 0 c).after 2 t = iblk m c 2 t := by dsimp only [datsV, dats]
theorem after0V_3 (c : Dev nD) (t : Fin cfg0.N) : (datsV m res 0 c).after 3 t = iblk m c 3 t := by dsimp only [datsV, dats]
theorem after0V_4 (c : Dev nD) (t : Fin cfg0.N) : (datsV m res 0 c).after 4 t = iblk m c 4 t := by dsimp only [datsV, dats]
theorem after0V_5 (c : Dev nD) (t : Fin cfg0.N) : (datsV m res 0 c).after 5 t = iblk m c 5 t := by dsimp only [datsV, dats]
theorem after0V_6 (c : Dev nD) (t : Fin cfg0.N) : (datsV m res 0 c).after 6 t = iblk m c 6 t := by dsimp only [datsV, dats]
theorem after0V_7 (c : Dev nD) (t : Fin cfg0.N) : (datsV m res 0 c).after 7 t = iblk m c 7 t := by dsimp only [datsV, dats]
theorem after0V_8 (c : Dev nD) (t : Fin cfg0.N) : (datsV m res 0 c).after 8 t = iblk m c 8 t := by dsimp only [datsV, dats]
theorem after0V_9 (c : Dev nD) (t : Fin cfg0.N) : (datsV m res 0 c).after 9 t = iblk m c 9 t := by dsimp only [datsV, dats]
theorem before0V_0 (c : Dev nD) (t : Fin cfg0.N) (d) : (datsV m res 0 c).before 0 t d = iblk m c 0 t :=
  before0_0_of m (datsV m res 0 c) (A_eqV m res c 0) (after0V_0 m res c) t d
theorem before0V_1 (c : Dev nD) (t : Fin cfg0.N) (d) : (datsV m res 0 c).before 1 t d = iblk m c 1 t :=
  before0_1_of m (datsV m res 0 c) (A_eqV m res c 1) (after0V_1 m res c) t d
theorem before0V_2 (c : Dev nD) (t : Fin cfg0.N) (d) : (datsV m res 0 c).before 2 t d = iblk m c 2 t :=
  before0_2_of m (datsV m res 0 c) (A_eqV m res c 2) (after0V_2 m res c) t d
theorem before0V_3 (c : Dev nD) (t : Fin cfg0.N) (d) : (datsV m res 0 c).before 3 t d = iblk m c 3 t :=
  before0_3_of m (datsV m res 0 c) (A_eqV m res c 3) (after0V_3 m res c) t d
theorem before0V_4 (c : Dev nD) (t : Fin cfg0.N) (d) : (datsV m res 0 c).before 4 t d = iblk m c 4 t :=
  before0_4_of m (datsV m res 0 c) (A_eqV m res c 4) (after0V_4 m res c) t d
theorem before0V_5 (c : Dev nD) (t : Fin cfg0.N) (d) : (datsV m res 0 c).before 5 t d = iblk m c 5 t :=
  before0_5_of m (datsV m res 0 c) (A_eqV m res c 5) (after0V_5 m res c) t d
theorem before0V_6 (c : Dev nD) (t : Fin cfg0.N) (d) : (datsV m res 0 c).before 6 t d = iblk m c 6 t :=
  before0_6_of m (datsV m res 0 c) (A_eqV m res c 6) (after0V_6 m res c) t d
theorem before0V_7 (c : Dev nD) (t : Fin cfg0.N) (d) : (datsV m res 0 c).before 7 t d = iblk m c 7 t :=
  before0_7_of m (datsV m res 0 c) (A_eqV m res c 7) (after0V_7 m res c) t d
theorem before0V_8 (c : Dev nD) (t : Fin cfg0.N) (d) : (datsV m res 0 c).before 8 t d = iblk m c 8 t :=
  before0_8_of m (datsV m res 0 c) (A_eqV m res c 8) (after0V_8 m res c) t d
theorem before0V_9 (c : Dev nD) (t : Fin cfg0.N) (d) : (datsV m res 0 c).before 9 t d = iblk m c 9 t :=
  before0_9_of m (datsV m res 0 c) (A_eqV m res c 9) (after0V_9 m res c) t d

/-- What the body is called with at point `t`, -/
def bodyPreV (c : Dev nD) (t : Fin cfg0.N) : sProp 𝕄 :=
  iprop((datsV m res 0 c).Φ t.castSucc ∗ (datsV m res 0 c).owesAt () t.castSucc
    ∗ (∃ d, owns (c : Thread nD τ) (ms0_0 t) fullShare ((datsV m res 0 c).before 0 t d))
    ∗ (∃ d, owns (c : Thread nD τ) (ms0_1 t) fullShare ((datsV m res 0 c).before 1 t d))
    ∗ (∃ d, owns (c : Thread nD τ) (ms0_2 t) fullShare ((datsV m res 0 c).before 2 t d))
    ∗ (∃ d, owns (c : Thread nD τ) (ms0_3 t) fullShare ((datsV m res 0 c).before 3 t d))
    ∗ (∃ d, owns (c : Thread nD τ) (ms0_4 t) fullShare ((datsV m res 0 c).before 4 t d))
    ∗ (∃ d, owns (c : Thread nD τ) (ms0_5 t) fullShare ((datsV m res 0 c).before 5 t d))
    ∗ (∃ d, owns (c : Thread nD τ) (ms0_6 t) fullShare ((datsV m res 0 c).before 6 t d))
    ∗ (∃ d, owns (c : Thread nD τ) (ms0_7 t) fullShare ((datsV m res 0 c).before 7 t d))
    ∗ (∃ d, owns (c : Thread nD τ) (ms0_8 t) fullShare ((datsV m res 0 c).before 8 t d))
    ∗ (∃ d, owns (c : Thread nD τ) (ms0_9 t) fullShare ((datsV m res 0 c).before 9 t d)))

/-- and what it returns. -/
def bodyPostV (c : Dev nD) (t : Fin cfg0.N) : sProp 𝕄 :=
  iprop((datsV m res 0 c).Φ t.succ ∗ (datsV m res 0 c).owesAt () t.succ
    ∗ owns (c : Thread nD τ) (ms0_0 t) fullShare ((datsV m res 0 c).after 0 t)
    ∗ owns (c : Thread nD τ) (ms0_1 t) fullShare ((datsV m res 0 c).after 1 t)
    ∗ owns (c : Thread nD τ) (ms0_2 t) fullShare ((datsV m res 0 c).after 2 t)
    ∗ owns (c : Thread nD τ) (ms0_3 t) fullShare ((datsV m res 0 c).after 3 t)
    ∗ owns (c : Thread nD τ) (ms0_4 t) fullShare ((datsV m res 0 c).after 4 t)
    ∗ owns (c : Thread nD τ) (ms0_5 t) fullShare ((datsV m res 0 c).after 5 t)
    ∗ owns (c : Thread nD τ) (ms0_6 t) fullShare ((datsV m res 0 c).after 6 t)
    ∗ owns (c : Thread nD τ) (ms0_7 t) fullShare ((datsV m res 0 c).after 7 t)
    ∗ owns (c : Thread nD τ) (ms0_8 t) fullShare ((datsV m res 0 c).after 8 t)
    ∗ owns (c : Thread nD τ) (ms0_9 t) fullShare ((datsV m res 0 c).after 9 t))

theorem PhiV_castSucc (c : Dev nD) (t : Fin cfg0.N) :
    (datsV m res 0 c).Φ t.castSucc = (dats m 0 c).Φ t.castSucc := by
  have hN : t.val < 64 := lt_of_lt_of_eq t.isLt (show cfg0.N = 64 from N_0)
  show PhiV m res c t.castSucc.val _ = _
  unfold PhiV; rw [if_neg (by rw [Fin.val_castSucc]; omega)]; rfl

theorem PhiV_succ (c : Dev nD) (t : Fin cfg0.N) (ht : t.val ≠ 63) :
    (datsV m res 0 c).Φ t.succ = (dats m 0 c).Φ t.succ := by
  show PhiV m res c t.succ.val _ = _
  unfold PhiV; rw [if_neg (by rw [Fin.val_succ]; omega)]; rfl

/-- The body at every point but the last: the generated proof. -/
theorem sound_bodyV_of_ne (c : Dev nD) (t : Fin cfg0.N) (ht : t.val ≠ 63) :
    bodyPreV m res c t ⊢ wp frame (wpE (defs₀ (F := F)) Variants.none c none) Set.univ (bodyAt0 t) (fun _ => bodyPostV m res c t) := by
  have h := sound_body m c t
  unfold bodyPre bodyPost at h
  unfold bodyPreV bodyPostV
  rw [PhiV_castSucc, PhiV_succ m res c t ht]
  exact h

set_option maxHeartbeats 4800000 in
/-- The body at the last point: the run `kernelRunD`, the result's array named. -/
theorem sound_bodyV_last (hG : ∀ c e f, lastOut m c e f = res c) (c : Dev nD) :
    bodyPreV m res c tLast ⊢ wp frame (wpE (defs₀ (F := F)) Variants.none c none) Set.univ (bodyAt0 tLast) (fun _ => bodyPostV m res c tLast) := by
  unfold bodyPreV bodyPostV bodyAt0
  simp only [before0V_0, before0V_1, before0V_2, before0V_3, before0V_4, before0V_5, before0V_6, before0V_7, before0V_8, before0V_9]
  rw [PhiV_castSucc, PhiS_castSucc m c tLast, PhiS_pos m c _ _ (by decide),
    show (datsV m res 0 c).Φ tLast.succ = PhiV m res c 64 (le_of_eq (show cfg0.N = 64 from N_0).symm) from rfl,
    after0V_0, after0V_1, after0V_2, after0V_3, after0V_4, after0V_5, after0V_6, after0V_7, after0V_8, after0V_9]
  unfold PhiV; rw [if_pos rfl]
  unfold Dat.owesAt Pipeline.owesWithin
  rw [show (datsV m res 0 c).owed tLast.castSucc = 0 from rfl, show (datsV m res 0 c).owed tLast.succ = 0 from rfl]
  iintro ⟨⟨⟨HS0, HS1⟩, Hg, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunD c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) (ms0_9 tLast) (hs0_9 tLast) scM0_0 (Memref.isWhole_whole _) scM0_1 (Memref.isWhole_whole _) (fun h => absurd ((hcond0_0 tLast).mp h) (by decide)) (fun h => absurd ((hcond0_1 tLast).mp h) (by decide)) ((hcond0_2 tLast).mpr (by decide)) ((hcond0_3 tLast).mpr (by decide)) (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (outsAt0 m c 62 (by rw [show cfg0.N = 64 from N_0]; decide)) (V m c main_arg0)).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [Hq0]; · iexact Hq0
  isplitl [Hh0]; · iexact Hh0
  isplitl [Hh1]; · iexact Hh1
  isplitl [HW]; · iexact HW
  iintro ⟨H0, H1, H2, H3, H4, H5, H6, H7, H8, H9, HS0, HS1, Hq0, Hh0, ⟨%e, %f, Hh1⟩, ⟨%W', HW'⟩⟩
  isplitl [HS0 HS1 Hg Hq0 Hh0 Hh1]
  · isplitl [HS0 HS1]
    · isplitl [HS0]
      · iexact HS0
      iexact HS1
    isplitl [Hg]
    · iexact Hg
    isplitl [Hq0]
    · iexact Hq0
    isplitl [Hh0]
    · iexact Hh0
    rw [← hG c e f]; unfold lastOut; iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_bodyV (hG : ∀ c e f, lastOut m c e f = res c) (c : Dev nD) (t : Fin cfg0.N) :
    bodyPreV m res c t ⊢ wp frame (wpE (defs₀ (F := F)) Variants.none c none) Set.univ (bodyAt0 t) (fun _ => bodyPostV m res c t) := by
  by_cases ht : t.val = 63
  · obtain rfl : t = tLast := Fin.ext ht
    exact sound_bodyV_last m res hG c
  · exact sound_bodyV_of_ne m res c t ht

/-- The body obligation, at every point. -/
theorem body_obligationV (hG : ∀ c e f, lastOut m c e f = res c) (c : Dev nD) :
    BodyObligation (datsV (F := F) m res 0 c) (defs₀ (F := F)) Variants.none () Set.univ := fun t => by
  rw [bigSep_W0, bigSep_W0, defs₀_row]
  exact triple_restated (sound_bodyV m res hG c t) rfl .rfl fun _ => .rfl

/-- What the written buffer ends at, as contents of every buffer: `res` for the result, the region-entry contents for
    the others. -/
def GV (c : Dev nD) : (b : Ref sig .tc) → Buf (Elt F) ((c : Thread nD τ).loc b) :=
  Function.update (V m c) main_v2 (res c)

theorem routed_eq (c : Dev nD) (W : (b : Ref sig .tc) → Buf (Elt F) ((c : Thread nD τ).loc b)) :
    (Pipeline.routed R0 c W : sProp 𝕄) = iprop(hbPt0 c hbM0_1 (W main_v2)) := by
  unfold Pipeline.routed; rw [BI.bigSep_eq_bigSepL_of_eq [main_v2] (by decide) (by decide)]; rfl

theorem hinV (c : Dev nD) : Pipeline.ΦDRG osem0 spec0 H0 R0 (V m) (V m) c ⊢ (datsV m res 0 c).Φ 0 := by
  rw [show (datsV m res 0 c).Φ 0 = (dats m 0 c).Φ 0 from by
    show PhiV m res c 0 (Nat.zero_le _) = _
    unfold PhiV; rw [if_neg (by decide)]; rfl]
  exact (Pipeline.ΦDRG_ΦDR osem0 spec0 H0 R0 (V m) (V m) c).trans (hin m c)

theorem houtV (c : Dev nD) : (datsV m res 0 c).Φ (Fin.last cfg0.N) ⊢ Pipeline.ΦDRG osem0 spec0 H0 R0 (V m) (GV m res) c := by
  show PhiV m res c (Fin.last cfg0.N).val (le_of_eq (Fin.val_last _)) ⊢ _
  unfold PhiV
  rw [if_pos (by rw [Fin.val_last]; exact N_0), Pipeline.ΦDRG_eq, scopedRest0_eq, ownSems00_eq, hbmPts0_eq, routed_eq,
    show GV m res c main_v2 = res c from Function.update_self ..]
  simp only [scM0_0, scM0_1, owns_whole]
  exact Idealize.SL.BI.Entails.refl _

set_option backward.isDefEq.respectTransparency.types false in
/-- The launch: every execution ends with every array as the generated run says and the result's array at `res`. -/
theorem run_mainV (hG : ∀ c e f, lastOut m c e f = res c) :
    θ_run defs (onTc (τ := τ) (main (F := F))) (s₀ m ρ) (Pipeline.FramePostRG cfgs (datsV m res) 0 R0 (V m) (GV m res)) :=
  Pipeline.θ_run_frame_dmaRG_shared cfgs (datsV m res) (0 : Fin 1) launch₀0 osem0 defs₀ Variants.none ownSemFacts0 H0 R0 H0_sub R0_sub m ρ main
    (hbody := fun c => (body_obligationV m res hG c).loose) (hq := fun _ _ _ => rfl)
    (howed := fun _ _ => rfl) (V := V m) (hmain := hmain m Variants.none) (hA := A_eqV m res) (G := GV m res)
    (hin := hinV m res) (hout := houtV m res)

/-- So the result's array ends at `res` on every core, and the arguments unchanged. -/
theorem run_res (hG : ∀ c e f, lastOut m c e f = res c) :
    θ_run defs (onTc (τ := τ) (main (F := F))) ⟨m, fun _ => 0, ρ⟩ (fun r => ∀ c : Dev nD,
      r.2.mem ((c.tc : Thread nD τ).loc main_v2) = res c) :=
  (θ_run defs _ _).mono (fun _ h c => (h.2 c main_v2 (by decide)).trans (Function.update_self ..)) (run_mainV m ρ res hG)

end Cert.KernelIdeal.Val

end
-- ==== Proof.StepD.lean ====
module

public import proofs.«01_k».proof.Proof.StepA
public import proofs.«01_k».proof.Proof.FrameV
public import Idealize.ShloMosaic.Lib.VecWindow
public import Idealize.ShloMosaic.Lib.Pipeline.Value
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable {F : FTy → Type} [FloatOps F]

/-- A load of part of an array after a store of the whole of it reads that part of what was stored. -/
theorem readCov_part {S : Shape} {e : EltTy} {sp : Space} (v : View sig .tc sp S e) {off : Fin S.rank → Nat} (h : off = fun _ => 0)
    (inb : ∀ a, off a + S.size a ≤ S.size a) (W : S.Idx → Elt F e) (L : List (View.Piece (Elt F) S e)) (r : Rect S) :
    v.readCov (Val := Elt F) (⟨Rect.unit off S.size inb, W⟩ :: L) r.toLoadRect = fun j => W (r.emb j) := by
  rw [View.readCov_eq_canon', View.canon_cons_unit_zero h]
  rfl

/-- The copy buffer after a store of the whole of it holds what was stored. -/
theorem read_whole_store {S : Shape} {e : EltTy} {sp : Space} (v : View sig .tc sp S e) (f : v.ty.Contents (Elt F)) {off : Fin S.rank → Nat}
    (inb : ∀ a, off a + S.size a ≤ S.size a) (W : S.Idx → Elt F e) (L : List (View.Piece (Elt F) S e)) :
    View.read (Elt F) v (v.writes (Elt F) f (⟨Rect.unit off S.size inb, W⟩ :: L)) = W :=
  View.read_writes_full v f inb W L

/-- The result's array after stores that cover it and all agree with `G` is `G`. -/
theorem result_writes (c : Dev nD) (f : HbBuf0 (F := F) c hbM0_1) (G : Vec F S1536x4096 .bf16) (L : List (View.Piece (Elt F) S1536x4096 .bf16))
    (hL : ∀ p ∈ L, ∀ x : p.1.shape.Idx, p.2 x = G (p.1.emb x)) (hc : ∀ y, ∃ p ∈ L, y ∈ p.1.set) :
    hbM0_1.view.writes (Elt F) f L = G := by
  funext y
  exact (View.read_writes_apply_eq_canon hbM0_1.view f y L (hc y)).trans (View.canon_apply_of_pieces G L hL y (hc y))

set_option maxHeartbeats 1000000 in
/-- The last point adds its product to the accumulator and copies it, rounded, to the result. -/
theorem out_D (c : Dev nD) (i : grid0.Coords) (arg2 : Memref sig .tc .vmem S1536x4096 .bf16) (harg2 : arg2.IsWhole) (arg3 : Memref sig .tc .vmem S2048x256 .i8) (harg3 : arg3.IsWhole) (arg4 : Memref sig .tc .vmem S2048x256 .i8) (harg4 : arg4.IsWhole) (arg5 : Memref sig .tc .vmem S128x4096 .i8) (harg5 : arg5.IsWhole) (arg6 : Memref sig .tc .vmem S32x256 .f32) (harg6 : arg6.IsWhole) (arg7 : Memref sig .tc .vmem S32x256 .f32) (harg7 : arg7.IsWhole) (arg8 : Memref sig .tc .vmem S1x2x4096 .f32) (harg8 : arg8.IsWhole) (arg9 : Memref sig .tc .vmem S1536x512 .bf16) (harg9 : arg9.IsWhole) (arg10 : Memref sig .tc .vmem S256x4096 .i8) (harg10 : arg10.IsWhole) (arg11 : Memref sig .tc .vmem S1x4x4096 .f32) (harg11 : arg11.IsWhole) (arg13 : Memref sig .tc .vmem S1536x4096 .f32) (harg13 : arg13.IsWhole) (arg14 : Memref sig .tc .vmem S64x4096 .bf16) (harg14 : arg14.IsWhole) (hc0 : ¬cond0_0 i) (hc1 : ¬cond0_1 i) (hc2 : cond0_2 i) (hc3 : cond0_3 i)
    (x0 : Vec F S1536x4096 .bf16) (x1 : Vec F S2048x256 .i8) (x2 : Vec F S2048x256 .i8) (x3 : Vec F S128x4096 .i8) (x4 : Vec F S32x256 .f32) (x5 : Vec F S32x256 .f32) (x6 : Vec F S1x2x4096 .f32) (x7 : Vec F S1536x512 .bf16) (x8 : Vec F S256x4096 .i8) (x9 : Vec F S1x4x4096 .f32) (xs0 : Vec F S1536x4096 .f32) (fh0 : HbBuf0 (F := F) c hbM0_0) (e : Vec F S64x4096 .bf16) (f : HbBuf0 (F := F) c hbM0_1) :
    (kernelRunD c i arg2 harg2 arg3 harg3 arg4 harg4 arg5 harg5 arg6 harg6 arg7 harg7 arg8 harg8 arg9 harg9 arg10 harg10 arg11 harg11 arg13 harg13 arg14 harg14 hc0 hc1 hc2 hc3 x0 x1 x2 x3 x4 x5 x6 x7 x8 x9 xs0 fh0).1 e f = truncf .bf16 (mlpStep xs0 x0 x1 x2 x3 x4 x5 x6) bitsLt_bf16_f32 := by
  unfold kernelRunD
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S1536x4096) hz, View.ld_unit_zero (S := S2048x256) hz, View.ld_unit_zero (S := S128x4096) hz, View.ld_unit_zero (S := S32x256) hz, View.ld_unit_zero (S := S1x2x4096) hz3, View.ld_unit_zero (S := S1536x512) hz, View.ld_unit_zero (S := S256x4096) hz, View.ld_unit_zero (S := S1x4x4096) hz3, readCov_part (S := S1536x4096) _ hz, read_whole_store (S := S64x4096)]
  generalize hW : k0_pay3 (F := F) _ _ _ _ = W
  have e0 : W = mlpStep xs0 x0 x1 x2 x3 x4 x5 x6 := by rw [← hW]; exact shapeCast_self ..
  clear hW
  subst e0
  generalize mlpStep xs0 x0 x1 x2 x3 x4 x5 x6 = W
  simp only [k0_pay4, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, shapeCast_self]
  refine result_writes c f (truncf .bf16 W bitsLt_bf16_f32) _ ?_ ?_
  · simp only [List.forall_mem_cons, List.not_mem_nil, false_implies, implies_true, and_true]
    refine ⟨?_, ?_, ?_, ?_, ?_, ?_, ?_, ?_, ?_, ?_, ?_, ?_, ?_, ?_, ?_, ?_, ?_, ?_, ?_, ?_, ?_, ?_, ?_, ?_⟩ <;> (intro x; rfl)
  · exact View.cover_of_tiledL _ ![64, 4096] (by sl_kernel_rfl)

end Cert.KernelIdeal.Val
-- ==== Proof.Packed.lean ====
module

public import Idealize.ShloMosaic.Lib.Pointwise

@[expose] public section

/-!
  Packed 4-bit weights over the extended reals.

  `lo b`, `hi b`: the two signed 4-bit halves of a byte.
  `at2 A r n`: an array of rank two read at natural numbers.
  `wN P S k n`: the weight in row `k` and column `n`; `P` holds two rows to a byte, `S` one row of scales for 128 rows.
  `sum_tiles`, `sum_pairs`: a sum over a range cut into tiles, or into even and odd places.
-/

noncomputable section

namespace Cert.Packed

open Idealize.ShloMosaic Idealize.ShloMosaic.Pointwise

/-- The low half of a byte as a signed integer. -/
def lo (b : BitVec 8) : EReal :=
  FloatOps.sitofp (F := Ideal) .bf16 (IntOp.shrsi .host (IntOp.shli .host (b.setWidth 32) 28#32) 28#32)

/-- The high half of a byte as a signed integer. -/
def hi (b : BitVec 8) : EReal :=
  FloatOps.sitofp (F := Ideal) .bf16 (IntOp.shrsi .host (IntOp.shli .host (b.setWidth 32) 24#32) 28#32)

theorem lo_toInt : ∀ b : BitVec 8, (BitVec.setWidth 4 (IntOp.shrsi .vector (IntOp.shli .vector (b.setWidth 32) 28#32) 28#32)).toInt
    = (IntOp.shrsi .host (IntOp.shli .host (b.setWidth 32) 28#32) 28#32).toInt := by decide +kernel
theorem hi_toInt : ∀ b : BitVec 8, (BitVec.setWidth 4 (IntOp.shrsi .vector (IntOp.shli .vector (b.setWidth 32) 24#32) 28#32)).toInt
    = (IntOp.shrsi .host (IntOp.shli .host (b.setWidth 32) 24#32) 28#32).toInt := by decide +kernel

/-- Cutting a half down to four bits keeps its value. -/
theorem lo_eq (b : BitVec 8) : FloatOps.sitofp (F := Ideal) .bf16
    (BitVec.setWidth 4 (IntOp.shrsi .vector (IntOp.shli .vector (b.setWidth 32) 28#32) 28#32)) = lo b := by
  show (((_ : ℤ) : ℝ) : EReal) = (((_ : ℤ) : ℝ) : EReal)
  rw [lo_toInt]
theorem hi_eq (b : BitVec 8) : FloatOps.sitofp (F := Ideal) .bf16
    (BitVec.setWidth 4 (IntOp.shrsi .vector (IntOp.shli .vector (b.setWidth 32) 24#32) 28#32)) = hi b := by
  show (((_ : ℤ) : ℝ) : EReal) = (((_ : ℤ) : ℝ) : EReal)
  rw [hi_toInt]

section At
variable {α : Type} {M N : ℕ} [NeZero M] [NeZero N]

/-- An array of rank two read at two natural numbers (taken modulo its extents). -/
def at2 (A : (⟨2, ![M, N]⟩ : Shape).Idx → α) (r n : ℕ) : α := A (ix2 (Fin.ofNat M r) (Fin.ofNat N n))

theorem at2_of_lt (A : (⟨2, ![M, N]⟩ : Shape).Idx → α) {r n : ℕ} (hr : r < M) (hn : n < N) :
    at2 A r n = A (ix2 ⟨r, hr⟩ ⟨n, hn⟩) := by
  unfold at2
  congr 2 <;> exact Fin.ext (Nat.mod_eq_of_lt ‹_›)

theorem eq_at2 (A : (⟨2, ![M, N]⟩ : Shape).Idx → α) (i : Fin M) (j : Fin N) : A (ix2 i j) = at2 A i.val j.val :=
  (at2_of_lt A i.isLt j.isLt).symm

/-- Any spelling of an index. -/
theorem eq_at2_of (A : (⟨2, ![M, N]⟩ : Shape).Idx → α) (i : (⟨2, ![M, N]⟩ : Shape).Idx) {r n : ℕ} (hr : (i 0).val = r) (hn : (i 1).val = n) :
    A i = at2 A r n := by
  subst hr hn
  rw [at2_of_lt A (i 0).isLt (i 1).isLt]
  congr 1
  funext a
  match a with
  | ⟨0, _⟩ => rfl
  | ⟨1, _⟩ => rfl

end At

/-- The weight in row `k`, column `n`. -/
def wN (P : ℕ → ℕ → BitVec 8) (S : ℕ → ℕ → EReal) (k n : ℕ) : EReal :=
  (if k % 2 < 1 then lo (P (k / 2) n) else hi (P (k / 2) n)) * S (k / 128) n

theorem wN_even (P : ℕ → ℕ → BitVec 8) (S : ℕ → ℕ → EReal) (r n : ℕ) : wN P S (2 * r) n = lo (P r n) * S (r / 64) n := by
  unfold wN
  rw [if_pos (by omega), show 2 * r / 2 = r by omega, show 2 * r / 128 = r / 64 by omega]
theorem wN_odd (P : ℕ → ℕ → BitVec 8) (S : ℕ → ℕ → EReal) (r n : ℕ) : wN P S (2 * r + 1) n = hi (P r n) * S (r / 64) n := by
  unfold wN
  rw [if_neg (by omega), show (2 * r + 1) / 2 = r by omega, show (2 * r + 1) / 128 = r / 64 by omega]

/-- A weight of a block that starts at row `128 * q` of the whole. -/
theorem wN_shift {P P' : ℕ → ℕ → BitVec 8} {S S' : ℕ → ℕ → EReal} {q k l n : ℕ}
    (hP : P' (k / 2) l = P (64 * q + k / 2) n) (hS : S' (k / 128) l = S (q + k / 128) n) : wN P' S' k l = wN P S (128 * q + k) n := by
  unfold wN
  rw [hP, hS, show (128 * q + k) % 2 = k % 2 by omega, show (128 * q + k) / 2 = 64 * q + k / 2 by omega,
    show (128 * q + k) / 128 = q + k / 128 by omega]

/-! ### The layer -/

/-- Entry `n` of row `i` of the fused input projection. -/
def projN (XN : ℕ → ℕ → EReal) (Wi : ℕ → ℕ → BitVec 8) (Si : ℕ → ℕ → EReal) (i n : ℕ) : EReal :=
  ∑ k ∈ Finset.range 4096, XN i k * wN Wi Si k n

/-- Entry `f` of row `i` of the gated hidden activations: the gate columns start at 6144, the up columns at 20480. -/
def hidN (XN : ℕ → ℕ → EReal) (Wi : ℕ → ℕ → BitVec 8) (Si : ℕ → ℕ → EReal) (i f : ℕ) : EReal :=
  projN XN Wi Si i (6144 + f) * Ideal.logistic (projN XN Wi Si i (6144 + f)) * projN XN Wi Si i (20480 + f)

/-- The residual, plus the first `a` rows of the attention's output projection, plus the first `b` rows of the down
    projection. -/
def outN (X XN A : ℕ → ℕ → EReal) (Wi : ℕ → ℕ → BitVec 8) (Si : ℕ → ℕ → EReal) (Wo : ℕ → ℕ → BitVec 8) (So : ℕ → ℕ → EReal)
    (Wd : ℕ → ℕ → BitVec 8) (Sd : ℕ → ℕ → EReal) (a b i j : ℕ) : EReal :=
  (X i j + ∑ k ∈ Finset.range a, A i k * wN Wo So k j) + ∑ f ∈ Finset.range b, hidN XN Wi Si i f * wN Wd Sd f j

/-- A sum over twice a range is the sum over its even places plus the sum over its odd places. -/
theorem sum_pairs (f : ℕ → EReal) : ∀ n : ℕ, ∑ k ∈ Finset.range (2 * n), f k
    = ∑ r ∈ Finset.range n, f (2 * r) + ∑ r ∈ Finset.range n, f (2 * r + 1)
  | 0 => by simp
  | n + 1 => by
    rw [show 2 * (n + 1) = 2 * n + 1 + 1 by ring, Finset.sum_range_succ, Finset.sum_range_succ, sum_pairs f n,
      Finset.sum_range_succ, Finset.sum_range_succ]
    abel

/-- One activation row times the packed weights, over `2 * n` rows: its even places with the low halves, its odd places
    with the high halves. -/
theorem dot_pairs (a : ℕ → EReal) (P : ℕ → ℕ → BitVec 8) (S : ℕ → ℕ → EReal) (j n : ℕ) :
    ∑ k ∈ Finset.range (2 * n), a k * wN P S k j
    = ∑ r ∈ Finset.range n, a (2 * r) * (lo (P r j) * S (r / 64) j) + ∑ r ∈ Finset.range n, a (2 * r + 1) * (hi (P r j) * S (r / 64) j) := by
  rw [sum_pairs]
  simp only [wN_even, wN_odd]

end Cert.Packed
-- ==== Proof.Weights.lean ====
module

public import proofs.«01_k».proof.Proof.Steps
public import proofs.«01_k».proof.Proof.Packed

@[expose] public section

set_option maxRecDepth 16384

/-!
  The steps of Steps.lean over the extended reals, read at one entry.
-/

noncomputable section

namespace Cert.KernelIdeal.Val

open Cert.KernelIdeal Cert.KernelIdeal.Gen
open Idealize.ShloMosaic Idealize.ShloMosaic.TcCoe Idealize.ShloMosaic.Tactic
open Idealize.ShloMosaic.Pointwise Cert.Packed

/-- A group of 128 weight rows at row `r`, column `l`. -/
theorem pc256_apply (b : Vec Ideal S64x256 .i8) (s : FVec Ideal S1x256 .bf16) (r : Fin 128) (l : Fin 256) :
    pc256 b s (ix2 r l) = (if r.val % 2 < 1 then lo (b (ix2 ⟨r.val / 2, by omega⟩ l)) else hi (b (ix2 ⟨r.val / 2, by omega⟩ l))) * s (ix2 0 l) := by
  pointwise [pc256, nib256]
  split
  · rw [lo_eq]
  · rw [hi_eq]

/-- A group of 128 weight rows at row `r`, column `l`. -/
theorem pc4096_apply (b : Vec Ideal S64x4096 .i8) (s : FVec Ideal S1x4096 .bf16) (r : Fin 128) (l : Fin 4096) :
    pc4096 b s (ix2 r l) = (if r.val % 2 < 1 then lo (b (ix2 ⟨r.val / 2, by omega⟩ l)) else hi (b (ix2 ⟨r.val / 2, by omega⟩ l))) * s (ix2 0 l) := by
  pointwise [pc4096, nib4096]
  split
  · rw [lo_eq]
  · rw [hi_eq]

/-- A block of weights at row `k`, column `l`. -/
theorem W256_apply (b : Vec Ideal S2048x256 .i8) (s : FVec Ideal S32x256 .bf16) (k : Fin 4096) (l : Fin 256) :
    W256 b s (ix2 k l) = wN (at2 b) (at2 s) k.val l.val := by
  have hk := k.isLt
  have hl := l.isLt
  have h := concatenate_ofFn_apply (α := Ideal .bf16) (t := S4096x256) (s₁ := S128x256) 0 (N := 32)
    (fun g : Fin 32 => pc256 (extractStridedSlice S64x256 ![64 * g.val, 0] b (slices256 g)) (extractStridedSlice S1x256 ![g.val, 0] s (slicesS256 g)))
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S4096x256_d0 rfl 128 rfl (ix2 k l) ⟨k.val / 128, by omega⟩ rfl
    (ix2 ⟨k.val % 128, by omega⟩ l) rfl (fun c hc => by
      match c with
      | ⟨0, _⟩ => exact absurd rfl hc
      | ⟨1, _⟩ => rfl)
  refine h.trans ?_
  rw [pc256_apply]
  unfold wN
  have e : ∀ x : EReal, ∀ y z, y = z → x * y = x * z := fun x y z h => by rw [h]
  rw [show k.val % 128 % 2 = k.val % 2 by omega]
  have hb : extractStridedSlice S64x256 ![64 * (k.val / 128), 0] b (slices256 ⟨k.val / 128, by omega⟩) (ix2 ⟨k.val % 128 / 2, by omega⟩ l)
      = at2 b (k.val / 2) l.val := by
    unfold extractStridedSlice
    exact eq_at2_of b _ (show 64 * (k.val / 128) + k.val % 128 / 2 = k.val / 2 by omega) (show 0 + l.val = l.val by omega)
  have hs : extractStridedSlice S1x256 ![k.val / 128, 0] s (slicesS256 ⟨k.val / 128, by omega⟩) (ix2 0 l)
      = at2 s (k.val / 128) l.val := by
    unfold extractStridedSlice
    exact eq_at2_of s _ (show k.val / 128 + 0 = k.val / 128 by omega) (show 0 + l.val = l.val by omega)
  rw [hb, hs]

/-- A block of weights at row `k`, column `l`. -/
theorem W4096x4_apply (b : Vec Ideal S256x4096 .i8) (s : FVec Ideal S4x4096 .bf16) (k : Fin 512) (l : Fin 4096) :
    W4096x4 b s (ix2 k l) = wN (at2 b) (at2 s) k.val l.val := by
  have hk := k.isLt
  have hl := l.isLt
  have h := concatenate_ofFn_apply (α := Ideal .bf16) (t := S512x4096) (s₁ := S128x4096) 0 (N := 4)
    (fun g : Fin 4 => pc4096 (extractStridedSlice S64x4096 ![64 * g.val, 0] b (slicesW4 g)) (extractStridedSlice S1x4096 ![g.val, 0] s (slicesSW4 g)))
    concatenates_S128x4096_S128x4096_S128x4096_S128x4096_S512x4096_d0 rfl 128 rfl (ix2 k l) ⟨k.val / 128, by omega⟩ rfl
    (ix2 ⟨k.val % 128, by omega⟩ l) rfl (fun c hc => by
      match c with
      | ⟨0, _⟩ => exact absurd rfl hc
      | ⟨1, _⟩ => rfl)
  refine h.trans ?_
  rw [pc4096_apply]
  unfold wN
  have e : ∀ x : EReal, ∀ y z, y = z → x * y = x * z := fun x y z h => by rw [h]
  rw [show k.val % 128 % 2 = k.val % 2 by omega]
  have hb : extractStridedSlice S64x4096 ![64 * (k.val / 128), 0] b (slicesW4 ⟨k.val / 128, by omega⟩) (ix2 ⟨k.val % 128 / 2, by omega⟩ l)
      = at2 b (k.val / 2) l.val := by
    unfold extractStridedSlice
    exact eq_at2_of b _ (show 64 * (k.val / 128) + k.val % 128 / 2 = k.val / 2 by omega) (show 0 + l.val = l.val by omega)
  have hs : extractStridedSlice S1x4096 ![k.val / 128, 0] s (slicesSW4 ⟨k.val / 128, by omega⟩) (ix2 0 l)
      = at2 s (k.val / 128) l.val := by
    unfold extractStridedSlice
    exact eq_at2_of s _ (show k.val / 128 + 0 = k.val / 128 by omega) (show 0 + l.val = l.val by omega)
  rw [hb, hs]

/-- A block of weights at row `k`, column `l`. -/
theorem W4096x2_apply (b : Vec Ideal S128x4096 .i8) (s : FVec Ideal S2x4096 .bf16) (k : Fin 256) (l : Fin 4096) :
    W4096x2 b s (ix2 k l) = wN (at2 b) (at2 s) k.val l.val := by
  have hk := k.isLt
  have hl := l.isLt
  have h := concatenate_ofFn_apply (α := Ideal .bf16) (t := S256x4096) (s₁ := S128x4096) 0 (N := 2)
    (fun g : Fin 2 => pc4096 (extractStridedSlice S64x4096 ![64 * g.val, 0] b (slicesW2 g)) (extractStridedSlice S1x4096 ![g.val, 0] s (slicesSW2 g)))
    concatenates_S128x4096_S128x4096_S256x4096_d0 rfl 128 rfl (ix2 k l) ⟨k.val / 128, by omega⟩ rfl
    (ix2 ⟨k.val % 128, by omega⟩ l) rfl (fun c hc => by
      match c with
      | ⟨0, _⟩ => exact absurd rfl hc
      | ⟨1, _⟩ => rfl)
  refine h.trans ?_
  rw [pc4096_apply]
  unfold wN
  have e : ∀ x : EReal, ∀ y z, y = z → x * y = x * z := fun x y z h => by rw [h]
  rw [show k.val % 128 % 2 = k.val % 2 by omega]
  have hb : extractStridedSlice S64x4096 ![64 * (k.val / 128), 0] b (slicesW2 ⟨k.val / 128, by omega⟩) (ix2 ⟨k.val % 128 / 2, by omega⟩ l)
      = at2 b (k.val / 2) l.val := by
    unfold extractStridedSlice
    exact eq_at2_of b _ (show 64 * (k.val / 128) + k.val % 128 / 2 = k.val / 2 by omega) (show 0 + l.val = l.val by omega)
  have hs : extractStridedSlice S1x4096 ![k.val / 128, 0] s (slicesSW2 ⟨k.val / 128, by omega⟩) (ix2 0 l)
      = at2 s (k.val / 128) l.val := by
    unfold extractStridedSlice
    exact eq_at2_of s _ (show k.val / 128 + 0 = k.val / 128 by omega) (show 0 + l.val = l.val by omega)
  rw [hb, hs]

/-- 256 columns of a projection. -/
theorem proj_apply (x0 : Vec Ideal S1536x4096 .bf16) (b : Vec Ideal S2048x256 .i8) (s : Vec Ideal S32x256 .f32) (r : Fin 1536) (l : Fin 256) :
    proj x0 b s (ix2 r l) = ∑ k ∈ Finset.range 4096, at2 x0 r.val k * wN (at2 b) (at2 s) k l.val := by
  pointwise [proj]
  rw [Finset.sum_range]
  exact Finset.sum_congr rfl fun k _ => by rw [W256_apply, eq_at2 x0]; rfl

/-- 256 hidden columns. -/
theorem hid_apply (x0 : Vec Ideal S1536x4096 .bf16) (x1 x2 : Vec Ideal S2048x256 .i8) (x4 x5 : Vec Ideal S32x256 .f32) (r : Fin 1536) (l : Fin 256) :
    hid x0 x1 x2 x4 x5 (ix2 r l) = proj x0 x1 x4 (ix2 r l) * Ideal.logistic (proj x0 x1 x4 (ix2 r l)) * proj x0 x2 x5 (ix2 r l) := by
  pointwise [hid]

/-- The accumulator after a point of the attention's output projection. -/
theorem attnStep_apply (acc : Vec Ideal S1536x4096 .f32) (x7 : Vec Ideal S1536x512 .bf16) (x8 : Vec Ideal S256x4096 .i8) (x9 : Vec Ideal S1x4x4096 .f32)
    (r : Fin 1536) (l : Fin 4096) :
    attnStep acc x7 x8 x9 (ix2 r l) = acc (ix2 r l) + ∑ k ∈ Finset.range 512, at2 x7 r.val k *
      wN (at2 x8) (at2 (M := 4) (N := 4096) (fun i => x9 (ix3 0 (i 0) (i 1)))) k l.val := by
  have hx : (truncf (F := Ideal) .bf16 (shapeCast S4x4096 x9 shapeCasts_S1x4x4096_S4x4096) bitsLt_bf16_f32 : S4x4096.Idx → EReal)
      = fun i => x9 (ix3 0 (i 0) (i 1)) := by
    funext i
    obtain ⟨g, n, rfl⟩ : ∃ g n, i = ix2 g n := ⟨i 0, i 1, eq_ix2 i⟩
    pointwise []
  pointwise [attnStep]
  rw [hx]
  rw [Finset.sum_range]
  refine congrArg (acc (ix2 r l) + ·) (Finset.sum_congr rfl fun k _ => ?_)
  rw [W4096x4_apply, eq_at2 x7]

/-- The accumulator after a point of the gated layer. -/
theorem mlpStep_apply (acc : Vec Ideal S1536x4096 .f32) (x0 : Vec Ideal S1536x4096 .bf16) (x1 x2 : Vec Ideal S2048x256 .i8) (x3 : Vec Ideal S128x4096 .i8)
    (x4 x5 : Vec Ideal S32x256 .f32) (x6 : Vec Ideal S1x2x4096 .f32) (r : Fin 1536) (l : Fin 4096) :
    mlpStep acc x0 x1 x2 x3 x4 x5 x6 (ix2 r l) = acc (ix2 r l) + ∑ k : Fin 256, hid x0 x1 x2 x4 x5 (ix2 r k) *
      wN (at2 x3) (at2 (M := 2) (N := 4096) (fun i => x6 (ix3 0 (i 0) (i 1)))) k.val l.val := by
  have hx : (truncf (F := Ideal) .bf16 (shapeCast S2x4096 x6 shapeCasts_S1x2x4096_S2x4096) bitsLt_bf16_f32 : S2x4096.Idx → EReal)
      = fun i => x6 (ix3 0 (i 0) (i 1)) := by
    funext i
    obtain ⟨g, n, rfl⟩ : ∃ g n, i = ix2 g n := ⟨i 0, i 1, eq_ix2 i⟩
    pointwise []
  pointwise [mlpStep]
  rw [hx]
  refine congrArg (acc (ix2 r l) + ·) (Finset.sum_congr rfl fun k _ => ?_)
  rw [W4096x2_apply]

end Cert.KernelIdeal.Val
-- ==== Proof.Blocks.lean ====
module

public import proofs.«01_k».proof.Proof.Gen.KernelIdeal.Frame
public import proofs.«01_k».proof.Proof.Packed
public import Idealize.ShloMosaic.Lib.Pipeline.Value
public import Idealize.ShloMosaic.Lib.StableHlo.Run
public import Idealize.ShloMosaic.Lib.Tactic

@[expose] public section

set_option maxRecDepth 16384

/-!
  The block of each argument that a grid point reads, as entries of the whole argument.
-/

noncomputable section

namespace Cert.KernelIdeal.Val

open Cert.KernelIdeal Cert.KernelIdeal.Gen
open Idealize.ShloMosaic Idealize.ShloMosaic.TcCoe Idealize.ShloMosaic.Tactic
open Idealize.ShloMosaic.Pointwise Cert.Packed

variable (m : (ℓ : Loc nD τ sig) → Buf (Elt Ideal) ℓ)

theorem index0 : ∀ t : Fin grid0.N, win0_0.index t 0 = 0 ∧ win0_0.index t 1 = 0 := by decide +kernel

theorem blk0 (c : Dev nD) (t : Fin cfg0.N) {r l : ℕ} (hr : r < 1536) (hl : l < 4096) :
    at2 (iblk m c 0 t : Vec Ideal S1536x4096 .bf16) r l = at2 (m ((c : Thread nD τ).loc main_arg1)) (1536 * (0) + r) (4096 * (0) + l) := by
  have hi := index0 t
  rw [at2_of_lt _ hr hl]
  unfold iblk
  rw [View.read_apply]
  show V m c main_arg1 _ = _
  rw [V_main_arg1]
  refine eq_at2_of (m ((c : Thread nD τ).loc main_arg1)) _ ?_ ?_
  · show win0_0.index t 0 * 1536 + 1 * r = 1536 * (0) + r
    rw [hi.1]; ring
  · show win0_0.index t 1 * 4096 + 1 * l = 4096 * (0) + l
    rw [hi.2]; ring

theorem index1 : ∀ t : Fin grid0.N, win0_1.index t 0 = 0 ∧ win0_1.index t 1 = 24 + (t.val - 8) := by decide +kernel

theorem blk1 (c : Dev nD) (t : Fin cfg0.N) {r l : ℕ} (hr : r < 2048) (hl : l < 256) :
    at2 (iblk m c 1 t : Vec Ideal S2048x256 .i8) r l = at2 (m ((c : Thread nD τ).loc main_arg3)) (2048 * (0) + r) (256 * (24 + (t.val - 8)) + l) := by
  have hi := index1 t
  rw [at2_of_lt _ hr hl]
  unfold iblk
  rw [View.read_apply]
  show V m c main_arg3 _ = _
  rw [V_main_arg3]
  refine eq_at2_of (m ((c : Thread nD τ).loc main_arg3)) _ ?_ ?_
  · show win0_1.index t 0 * 2048 + 1 * r = 2048 * (0) + r
    rw [hi.1]; ring
  · show win0_1.index t 1 * 256 + 1 * l = 256 * (24 + (t.val - 8)) + l
    rw [hi.2]; ring

theorem index2 : ∀ t : Fin grid0.N, win0_2.index t 0 = 0 ∧ win0_2.index t 1 = 80 + (t.val - 8) := by decide +kernel

theorem blk2 (c : Dev nD) (t : Fin cfg0.N) {r l : ℕ} (hr : r < 2048) (hl : l < 256) :
    at2 (iblk m c 2 t : Vec Ideal S2048x256 .i8) r l = at2 (m ((c : Thread nD τ).loc main_arg3)) (2048 * (0) + r) (256 * (80 + (t.val - 8)) + l) := by
  have hi := index2 t
  rw [at2_of_lt _ hr hl]
  unfold iblk
  rw [View.read_apply]
  show V m c main_arg3 _ = _
  rw [V_main_arg3]
  refine eq_at2_of (m ((c : Thread nD τ).loc main_arg3)) _ ?_ ?_
  · show win0_2.index t 0 * 2048 + 1 * r = 2048 * (0) + r
    rw [hi.1]; ring
  · show win0_2.index t 1 * 256 + 1 * l = 256 * (80 + (t.val - 8)) + l
    rw [hi.2]; ring

theorem index3 : ∀ t : Fin grid0.N, win0_3.index t 0 = t.val - 8 ∧ win0_3.index t 1 = 0 := by decide +kernel

theorem blk3 (c : Dev nD) (t : Fin cfg0.N) {r l : ℕ} (hr : r < 128) (hl : l < 4096) :
    at2 (iblk m c 3 t : Vec Ideal S128x4096 .i8) r l = at2 (m ((c : Thread nD τ).loc main_arg7)) (128 * (t.val - 8) + r) (4096 * (0) + l) := by
  have hi := index3 t
  rw [at2_of_lt _ hr hl]
  unfold iblk
  rw [View.read_apply]
  show V m c main_arg7 _ = _
  rw [V_main_arg7]
  refine eq_at2_of (m ((c : Thread nD τ).loc main_arg7)) _ ?_ ?_
  · show win0_3.index t 0 * 128 + 1 * r = 128 * (t.val - 8) + r
    rw [hi.1]; ring
  · show win0_3.index t 1 * 4096 + 1 * l = 4096 * (0) + l
    rw [hi.2]; ring

theorem index4 : ∀ t : Fin grid0.N, win0_4.index t 0 = 0 ∧ win0_4.index t 1 = 24 + (t.val - 8) := by decide +kernel

theorem blk4 (c : Dev nD) (t : Fin cfg0.N) {r l : ℕ} (hr : r < 32) (hl : l < 256) :
    at2 (iblk m c 4 t : Vec Ideal S32x256 .f32) r l = at2 (m ((c : Thread nD τ).loc main_arg4)) (32 * (0) + r) (256 * (24 + (t.val - 8)) + l) := by
  have hi := index4 t
  rw [at2_of_lt _ hr hl]
  unfold iblk
  rw [View.read_apply]
  show V m c main_arg4 _ = _
  rw [V_main_arg4]
  refine eq_at2_of (m ((c : Thread nD τ).loc main_arg4)) _ ?_ ?_
  · show win0_4.index t 0 * 32 + 1 * r = 32 * (0) + r
    rw [hi.1]; ring
  · show win0_4.index t 1 * 256 + 1 * l = 256 * (24 + (t.val - 8)) + l
    rw [hi.2]; ring

theorem index5 : ∀ t : Fin grid0.N, win0_5.index t 0 = 0 ∧ win0_5.index t 1 = 80 + (t.val - 8) := by decide +kernel

theorem blk5 (c : Dev nD) (t : Fin cfg0.N) {r l : ℕ} (hr : r < 32) (hl : l < 256) :
    at2 (iblk m c 5 t : Vec Ideal S32x256 .f32) r l = at2 (m ((c : Thread nD τ).loc main_arg4)) (32 * (0) + r) (256 * (80 + (t.val - 8)) + l) := by
  have hi := index5 t
  rw [at2_of_lt _ hr hl]
  unfold iblk
  rw [View.read_apply]
  show V m c main_arg4 _ = _
  rw [V_main_arg4]
  refine eq_at2_of (m ((c : Thread nD τ).loc main_arg4)) _ ?_ ?_
  · show win0_5.index t 0 * 32 + 1 * r = 32 * (0) + r
    rw [hi.1]; ring
  · show win0_5.index t 1 * 256 + 1 * l = 256 * (80 + (t.val - 8)) + l
    rw [hi.2]; ring

theorem index7 : ∀ t : Fin grid0.N, win0_7.index t 0 = 0 ∧ win0_7.index t 1 = min t.val 7 := by decide +kernel

theorem blk7 (c : Dev nD) (t : Fin cfg0.N) {r l : ℕ} (hr : r < 1536) (hl : l < 512) :
    at2 (iblk m c 7 t : Vec Ideal S1536x512 .bf16) r l = at2 (m ((c : Thread nD τ).loc main_arg2)) (1536 * (0) + r) (512 * (min t.val 7) + l) := by
  have hi := index7 t
  rw [at2_of_lt _ hr hl]
  unfold iblk
  rw [View.read_apply]
  show V m c main_arg2 _ = _
  rw [V_main_arg2]
  refine eq_at2_of (m ((c : Thread nD τ).loc main_arg2)) _ ?_ ?_
  · show win0_7.index t 0 * 1536 + 1 * r = 1536 * (0) + r
    rw [hi.1]; ring
  · show win0_7.index t 1 * 512 + 1 * l = 512 * (min t.val 7) + l
    rw [hi.2]; ring

theorem index8 : ∀ t : Fin grid0.N, win0_8.index t 0 = min t.val 7 ∧ win0_8.index t 1 = 0 := by decide +kernel

theorem blk8 (c : Dev nD) (t : Fin cfg0.N) {r l : ℕ} (hr : r < 256) (hl : l < 4096) :
    at2 (iblk m c 8 t : Vec Ideal S256x4096 .i8) r l = at2 (m ((c : Thread nD τ).loc main_arg5)) (256 * (min t.val 7) + r) (4096 * (0) + l) := by
  have hi := index8 t
  rw [at2_of_lt _ hr hl]
  unfold iblk
  rw [View.read_apply]
  show V m c main_arg5 _ = _
  rw [V_main_arg5]
  refine eq_at2_of (m ((c : Thread nD τ).loc main_arg5)) _ ?_ ?_
  · show win0_8.index t 0 * 256 + 1 * r = 256 * (min t.val 7) + r
    rw [hi.1]; ring
  · show win0_8.index t 1 * 4096 + 1 * l = 4096 * (0) + l
    rw [hi.2]; ring

theorem cast6 (A : S112x4096.Idx → EReal) (y : S56x2x4096.Idx) {r l : ℕ} (hr : (y 0).val * 2 + (y 1).val = r) (hl : (y 2).val = l) :
    shapeCast S56x2x4096 A shapeCasts_S112x4096_S56x2x4096 y = at2 A r l := by
  have h0 : (y 0).val < 56 := (y 0).isLt
  have h1 : (y 1).val < 2 := (y 1).isLt
  have h2 : (y 2).val < 4096 := (y 2).isLt
  subst hr hl
  refine (shapeCast_apply A shapeCasts_S112x4096_S56x2x4096 y
    (ix2 (⟨(y 0).val * 2 + (y 1).val, by omega⟩ : Fin 112) (⟨(y 2).val, h2⟩ : Fin 4096)) ?_).trans (eq_at2 _ _ _)
  rw [Shape.rowMajor_val_three, Shape.rowMajor_val_two]
  rfl

theorem V_main_v0 (c : Dev nD) : V m c main_v0 = shapeCast S56x2x4096 (m ((c : Thread nD τ).loc main_arg8)) shapeCasts_S112x4096_S56x2x4096 := by
  show StableHlo.after hostOps0 _ (Proc.devRef .tc main_v0) = _
  after_results
  rfl

theorem index6 : ∀ t : Fin grid0.N, win0_6.index t 0 = t.val - 8 ∧ win0_6.index t 1 = 0 ∧ win0_6.index t 2 = 0 := by decide +kernel

theorem blk6 (c : Dev nD) (t : Fin cfg0.N) {g l : ℕ} (hg : g < 2) (hl : l < 4096) :
    at2 (M := 2) (N := 4096) (fun i => (iblk m c 6 t : Vec Ideal S1x2x4096 .f32) (ix3 0 (i 0) (i 1))) g l
      = at2 (m ((c : Thread nD τ).loc main_arg8)) (2 * (t.val - 8) + g) l := by
  have hi := index6 t
  have hN : cfg0.N = 64 := N_0
  have ht := t.isLt
  rw [at2_of_lt _ hg hl]
  unfold iblk
  rw [View.read_apply]
  show V m c main_v0 _ = _
  rw [V_main_v0]
  have hn : t.val - 8 < 56 := by omega
  refine cast6 (m ((c : Thread nD τ).loc main_arg8)) _ (show ((win0_6.index t 0 * 1 + 1 * 0) * 2 + (win0_6.index t 1 * 2 + 1 * g)) = 2 * (t.val - 8) + g from ?_)
    (show win0_6.index t 2 * 4096 + 1 * l = l from ?_)
  · rw [hi.1, hi.2.1]; ring
  · rw [hi.2.2]; ring

theorem cast9 (A : S32x4096.Idx → EReal) (y : S8x4x4096.Idx) {r l : ℕ} (hr : (y 0).val * 4 + (y 1).val = r) (hl : (y 2).val = l) :
    shapeCast S8x4x4096 A shapeCasts_S32x4096_S8x4x4096 y = at2 A r l := by
  have h0 : (y 0).val < 8 := (y 0).isLt
  have h1 : (y 1).val < 4 := (y 1).isLt
  have h2 : (y 2).val < 4096 := (y 2).isLt
  subst hr hl
  refine (shapeCast_apply A shapeCasts_S32x4096_S8x4x4096 y
    (ix2 (⟨(y 0).val * 4 + (y 1).val, by omega⟩ : Fin 32) (⟨(y 2).val, h2⟩ : Fin 4096)) ?_).trans (eq_at2 _ _ _)
  rw [Shape.rowMajor_val_three, Shape.rowMajor_val_two]
  rfl

theorem V_main_v1 (c : Dev nD) : V m c main_v1 = shapeCast S8x4x4096 (m ((c : Thread nD τ).loc main_arg6)) shapeCasts_S32x4096_S8x4x4096 := by
  show StableHlo.after hostOps0 _ (Proc.devRef .tc main_v1) = _
  after_results
  rfl

theorem index9 : ∀ t : Fin grid0.N, win0_9.index t 0 = min t.val 7 ∧ win0_9.index t 1 = 0 ∧ win0_9.index t 2 = 0 := by decide +kernel

theorem blk9 (c : Dev nD) (t : Fin cfg0.N) {g l : ℕ} (hg : g < 4) (hl : l < 4096) :
    at2 (M := 4) (N := 4096) (fun i => (iblk m c 9 t : Vec Ideal S1x4x4096 .f32) (ix3 0 (i 0) (i 1))) g l
      = at2 (m ((c : Thread nD τ).loc main_arg6)) (4 * (min t.val 7) + g) l := by
  have hi := index9 t
  have hN : cfg0.N = 64 := N_0
  have ht := t.isLt
  rw [at2_of_lt _ hg hl]
  unfold iblk
  rw [View.read_apply]
  show V m c main_v1 _ = _
  rw [V_main_v1]
  have hn : min t.val 7 < 8 := by omega
  refine cast9 (m ((c : Thread nD τ).loc main_arg6)) _ (show ((win0_9.index t 0 * 1 + 1 * 0) * 4 + (win0_9.index t 1 * 4 + 1 * g)) = 4 * (min t.val 7) + g from ?_)
    (show win0_9.index t 2 * 4096 + 1 * l = l from ?_)
  · rw [hi.1, hi.2.1]; ring
  · rw [hi.2.2]; ring

end Cert.KernelIdeal.Val
-- ==== Proof.Value.lean ====
module

public import proofs.«01_k».proof.Proof.StepA
public import proofs.«01_k».proof.Proof.StepD
public import proofs.«01_k».proof.Proof.Weights
public import proofs.«01_k».proof.Proof.Blocks

@[expose] public section

set_option maxRecDepth 16384

/-!
  What the kernel's result holds, over the extended reals: `acc_eq` is the accumulator after each grid point, by induction
  on the point; `kernel_run` is the result's array.
-/

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.Pointwise Cert.Packed

variable (m : (ℓ : Loc nD τ sig) → Buf (Elt Ideal) ℓ) (ρ : Dev nD → PrngReg)

/-- `outN` at the arguments' arrays. -/
def outM (c : Dev nD) (a b i j : ℕ) : EReal :=
  outN (at2 (m ((c : Thread nD τ).loc main_arg0))) (at2 (m ((c : Thread nD τ).loc main_arg1))) (at2 (m ((c : Thread nD τ).loc main_arg2)))
    (at2 (m ((c : Thread nD τ).loc main_arg3))) (at2 (m ((c : Thread nD τ).loc main_arg4))) (at2 (m ((c : Thread nD τ).loc main_arg5)))
    (at2 (m ((c : Thread nD τ).loc main_arg6))) (at2 (m ((c : Thread nD τ).loc main_arg7))) (at2 (m ((c : Thread nD τ).loc main_arg8))) a b i j

/-- The products of point `t` of the first eight are rows `512 t` to `512 t + 511` of the output projection. -/
theorem attn_sum (c : Dev nD) (t : Fin cfg0.N) (ht : t.val < 8) (acc : Vec Ideal S1536x4096 .f32) (r : Fin 1536) (l : Fin 4096)
    (h : acc (ix2 r l) = outM m c (512 * t.val) 0 r.val l.val) :
    attnStep acc (iblk m c 7 t) (iblk m c 8 t) (iblk m c 9 t) (ix2 r l) = outM m c (512 * (t.val + 1)) 0 r.val l.val := by
  have hm : min t.val 7 = t.val := by omega
  rw [attnStep_apply, h]
  unfold outM outN
  rw [Finset.range_zero, Finset.sum_empty, add_zero, add_zero, show 512 * (t.val + 1) = 512 * t.val + 512 by ring, Finset.sum_range_add, ← add_assoc]
  refine congrArg _ (Finset.sum_congr rfl fun k hk => ?_)
  have hk : k < 512 := Finset.mem_range.mp hk
  rw [blk7 m c t r.isLt hk, hm, show 1536 * 0 + r.val = r.val by ring,
    show 512 * t.val + k = 128 * (4 * t.val) + k by ring]
  refine congrArg _ (wN_shift ?_ ?_)
  · rw [blk8 m c t (by omega) l.isLt, hm, show 4096 * 0 + l.val = l.val by ring, show 256 * t.val + k / 2 = 64 * (4 * t.val) + k / 2 by ring]
  · rw [blk9 m c t (by omega) l.isLt, hm]

/-- The hidden columns of point `t` of the others. -/
theorem hid_blk (c : Dev nD) (t : Fin cfg0.N) (ht : 8 ≤ t.val) (r : Fin 1536) (k : Fin 256) :
    hid (iblk m c 0 t) (iblk m c 1 t) (iblk m c 2 t) (iblk m c 4 t) (iblk m c 5 t) (ix2 r k)
      = hidN (at2 (m ((c : Thread nD τ).loc main_arg1))) (at2 (m ((c : Thread nD τ).loc main_arg3))) (at2 (m ((c : Thread nD τ).loc main_arg4)))
        r.val (256 * (t.val - 8) + k.val) := by
  have e1 : proj (iblk m c 0 t) (iblk m c 1 t) (iblk m c 4 t) (ix2 r k)
      = projN (at2 (m ((c : Thread nD τ).loc main_arg1))) (at2 (m ((c : Thread nD τ).loc main_arg3))) (at2 (m ((c : Thread nD τ).loc main_arg4)))
        r.val (6144 + (256 * (t.val - 8) + k.val)) := by
    rw [proj_apply]
    refine Finset.sum_congr rfl fun q hq => ?_
    have hq : q < 4096 := Finset.mem_range.mp hq
    rw [blk0 m c t r.isLt hq, show 1536 * 0 + r.val = r.val by ring, show 4096 * 0 + q = q by ring]
    refine congrArg _ ?_
    have := wN_shift (P := at2 (m ((c : Thread nD τ).loc main_arg3))) (S := at2 (m ((c : Thread nD τ).loc main_arg4))) (q := 0) (k := q)
      (n := 6144 + (256 * (t.val - 8) + k.val))
      ((blk1 m c t (by omega) k.isLt).trans (by congr 1 <;> ring)) ((blk4 m c t (by omega) k.isLt).trans (by congr 1 <;> ring))
    rwa [show 128 * 0 + q = q by ring] at this
  have e2 : proj (iblk m c 0 t) (iblk m c 2 t) (iblk m c 5 t) (ix2 r k)
      = projN (at2 (m ((c : Thread nD τ).loc main_arg1))) (at2 (m ((c : Thread nD τ).loc main_arg3))) (at2 (m ((c : Thread nD τ).loc main_arg4)))
        r.val (20480 + (256 * (t.val - 8) + k.val)) := by
    rw [proj_apply]
    refine Finset.sum_congr rfl fun q hq => ?_
    have hq : q < 4096 := Finset.mem_range.mp hq
    rw [blk0 m c t r.isLt hq, show 1536 * 0 + r.val = r.val by ring, show 4096 * 0 + q = q by ring]
    refine congrArg _ ?_
    have := wN_shift (P := at2 (m ((c : Thread nD τ).loc main_arg3))) (S := at2 (m ((c : Thread nD τ).loc main_arg4))) (q := 0) (k := q)
      (n := 20480 + (256 * (t.val - 8) + k.val))
      ((blk2 m c t (by omega) k.isLt).trans (by congr 1 <;> ring)) ((blk5 m c t (by omega) k.isLt).trans (by congr 1 <;> ring))
    rwa [show 128 * 0 + q = q by ring] at this
  rw [hid_apply, e1, e2]
  rfl

/-- The products of point `t` of the others are rows `256 (t - 8)` to `256 (t - 8) + 255` of the down projection. -/
theorem mlp_sum (c : Dev nD) (t : Fin cfg0.N) (ht : 8 ≤ t.val) (acc : Vec Ideal S1536x4096 .f32) (r : Fin 1536) (l : Fin 4096)
    (h : acc (ix2 r l) = outM m c 4096 (256 * (t.val - 8)) r.val l.val) :
    mlpStep acc (iblk m c 0 t) (iblk m c 1 t) (iblk m c 2 t) (iblk m c 3 t) (iblk m c 4 t) (iblk m c 5 t) (iblk m c 6 t) (ix2 r l)
      = outM m c 4096 (256 * (t.val - 8 + 1)) r.val l.val := by
  rw [mlpStep_apply, h]
  unfold outM outN
  rw [show 256 * (t.val - 8 + 1) = 256 * (t.val - 8) + 256 by ring, Finset.sum_range_add, ← add_assoc,
    Finset.sum_range (n := 256)]
  refine congrArg _ (Finset.sum_congr rfl fun k _ => ?_)
  have hk := k.isLt
  rw [hid_blk m c t ht]
  refine congrArg _ ?_
  rw [show 256 * (t.val - 8) + k.val = 128 * (2 * (t.val - 8)) + k.val by ring]
  refine wN_shift ?_ ?_
  · rw [blk3 m c t (by omega) l.isLt, show 4096 * 0 + l.val = l.val by ring, show 128 * (t.val - 8) + k.val / 2 = 64 * (2 * (t.val - 8)) + k.val / 2 by ring]
  · rw [blk6 m c t (by omega) l.isLt]

/-- The accumulator after each point but the last. -/
theorem acc_eq (c : Dev nD) (r : Fin 1536) (l : Fin 4096) : ∀ (n : ℕ) (hn : n < cfg0.N), n < 63 →
    outsAt0 m c n hn (ix2 r l) = outM m c (512 * min (n + 1) 8) (256 * (n + 1 - 8)) r.val l.val
  | 0, hn, _ => by
    rw [outsAt0_A m c ⟨0, hn⟩ rfl (show 0 < 8 by omega) (show ¬ 8 ≤ 0 by omega) (show ¬ 0 % 64 = 63 by omega), sout_A]
    refine (attn_sum m c ⟨0, hn⟩ (by show 0 < 8; omega) _ r l ?_).trans rfl
    rw [V_main_arg0]
    unfold outM outN
    simp only [Nat.mul_zero, Finset.range_zero, Finset.sum_empty, add_zero]
    exact eq_at2 (m ((c : Thread nD τ).loc main_arg0)) r l
  | n + 1, hn, h63 => by
    have ih := acc_eq c r l n (Nat.lt_of_succ_lt hn) (by omega)
    by_cases h8 : n + 1 < 8
    · rw [outsAt0_B m c ⟨n + 1, hn⟩ (by dsimp only; omega) h8 (by dsimp only; omega) (by dsimp only; omega), sout_B]
      refine (attn_sum m c ⟨n + 1, hn⟩ h8 _ r l ?_).trans ?_
      · refine ih.trans ?_
        rw [show min (n + 1) 8 = n + 1 by omega, show n + 1 - 8 = 0 by omega]
      · rw [show min (n + 1 + 1) 8 = n + 1 + 1 by omega, show n + 1 + 1 - 8 = 0 by omega]
    · rw [outsAt0_C m c ⟨n + 1, hn⟩ (by dsimp only; omega) h8 (by dsimp only; omega) (by dsimp only; omega), sout_C]
      refine (mlp_sum m c ⟨n + 1, hn⟩ (by dsimp only; omega) _ r l ?_).trans ?_
      · refine ih.trans ?_
        rw [show min (n + 1) 8 = 8 by omega]
      · rw [show min (n + 1 + 1) 8 = 8 by omega, show n + 1 + 1 - 8 = n + 1 - 8 + 1 by omega]

/-- The result's array: every entry is the residual plus the whole of both products. -/
def resK (c : Dev nD) : Buf (Elt Ideal) ((c : Thread nD τ).loc main_v2) := fun i => outM m c 4096 14336 (i 0).val (i 1).val

theorem truncf_at (X : Vec Ideal S1536x4096 .f32) (i : S1536x4096.Idx) : truncf (F := Ideal) .bf16 X bitsLt_bf16_f32 i = X i := rfl

theorem last_eq (c : Dev nD) (e : Vec Ideal S64x4096 .bf16) (f : HbBuf0 (F := Ideal) c hbM0_1) : lastOut m c e f = resK m c := by
  unfold lastOut
  rw [out_D]
  funext i
  refine (truncf_at _ i).trans ?_
  have hi : i = ix2 (i 0) (i 1) := eq_ix2 i
  refine (congrArg _ hi).trans ?_
  exact mlp_sum m c tLast (show 8 ≤ 63 by omega) _ (i 0) (i 1) (acc_eq m c (i 0) (i 1) 62 _ (by omega))

/-- The kernel's run: its result holds `resK`. -/
theorem kernel_run : θ_run defs (onTc (main (F := Ideal))) ⟨m, fun _ => 0, ρ⟩ (fun r => ∀ c, r.2.mem ((c.tc).loc main_v2) = resK m c) :=
  run_res m ρ (resK m) (last_eq m)

end Cert.KernelIdeal.Val
-- ==== Proof.RefVal.lean ====
module

public import proofs.«01_k».proof.Proof.Packed
public import proofs.«01_k».proof.Proof.Gen.ReferenceIdeal.Run
public import proofs.«01_k».proof.Proof.Gen.ReferenceIdeal.Read
public import Idealize.ShloMosaic.Lib.IdealHost

@[expose] public section

/-!
  The reference, read at an index: its result is `outN` of its arguments (`ref_apply`).
-/

noncomputable section

namespace Cert.ReferenceIdeal.Val

open Cert.ReferenceIdeal Cert.ReferenceIdeal.Gen Cert.ReferenceIdeal.Read Idealize.ShloMosaic Idealize.ShloMosaic.StableHlo Cert.Packed

/-- Every second column of an array of rank two, from column `s` on. -/
theorem slice2_apply {M N N' s : ℕ} [NeZero M] [NeZero N] (A : (⟨2, ![M, N]⟩ : Shape).Idx → EReal)
    (h : (⟨2, ![M, N]⟩ : Shape).SlicesBy ![0, s] ![1, 2] ⟨2, ![M, N']⟩) (i : (⟨2, ![M, N']⟩ : Shape).Idx) {r k : ℕ} (hr : (i 0).val = r)
    (hk : (i 1).val = k) : Host.slice ⟨2, ![M, N']⟩ ![0, s] ![1, 2] A h i = at2 A r (2 * k + s) := by
  subst hr hk
  unfold Host.slice
  refine eq_at2_of A _ ?_ ?_
  · show 0 + 1 * (i 0).val = (i 0).val
    omega
  · show s + 2 * (i 1).val = 2 * (i 1).val + s
    omega

/-- The repeated scales of the input projection. -/
theorem wi_scale (x4 : (⟨S32x34816, .f32⟩ : BufTy).Contents (Elt Ideal)) (i : S2048x34816.Idx) :
    val_main_v3 (F := Ideal) x4 i = at2 x4 ((i 0).val / 64) (i 1).val := by
  rw [val_main_v3_apply, val_main_v2_apply, val_main_v1_apply]
  have h1 : (i 1).val < 34816 := (i 1).isLt
  refine eq_at2_of x4 _ ?_ ?_
  · show ((i 0).val * 34816 + (i 1).val) / 2228224 = (i 0).val / 64
    omega
  · show ((i 0).val * 34816 + (i 1).val) % 34816 = (i 1).val
    omega

/-- The weights of the input projection in the low halves. -/
theorem wi_low (x3 : (⟨S2048x34816, .i8⟩ : BufTy).Contents (Elt Ideal)) (x4 : (⟨S32x34816, .f32⟩ : BufTy).Contents (Elt Ideal)) (i : S2048x34816.Idx) :
    val_main_v10 (F := Ideal) x3 x4 i
      = lo (at2 x3 (i 0).val (i 1).val) * at2 x4 ((i 0).val / 64) (i 1).val := by
  rw [val_main_v10_apply, wi_scale]
  refine congrArg (· * _) ?_
  rw [← eq_at2_of x3 i rfl rfl]
  rfl

/-- The weights of the input projection in the high halves. -/
theorem wi_high (x3 : (⟨S2048x34816, .i8⟩ : BufTy).Contents (Elt Ideal)) (x4 : (⟨S32x34816, .f32⟩ : BufTy).Contents (Elt Ideal)) (i : S2048x34816.Idx) :
    val_main_v16 (F := Ideal) x3 x4 i
      = hi (at2 x3 (i 0).val (i 1).val) * at2 x4 ((i 0).val / 64) (i 1).val := by
  rw [val_main_v16_apply, wi_scale]
  refine congrArg (· * _) ?_
  rw [← eq_at2_of x3 i rfl rfl]
  rfl

/-- The repeated scales of the output projection. -/
theorem wo_scale (x6 : (⟨S32x4096, .f32⟩ : BufTy).Contents (Elt Ideal)) (i : S2048x4096.Idx) :
    val_main_v29 (F := Ideal) x6 i = at2 x6 ((i 0).val / 64) (i 1).val := by
  rw [val_main_v29_apply, val_main_v28_apply, val_main_v27_apply]
  have h1 : (i 1).val < 4096 := (i 1).isLt
  refine eq_at2_of x6 _ ?_ ?_
  · show ((i 0).val * 4096 + (i 1).val) / 262144 = (i 0).val / 64
    omega
  · show ((i 0).val * 4096 + (i 1).val) % 4096 = (i 1).val
    omega

/-- The weights of the output projection in the low halves. -/
theorem wo_low (x5 : (⟨S2048x4096, .i8⟩ : BufTy).Contents (Elt Ideal)) (x6 : (⟨S32x4096, .f32⟩ : BufTy).Contents (Elt Ideal)) (i : S2048x4096.Idx) :
    val_main_v36 (F := Ideal) x5 x6 i
      = lo (at2 x5 (i 0).val (i 1).val) * at2 x6 ((i 0).val / 64) (i 1).val := by
  rw [val_main_v36_apply, wo_scale]
  refine congrArg (· * _) ?_
  rw [← eq_at2_of x5 i rfl rfl]
  rfl

/-- The weights of the output projection in the high halves. -/
theorem wo_high (x5 : (⟨S2048x4096, .i8⟩ : BufTy).Contents (Elt Ideal)) (x6 : (⟨S32x4096, .f32⟩ : BufTy).Contents (Elt Ideal)) (i : S2048x4096.Idx) :
    val_main_v42 (F := Ideal) x5 x6 i
      = hi (at2 x5 (i 0).val (i 1).val) * at2 x6 ((i 0).val / 64) (i 1).val := by
  rw [val_main_v42_apply, wo_scale]
  refine congrArg (· * _) ?_
  rw [← eq_at2_of x5 i rfl rfl]
  rfl

/-- The repeated scales of the down projection. -/
theorem wd_scale (x8 : (⟨S112x4096, .f32⟩ : BufTy).Contents (Elt Ideal)) (i : S7168x4096.Idx) :
    val_main_v53 (F := Ideal) x8 i = at2 x8 ((i 0).val / 64) (i 1).val := by
  rw [val_main_v53_apply, val_main_v52_apply, val_main_v51_apply]
  have h1 : (i 1).val < 4096 := (i 1).isLt
  refine eq_at2_of x8 _ ?_ ?_
  · show ((i 0).val * 4096 + (i 1).val) / 262144 = (i 0).val / 64
    omega
  · show ((i 0).val * 4096 + (i 1).val) % 4096 = (i 1).val
    omega

/-- The weights of the down projection in the low halves. -/
theorem wd_low (x7 : (⟨S7168x4096, .i8⟩ : BufTy).Contents (Elt Ideal)) (x8 : (⟨S112x4096, .f32⟩ : BufTy).Contents (Elt Ideal)) (i : S7168x4096.Idx) :
    val_main_v60 (F := Ideal) x7 x8 i
      = lo (at2 x7 (i 0).val (i 1).val) * at2 x8 ((i 0).val / 64) (i 1).val := by
  rw [val_main_v60_apply, wd_scale]
  refine congrArg (· * _) ?_
  rw [← eq_at2_of x7 i rfl rfl]
  rfl

/-- The weights of the down projection in the high halves. -/
theorem wd_high (x7 : (⟨S7168x4096, .i8⟩ : BufTy).Contents (Elt Ideal)) (x8 : (⟨S112x4096, .f32⟩ : BufTy).Contents (Elt Ideal)) (i : S7168x4096.Idx) :
    val_main_v66 (F := Ideal) x7 x8 i
      = hi (at2 x7 (i 0).val (i 1).val) * at2 x8 ((i 0).val / 64) (i 1).val := by
  rw [val_main_v66_apply, wd_scale]
  refine congrArg (· * _) ?_
  rw [← eq_at2_of x7 i rfl rfl]
  rfl

/-- The input projection. -/
theorem proj_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (i : S1536x34816.Idx) :
    val_main_v21 (F := Ideal) x1 x3 x4 i
      = ∑ k ∈ Finset.range 4096, at2 (x1) (i 0).val k * wN (at2 x3) (at2 x4) k (i 1).val := by
  rw [val_main_v21_apply, val_main_v18_apply, val_main_v20_apply]
  refine Eq.trans ?_ (dot_pairs (at2 (x1) (i 0).val) _ _ _ 2048).symm
  rw [Finset.sum_range, Finset.sum_range]
  refine congrArg₂ (· + ·) (Finset.sum_congr rfl fun k _ => ?_) (Finset.sum_congr rfl fun k _ => ?_)
  · exact congrArg₂ (· * ·) (slice2_apply (s := 0) _ _ _ rfl rfl) (wi_low x3 x4 _)
  · exact congrArg₂ (· * ·) (slice2_apply (s := 1) _ _ _ rfl rfl) (wi_high x3 x4 _)

/-- The output projection. -/
theorem attn_eq (x2 : (⟨S1536x4096, .bf16⟩ : BufTy).Contents (Elt Ideal)) (x5 : (⟨S2048x4096, .i8⟩ : BufTy).Contents (Elt Ideal)) (x6 : (⟨S32x4096, .f32⟩ : BufTy).Contents (Elt Ideal)) (i : S1536x4096.Idx) :
    val_main_v47 (F := Ideal) x2 x5 x6 i
      = ∑ k ∈ Finset.range 4096, at2 (x2) (i 0).val k * wN (at2 x5) (at2 x6) k (i 1).val := by
  rw [val_main_v47_apply, val_main_v44_apply, val_main_v46_apply]
  refine Eq.trans ?_ (dot_pairs (at2 (x2) (i 0).val) _ _ _ 2048).symm
  rw [Finset.sum_range, Finset.sum_range]
  refine congrArg₂ (· + ·) (Finset.sum_congr rfl fun k _ => ?_) (Finset.sum_congr rfl fun k _ => ?_)
  · exact congrArg₂ (· * ·) (slice2_apply (s := 0) _ _ _ rfl rfl) (wo_low x5 x6 _)
  · exact congrArg₂ (· * ·) (slice2_apply (s := 1) _ _ _ rfl rfl) (wo_high x5 x6 _)

/-- The gate columns. -/
theorem gate_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (i : S1536x14336.Idx) :
    val_main_v25 (F := Ideal) x1 x3 x4 i = projN (at2 x1) (at2 x3) (at2 x4) (i 0).val (6144 + (i 1).val) := by
  rw [val_main_v25_apply, proj_eq]
  rfl

/-- The up columns. -/
theorem up_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (i : S1536x14336.Idx) :
    val_main_v26 (F := Ideal) x1 x3 x4 i = projN (at2 x1) (at2 x3) (at2 x4) (i 0).val (20480 + (i 1).val) := by
  rw [val_main_v26_apply, proj_eq]
  rfl

/-- One over one plus the exponential of the negated gate is its logistic. -/
theorem sigmoid_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (i : S1536x14336.Idx) :
    val_main_call0_v5 (F := Ideal) x1 x3 x4 i = Ideal.logistic (val_main_v25 (F := Ideal) x1 x3 x4 i) := by
  rw [val_main_call0_v5_apply, val_main_call0_v4_apply, val_main_call0_cst_0_apply, val_main_call0_v3_apply,
    val_main_call0_v2_apply, val_main_call0_cst_apply, val_main_call0_v1_apply, val_main_call0_v0_apply]
  show Ideal.div (Ideal.ofBits .f32 0x3F800000#32) (Ideal.ofBits .f32 0x3F800000#32 + Ideal.exp (-_)) = _
  rw [Ideal.ofBits_one_f32]
  rfl

/-- The gated hidden activations. -/
theorem hid_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (i : S1536x14336.Idx) :
    val_main_v50 (F := Ideal) x1 x3 x4 i = hidN (at2 x1) (at2 x3) (at2 x4) (i 0).val (i 1).val := by
  rw [val_main_v50_apply, val_main_v49_apply, val_main_v48_apply, sigmoid_eq, gate_eq, up_eq]
  rfl

/-- The hidden activations read at natural numbers in range. -/
theorem hid_at (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) {r k : ℕ} (hr : r < 1536) (hk : k < 14336) :
    at2 (val_main_v50 (F := Ideal) x1 x3 x4) r k = hidN (at2 x1) (at2 x3) (at2 x4) r k := by
  rw [at2_of_lt _ hr hk]
  exact hid_eq x1 x3 x4 _

/-- The down projection. -/
theorem down_eq (x1 : (⟨S1536x4096, .bf16⟩ : BufTy).Contents (Elt Ideal)) (x3 : (⟨S2048x34816, .i8⟩ : BufTy).Contents (Elt Ideal)) (x4 : (⟨S32x34816, .f32⟩ : BufTy).Contents (Elt Ideal)) (x7 : (⟨S7168x4096, .i8⟩ : BufTy).Contents (Elt Ideal)) (x8 : (⟨S112x4096, .f32⟩ : BufTy).Contents (Elt Ideal)) (i : S1536x4096.Idx) :
    val_main_v71 (F := Ideal) x1 x3 x4 x7 x8 i
      = ∑ k ∈ Finset.range 14336, at2 (val_main_v50 (F := Ideal) x1 x3 x4) (i 0).val k * wN (at2 x7) (at2 x8) k (i 1).val := by
  rw [val_main_v71_apply, val_main_v68_apply, val_main_v70_apply]
  refine Eq.trans ?_ (dot_pairs (at2 (val_main_v50 (F := Ideal) x1 x3 x4) (i 0).val) _ _ _ 7168).symm
  rw [Finset.sum_range, Finset.sum_range]
  refine congrArg₂ (· + ·) (Finset.sum_congr rfl fun k _ => ?_) (Finset.sum_congr rfl fun k _ => ?_)
  · exact congrArg₂ (· * ·) (slice2_apply (s := 0) _ _ _ rfl rfl) (wd_low x7 x8 _)
  · exact congrArg₂ (· * ·) (slice2_apply (s := 1) _ _ _ rfl rfl) (wd_high x7 x8 _)

/-- The reference's result. -/
theorem ref_apply (x0 x1 x2 : (⟨S1536x4096, .bf16⟩ : BufTy).Contents (Elt Ideal)) (x3 : (⟨S2048x34816, .i8⟩ : BufTy).Contents (Elt Ideal)) (x4 : (⟨S32x34816, .f32⟩ : BufTy).Contents (Elt Ideal))
    (x5 : (⟨S2048x4096, .i8⟩ : BufTy).Contents (Elt Ideal)) (x6 : (⟨S32x4096, .f32⟩ : BufTy).Contents (Elt Ideal)) (x7 : (⟨S7168x4096, .i8⟩ : BufTy).Contents (Elt Ideal)) (x8 : (⟨S112x4096, .f32⟩ : BufTy).Contents (Elt Ideal)) (i : S1536x4096.Idx) :
    val_main_v74 (F := Ideal) x0 x1 x2 x3 x4 x5 x6 x7 x8 i
      = outN (at2 x0) (at2 x1) (at2 x2) (at2 x3) (at2 x4) (at2 x5) (at2 x6) (at2 x7) (at2 x8) 4096 14336 (i 0).val (i 1).val := by
  rw [val_main_v74_apply, val_main_v73_apply, val_main_v72_apply, attn_eq, down_eq, val_main_v0_apply]
  have hd : ∀ k ∈ Finset.range 14336, at2 (val_main_v50 (F := Ideal) x1 x3 x4) (i 0).val k * wN (at2 x7) (at2 x8) k (i 1).val
      = hidN (at2 x1) (at2 x3) (at2 x4) (i 0).val k * wN (at2 x7) (at2 x8) k (i 1).val := fun k hk =>
    congrArg (· * _) (hid_at x1 x3 x4 (i 0).isLt (Finset.mem_range.mp hk))
  rw [Finset.sum_congr rfl hd]
  unfold outN
  rw [← eq_at2_of x0 i rfl rfl]
  show (_ + _ : EReal) + x0 i = x0 i + _ + _
  rw [add_comm _ (x0 i), add_assoc (x0 i)]

end Cert.ReferenceIdeal.Val
-- ==== Proof.QkvSteps.lean ====
module

public import proofs.«01_k».proof.Proof.Gen.KernelQkvIdeal.Frame
public import Idealize.ShloMosaic.Lib.Pipeline.Value
public import Idealize.ShloMosaic.Lib.Pointwise
public import Idealize.ShloMosaic.Lib.Tactic

@[expose] public section

set_option maxRecDepth 16384

/-!
  What the q, k and v call's body leaves in its three result blocks at one grid point, written as whole-array operations.

  `pc512`, `pc128`: one group of 128 weight rows, from 64 rows of packed bytes and one row of scales.
  `W512`, `W128`: the groups of a block of weights, stacked.
  `rot`: the rotary embedding of one head.
  `qHead`, `kBlock`, `vBlock`: one head of q, and the block of k and of v.
-/

noncomputable section

namespace Cert.KernelQkvIdeal.Val

open Cert.KernelQkvIdeal Cert.KernelQkvIdeal.Gen
open Idealize.ShloMosaic Idealize.ShloMosaic.TcCoe Idealize.ShloMosaic.Tactic Idealize.ShloMosaic.Pointwise

variable {F : FTy → Type} [FloatOps F]

theorem hz : (![0, 0] : Fin 2 → Nat) = fun _ => 0 := funext fun a => by fin_cases a <;> rfl

/-- 64 rows of packed bytes unpacked to 128 rows of 4-bit integers: the low halves of a row, then its high halves. -/
def nib512 (b : Vec F S64x512 .i8) : IVec S128x512 4 :=
  trunci 4 (shapeCast S128x512 (concatenate S64x2x512 1
    [⟨S64x1x512, shapeCast S64x1x512 (shrsi (shli (extui 32 b natLt_8_32) (broadcast S64x512 28#32)) (broadcast S64x512 28#32)) shapeCasts_S64x512_S64x1x512⟩,
     ⟨S64x1x512, shapeCast S64x1x512 (shrsi (shli (extui 32 b natLt_8_32) (broadcast S64x512 24#32)) (broadcast S64x512 28#32)) shapeCasts_S64x512_S64x1x512⟩]
    concatenates_S64x1x512_S64x1x512_S64x2x512_d1) shapeCasts_S64x2x512_S128x512) natLt_4_32

/-- One group of 128 weight rows: the unpacked integers times their column's scale. -/
def pc512 (b : Vec F S64x512 .i8) (s : FVec F S1x512 .bf16) : FVec F S128x512 .bf16 :=
  mulf (sitofp .bf16 (nib512 (F := F) b)) (broadcastTo S128x512 s broadcasts_S1x512_S128x512)

theorem slices512 (g : Fin 32) : S2048x512.Slices ![64 * g.val, 0] S64x512 :=
  ⟨rfl, fun a => by match a with | ⟨0, _⟩ => (show 64 * g.val + 64 ≤ 2048; omega) | ⟨1, _⟩ => (show 0 + 512 ≤ 512; omega)⟩
theorem slicesS512 (g : Fin 32) : S32x512.Slices ![g.val, 0] S1x512 :=
  ⟨rfl, fun a => by match a with | ⟨0, _⟩ => (show g.val + 1 ≤ 32; omega) | ⟨1, _⟩ => (show 0 + 512 ≤ 512; omega)⟩

/-- A 4096 × 512 block of weights: 32 groups of 128 rows. -/
def W512 (b : Vec F S2048x512 .i8) (s : FVec F S32x512 .bf16) : FVec F S4096x512 .bf16 :=
  concatenate S4096x512 0
    (List.ofFn fun g : Fin 32 => (⟨S128x512, pc512 (extractStridedSlice S64x512 ![64 * g.val, 0] b (slices512 g))
      (extractStridedSlice S1x512 ![g.val, 0] s (slicesS512 g))⟩ : (s : Shape) × (s.Idx → F .bf16)))
    concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S4096x512_d0

/-- 64 rows of packed bytes unpacked to 128 rows of 4-bit integers: the low halves of a row, then its high halves. -/
def nib128 (b : Vec F S64x128 .i8) : IVec S128x128 4 :=
  trunci 4 (shapeCast S128x128 (concatenate S64x2x128 1
    [⟨S64x1x128, shapeCast S64x1x128 (shrsi (shli (extui 32 b natLt_8_32) (broadcast S64x128 28#32)) (broadcast S64x128 28#32)) shapeCasts_S64x128_S64x1x128⟩,
     ⟨S64x1x128, shapeCast S64x1x128 (shrsi (shli (extui 32 b natLt_8_32) (broadcast S64x128 24#32)) (broadcast S64x128 28#32)) shapeCasts_S64x128_S64x1x128⟩]
    concatenates_S64x1x128_S64x1x128_S64x2x128_d1) shapeCasts_S64x2x128_S128x128) natLt_4_32

/-- One group of 128 weight rows: the unpacked integers times their column's scale. -/
def pc128 (b : Vec F S64x128 .i8) (s : FVec F S1x128 .bf16) : FVec F S128x128 .bf16 :=
  mulf (sitofp .bf16 (nib128 (F := F) b)) (broadcastTo S128x128 s broadcasts_S1x128_S128x128)

theorem slices128 (g : Fin 32) : S2048x128.Slices ![64 * g.val, 0] S64x128 :=
  ⟨rfl, fun a => by match a with | ⟨0, _⟩ => (show 64 * g.val + 64 ≤ 2048; omega) | ⟨1, _⟩ => (show 0 + 128 ≤ 128; omega)⟩
theorem slicesS128 (g : Fin 32) : S32x128.Slices ![g.val, 0] S1x128 :=
  ⟨rfl, fun a => by match a with | ⟨0, _⟩ => (show g.val + 1 ≤ 32; omega) | ⟨1, _⟩ => (show 0 + 128 ≤ 128; omega)⟩

/-- A 4096 × 128 block of weights: 32 groups of 128 rows. -/
def W128 (b : Vec F S2048x128 .i8) (s : FVec F S32x128 .bf16) : FVec F S4096x128 .bf16 :=
  concatenate S4096x128 0
    (List.ofFn fun g : Fin 32 => (⟨S128x128, pc128 (extractStridedSlice S64x128 ![64 * g.val, 0] b (slices128 g))
      (extractStridedSlice S1x128 ![g.val, 0] s (slicesS128 g))⟩ : (s : Shape) × (s.Idx → F .bf16)))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0

/-- The even columns of a head. -/
def evens : IVec S1536x128 1 :=
  let two : BitVec 32 := Scalar.select (Scalar.cmpi .eq 2#32 0#32) 1#32 2#32
  let rem : IVec S1536x128 32 := remsi (iota .tc S1536x128 32 [1] iota_S1536x128_d1_w32) (broadcast S1536x128 two)
  cmpi .eq (select (andi (xori (cmpi .slt rem (broadcast S1536x128 0#32))
      (broadcastTo S1536x128 (broadcast S1536x128 (Scalar.cmpi .slt two 0#32)) broadcasts_S1536x128_S1536x128))
    (cmpi .ne rem (broadcast S1536x128 0#32))) (addi rem (broadcast S1536x128 two)) rem) (broadcast S1536x128 0#32)

/-- The rotary embedding of one head: each column times its cosine, plus the other column of its pair times its sine. -/
def rot (y cos sin : FVec F S1536x128 .f32) : FVec F S1536x128 .f32 :=
  addf (mulf y cos) (mulf (select evens (dynamicRotate 1 127#32 none y rotates_S1536x128_d1)
    (dynamicRotate 1 1#32 none y rotates_S1536x128_d1)) sin)

/-- 512 columns of the projection: four heads of q. -/
def qProj (x0 : Vec F S1536x4096 .bf16) (b : Vec F S2048x512 .i8) (s : Vec F S32x512 .f32) : FVec F S1536x512 .f32 :=
  matmul dot_S1536x4096_S4096x512_S1536x512_1_0_0_1_n_n none x0
    (W512 b (truncf .bf16 s bitsLt_bf16_f32)) (constant S1536x512 .f32 0x00000000#32)

/-- 128 columns of k and 128 columns of v of the projection, side by side. -/
def kvProj (x0 : Vec F S1536x4096 .bf16) (bk bv : Vec F S2048x128 .i8) (sk sv : Vec F S32x128 .f32) : FVec F S1536x256 .f32 :=
  matmul dot_S1536x4096_S4096x256_S1536x256_1_0_0_1_n_n none x0
    (concatenate S4096x256 1 [⟨S4096x128, W128 bk (truncf .bf16 sk bitsLt_bf16_f32)⟩, ⟨S4096x128, W128 bv (truncf .bf16 sv bitsLt_bf16_f32)⟩]
      concatenates_S4096x128_S4096x128_S4096x256_d1) (constant S1536x256 .f32 0x00000000#32)

/-- A block clipped to the 8-bit format's range and cast to it. -/
def quant (y : FVec F S1536x128 .f32) (s : F .f32) : FVec F S1536x128 .fp8e4m3 :=
  truncf .fp8e4m3 (minimumf (broadcast S1536x128 (Scalar.ofBits .f32 0x43E00000#32))
    (maximumf (broadcast S1536x128 (Scalar.ofBits .f32 0xC3E00000#32)) (divf y (broadcast S1536x128 s)))) bitsLt_fp8e4m3_f32

/-- The block of k. -/
def kBlock (x0 : Vec F S1536x4096 .bf16) (bk bv : Vec F S2048x128 .i8) (sk sv : Vec F S32x128 .f32) (cos sin : Vec F S1536x128 .f32) (s : F .f32) :
    Vec F S1536x128 .fp8e4m3 :=
  quant (rot (extractStridedSlice S1536x128 ![0, 0] (kvProj x0 bk bv sk sv) slices_S1536x256_o0_0_S1536x128) cos sin) s

/-- The block of v. -/
def vBlock (x0 : Vec F S1536x4096 .bf16) (bk bv : Vec F S2048x128 .i8) (sk sv : Vec F S32x128 .f32) (s : F .f32) : Vec F S1536x128 .fp8e4m3 :=
  quant (extractStridedSlice S1536x128 ![0, 128] (kvProj x0 bk bv sk sv) slices_S1536x256_o0_128_S1536x128) s

theorem slicesH (r : Fin 4) : S1536x512.Slices ![0, 128 * r.val] S1536x128 :=
  ⟨rfl, fun a => by match a with | ⟨0, _⟩ => (show 0 + 1536 ≤ 1536; omega) | ⟨1, _⟩ => (show 128 * r.val + 128 ≤ 512; omega)⟩

/-- One head of q. -/
def qHead (r : Fin 4) (x0 : Vec F S1536x4096 .bf16) (b : Vec F S2048x512 .i8) (s : Vec F S32x512 .f32) (cos sin : Vec F S1536x128 .f32) :
    Vec F S1536x128 .bf16 :=
  truncf .bf16 (rot (extractStridedSlice S1536x128 ![0, 128 * r.val] (qProj x0 b s) (slicesH r)) cos sin) bitsLt_bf16_f32

/-- The block of q: its four heads side by side. -/
def qBlock (x0 : Vec F S1536x4096 .bf16) (b : Vec F S2048x512 .i8) (s : Vec F S32x512 .f32) (cos sin : Vec F S1536x128 .f32) :
    Vec F S1536x512 .bf16 :=
  fun y => qHead ⟨(y 1).val / 128, by have : (y 1).val < 512 := (y 1).isLt; omega⟩ x0 b s cos sin
    (ix2 (y 0) ⟨(y 1).val % 128, Nat.mod_lt _ (by decide)⟩)

theorem qBlock_at (x0 : Vec F S1536x4096 .bf16) (b : Vec F S2048x512 .i8) (s : Vec F S32x512 .f32) (cos sin : Vec F S1536x128 .f32)
    (j : Fin 4) (x : S1536x128.Idx) (y : S1536x512.Idx) (h0 : (y 0).val = (x 0).val) (h1 : (y 1).val = 128 * j.val + (x 1).val) :
    qBlock x0 b s cos sin y = qHead j x0 b s cos sin x := by
  have hx : (x 1).val < 128 := (x 1).isLt
  have ej : (⟨(y 1).val / 128, by have : (y 1).val < 512 := (y 1).isLt; omega⟩ : Fin 4) = j := Fin.ext (by show (y 1).val / 128 = j.val; omega)
  have ex : (ix2 (y 0) ⟨(y 1).val % 128, Nat.mod_lt _ (by decide)⟩ : S1536x128.Idx) = x := by
    funext a
    match a with
    | ⟨0, _⟩ => exact Fin.ext h0
    | ⟨1, _⟩ => exact Fin.ext (by show (y 1).val % 128 = (x 1).val; omega)
  unfold qBlock
  rw [ej, ex]

theorem coord_toNat : ∀ k : Fin 8, BitVec.toNat (Scalar.indexCast (BitVec.ofNat 32 k.val)) = k.val := by decide

/-- The scale of the point's head. -/
theorem scalar_read (x : Vec F S8 .f32) (k : Fin 8) {n : ℕ} (hn : n = k.val) (inb : ∀ a, ![n] a + (![1] : Fin 1 → ℕ) a ≤ S8.size a)
    (h : 0 < (Rect.unit (s := S8) ![n] ![1] inb).shape.numel) :
    View.ld x (Rect.unit (s := S8) ![n] ![1] inb) (Shape.Idx.first h) = x (fun a => ⟨k.val, by fin_cases a; exact k.isLt⟩) := by
  subst hn
  refine congrArg x (funext fun a => Fin.ext ?_)
  fin_cases a
  show k.val + 1 * 0 = k.val
  omega

set_option maxHeartbeats 1000000 in
/-- What a point leaves in its block of k. -/
theorem out_12 (c : Dev nD) (i : grid0.Coords) (arg1 : Memref sig .tc .smem S8 .f32) (harg1 : arg1.IsWhole) (arg2 : Memref sig .tc .smem S8 .f32) (harg2 : arg2.IsWhole) (arg3 : Memref sig .tc .vmem S1536x4096 .bf16) (harg3 : arg3.IsWhole) (arg4 : Memref sig .tc .vmem S2048x512 .i8) (harg4 : arg4.IsWhole) (arg5 : Memref sig .tc .vmem S2048x128 .i8) (harg5 : arg5.IsWhole) (arg6 : Memref sig .tc .vmem S2048x128 .i8) (harg6 : arg6.IsWhole) (arg7 : Memref sig .tc .vmem S32x512 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S1536x128 .f32) (harg10 : arg10.IsWhole) (arg11 : Memref sig .tc .vmem S1536x128 .f32) (harg11 : arg11.IsWhole) (arg12 : Memref sig .tc .vmem S1536x512 .bf16) (harg12 : arg12.IsWhole) (arg13 : Memref sig .tc .vmem S1536x128 .fp8e4m3) (harg13 : arg13.IsWhole) (arg14 : Memref sig .tc .vmem S1536x128 .fp8e4m3) (harg14 : arg14.IsWhole)
    (x0 : Vec F S8 .f32) (x1 : Vec F S8 .f32) (x2 : Vec F S1536x4096 .bf16) (x3 : Vec F S2048x512 .i8) (x4 : Vec F S2048x128 .i8) (x5 : Vec F S2048x128 .i8) (x6 : Vec F S32x512 .f32) (x7 : Vec F S32x128 .f32) (x8 : Vec F S32x128 .f32) (x9 : Vec F S1536x128 .f32) (x10 : Vec F S1536x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = kBlock x2 x4 x5 x7 x8 x9 x10 (x0 (fun a => ⟨(i 0).val, by fin_cases a; exact (i 0).isLt⟩)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1536x4096) hz, View.ld_unit_zero (S := S2048x512) hz, View.ld_unit_zero (S := S2048x128) hz, View.ld_unit_zero (S := S32x512) hz, View.ld_unit_zero (S := S32x128) hz, View.ld_unit_zero (S := S1536x128) hz]
  generalize hs : View.ld x0 _ _ = s
  have e : s = x0 (fun a => ⟨(i 0).val, by fin_cases a; exact (i 0).isLt⟩) := hs.symm.trans (scalar_read x0 (i 0) (coord_toNat (i 0)) _ _)
  subst e
  simp only [k0_pay2, k0_pay3, shapeCast_self]
  rfl

set_option maxHeartbeats 1000000 in
/-- What a point leaves in its block of v. -/
theorem out_13 (c : Dev nD) (i : grid0.Coords) (arg1 : Memref sig .tc .smem S8 .f32) (harg1 : arg1.IsWhole) (arg2 : Memref sig .tc .smem S8 .f32) (harg2 : arg2.IsWhole) (arg3 : Memref sig .tc .vmem S1536x4096 .bf16) (harg3 : arg3.IsWhole) (arg4 : Memref sig .tc .vmem S2048x512 .i8) (harg4 : arg4.IsWhole) (arg5 : Memref sig .tc .vmem S2048x128 .i8) (harg5 : arg5.IsWhole) (arg6 : Memref sig .tc .vmem S2048x128 .i8) (harg6 : arg6.IsWhole) (arg7 : Memref sig .tc .vmem S32x512 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S1536x128 .f32) (harg10 : arg10.IsWhole) (arg11 : Memref sig .tc .vmem S1536x128 .f32) (harg11 : arg11.IsWhole) (arg12 : Memref sig .tc .vmem S1536x512 .bf16) (harg12 : arg12.IsWhole) (arg13 : Memref sig .tc .vmem S1536x128 .fp8e4m3) (harg13 : arg13.IsWhole) (arg14 : Memref sig .tc .vmem S1536x128 .fp8e4m3) (harg14 : arg14.IsWhole)
    (x0 : Vec F S8 .f32) (x1 : Vec F S8 .f32) (x2 : Vec F S1536x4096 .bf16) (x3 : Vec F S2048x512 .i8) (x4 : Vec F S2048x128 .i8) (x5 : Vec F S2048x128 .i8) (x6 : Vec F S32x512 .f32) (x7 : Vec F S32x128 .f32) (x8 : Vec F S32x128 .f32) (x9 : Vec F S1536x128 .f32) (x10 : Vec F S1536x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = vBlock x2 x4 x5 x7 x8 (x1 (fun a => ⟨(i 0).val, by fin_cases a; exact (i 0).isLt⟩)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1536x4096) hz, View.ld_unit_zero (S := S2048x512) hz, View.ld_unit_zero (S := S2048x128) hz, View.ld_unit_zero (S := S32x512) hz, View.ld_unit_zero (S := S32x128) hz, View.ld_unit_zero (S := S1536x128) hz]
  generalize hs : View.ld x1 _ _ = s
  have e : s = x1 (fun a => ⟨(i 0).val, by fin_cases a; exact (i 0).isLt⟩) := hs.symm.trans (scalar_read x1 (i 0) (coord_toNat (i 0)) _ _)
  subst e
  rfl

set_option maxHeartbeats 1000000 in
/-- What a point leaves in its block of q. -/
theorem out_11 (c : Dev nD) (i : grid0.Coords) (arg1 : Memref sig .tc .smem S8 .f32) (harg1 : arg1.IsWhole) (arg2 : Memref sig .tc .smem S8 .f32) (harg2 : arg2.IsWhole) (arg3 : Memref sig .tc .vmem S1536x4096 .bf16) (harg3 : arg3.IsWhole) (arg4 : Memref sig .tc .vmem S2048x512 .i8) (harg4 : arg4.IsWhole) (arg5 : Memref sig .tc .vmem S2048x128 .i8) (harg5 : arg5.IsWhole) (arg6 : Memref sig .tc .vmem S2048x128 .i8) (harg6 : arg6.IsWhole) (arg7 : Memref sig .tc .vmem S32x512 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S1536x128 .f32) (harg10 : arg10.IsWhole) (arg11 : Memref sig .tc .vmem S1536x128 .f32) (harg11 : arg11.IsWhole) (arg12 : Memref sig .tc .vmem S1536x512 .bf16) (harg12 : arg12.IsWhole) (arg13 : Memref sig .tc .vmem S1536x128 .fp8e4m3) (harg13 : arg13.IsWhole) (arg14 : Memref sig .tc .vmem S1536x128 .fp8e4m3) (harg14 : arg14.IsWhole)
    (x0 : Vec F S8 .f32) (x1 : Vec F S8 .f32) (x2 : Vec F S1536x4096 .bf16) (x3 : Vec F S2048x512 .i8) (x4 : Vec F S2048x128 .i8) (x5 : Vec F S2048x128 .i8) (x6 : Vec F S32x512 .f32) (x7 : Vec F S32x128 .f32) (x8 : Vec F S32x128 .f32) (x9 : Vec F S1536x128 .f32) (x10 : Vec F S1536x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = qBlock x2 x3 x6 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1536x4096) hz, View.ld_unit_zero (S := S2048x512) hz, View.ld_unit_zero (S := S2048x128) hz, View.ld_unit_zero (S := S32x512) hz, View.ld_unit_zero (S := S32x128) hz, View.ld_unit_zero (S := S1536x128) hz]
  simp only [k0_pay2, k0_pay3, shapeCast_self]
  funext y
  refine View.canon_apply_of_pieces (qBlock x2 x3 x6 x9 x10) _ ?_ y (View.cover_of_tiledL (s := S1536x512) _ ![1536, 128] (by sl_kernel_rfl) y)
  simp only [List.forall_mem_cons, List.not_mem_nil, false_implies, implies_true, and_true]
  refine ⟨fun x => ?_, fun x => ?_, fun x => ?_, fun x => ?_⟩
  · exact (qBlock_at x2 x3 x6 x9 x10 3 x _ (show 0 + 1 * (x 0).val = (x 0).val by omega) (show 384 + 1 * (x 1).val = 128 * 3 + (x 1).val by omega)).symm
  · exact (qBlock_at x2 x3 x6 x9 x10 2 x _ (show 0 + 1 * (x 0).val = (x 0).val by omega) (show 256 + 1 * (x 1).val = 128 * 2 + (x 1).val by omega)).symm
  · exact (qBlock_at x2 x3 x6 x9 x10 1 x _ (show 0 + 1 * (x 0).val = (x 0).val by omega) (show 128 + 1 * (x 1).val = 128 * 1 + (x 1).val by omega)).symm
  · exact (qBlock_at x2 x3 x6 x9 x10 0 x _ (show 0 + 1 * (x 0).val = (x 0).val by omega) (show 0 + 1 * (x 1).val = 128 * 0 + (x 1).val by omega)).symm

end Cert.KernelQkvIdeal.Val
-- ==== Proof.Rotary.lean ====
module

public import proofs.«01_k».proof.Proof.Packed

@[expose] public section

/-!
  The q, k and v results over the extended reals.

  `rotAt`: the rotary embedding as the kernel writes it, with full rows of cosines and of signed sines.
  `rotN`: the rotary embedding as the reference writes it, with half rows of cosines and sines.
  `clipN`: a value clipped to the 8-bit format's range.
-/

noncomputable section

namespace Cert.Packed

open Idealize.ShloMosaic Idealize.ShloMosaic.Pointwise

/-- Column `l` of one head of 128 columns `p`: times its cosine, plus the other column of its pair times its sine. -/
def rotAt (p c s : ℕ → EReal) (l : ℕ) : EReal :=
  p l * c l + (if l % 2 = 0 then p ((l + 1) % 128) else p ((l + 127) % 128)) * s l

theorem rotAt_congr {p p' c s : ℕ → EReal} (h : ∀ l, l < 128 → p l = p' l) {l : ℕ} (hl : l < 128) : rotAt p c s l = rotAt p' c s l := by
  unfold rotAt
  rw [h l hl, h _ (Nat.mod_lt _ (by decide)), h _ (Nat.mod_lt _ (by decide))]

/-- Column `l` of one head of 128 columns `p`: the even column of a pair is `even * c - odd * s`, the odd one
    `even * s + odd * c`. -/
def rotN (p c s : ℕ → EReal) (l : ℕ) : EReal :=
  if l % 2 = 0 then p l * c (l / 2) - p (l + 1) * s (l / 2) else p (l - 1) * s (l / 2) + p l * c (l / 2)

theorem rotN_congr {p p' c s : ℕ → EReal} (h : ∀ l, l < 128 → p l = p' l) {l : ℕ} (hl : l < 128) : rotN p c s l = rotN p' c s l := by
  unfold rotN
  by_cases he : l % 2 = 0
  · rw [if_pos he, if_pos he, h l hl, h (l + 1) (by omega)]
  · rw [if_neg he, if_neg he, h l hl, h (l - 1) (by omega)]

/-- The two agree when the full rows repeat each cosine and put a minus sign before every other sine. -/
theorem rotAt_eq {p c s c' s' : ℕ → EReal} {l : ℕ} (hl : l < 128) (hc : c l = c' (l / 2))
    (hs : s l = if l % 2 = 0 then - s' (l / 2) else s' (l / 2)) : rotAt p c s l = rotN p c' s' l := by
  unfold rotAt rotN
  rw [hc, hs]
  by_cases h : l % 2 = 0
  · rw [if_pos h, if_pos h, if_pos h, show (l + 1) % 128 = l + 1 by omega, mul_neg, sub_eq_add_neg]
  · rw [if_neg h, if_neg h, if_neg h, show (l + 127) % 128 = l - 1 by omega, add_comm]

/-- A value clipped to between -448 and 448. -/
def clipN (y : EReal) : EReal :=
  min (Scalar.ofBits (F := Ideal) .f32 0x43E00000#32) (max (Scalar.ofBits (F := Ideal) .f32 0xC3E00000#32) y)

end Cert.Packed
-- ==== Proof.QkvWeights.lean ====
module

public import proofs.«01_k».proof.Proof.QkvSteps
public import proofs.«01_k».proof.Proof.Rotary

@[expose] public section

set_option maxRecDepth 16384

/-!
  The blocks of QkvSteps.lean over the extended reals, read at one entry.
-/

noncomputable section

namespace Cert.KernelQkvIdeal.Val

open Cert.KernelQkvIdeal Cert.KernelQkvIdeal.Gen
open Idealize.ShloMosaic Idealize.ShloMosaic.TcCoe Idealize.ShloMosaic.Tactic
open Idealize.ShloMosaic.Pointwise Cert.Packed

/-- A group of 128 weight rows at row `r`, column `l`. -/
theorem pc512_apply (b : Vec Ideal S64x512 .i8) (s : FVec Ideal S1x512 .bf16) (r : Fin 128) (l : Fin 512) :
    pc512 b s (ix2 r l) = (if r.val % 2 < 1 then lo (b (ix2 ⟨r.val / 2, by omega⟩ l)) else hi (b (ix2 ⟨r.val / 2, by omega⟩ l))) * s (ix2 0 l) := by
  pointwise [pc512, nib512]
  split
  · rw [lo_eq]
  · rw [hi_eq]

/-- A group of 128 weight rows at row `r`, column `l`. -/
theorem pc128_apply (b : Vec Ideal S64x128 .i8) (s : FVec Ideal S1x128 .bf16) (r : Fin 128) (l : Fin 128) :
    pc128 b s (ix2 r l) = (if r.val % 2 < 1 then lo (b (ix2 ⟨r.val / 2, by omega⟩ l)) else hi (b (ix2 ⟨r.val / 2, by omega⟩ l))) * s (ix2 0 l) := by
  pointwise [pc128, nib128]
  split
  · rw [lo_eq]
  · rw [hi_eq]

/-- A block of weights at row `k`, column `l`. -/
theorem W512_apply (b : Vec Ideal S2048x512 .i8) (s : FVec Ideal S32x512 .bf16) (k : Fin 4096) (l : Fin 512) :
    W512 b s (ix2 k l) = wN (at2 b) (at2 s) k.val l.val := by
  have hk := k.isLt
  have hl := l.isLt
  have h := concatenate_ofFn_apply (α := Ideal .bf16) (t := S4096x512) (s₁ := S128x512) 0 (N := 32)
    (fun g : Fin 32 => pc512 (extractStridedSlice S64x512 ![64 * g.val, 0] b (slices512 g)) (extractStridedSlice S1x512 ![g.val, 0] s (slicesS512 g)))
    concatenates_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S128x512_S4096x512_d0 rfl 128 rfl (ix2 k l) ⟨k.val / 128, by omega⟩ rfl
    (ix2 ⟨k.val % 128, by omega⟩ l) rfl (fun c hc => by
      match c with
      | ⟨0, _⟩ => exact absurd rfl hc
      | ⟨1, _⟩ => rfl)
  refine h.trans ?_
  rw [pc512_apply]
  unfold wN
  rw [show k.val % 128 % 2 = k.val % 2 by omega]
  have hb : extractStridedSlice S64x512 ![64 * (k.val / 128), 0] b (slices512 ⟨k.val / 128, by omega⟩) (ix2 ⟨k.val % 128 / 2, by omega⟩ l)
      = at2 b (k.val / 2) l.val := by
    unfold extractStridedSlice
    exact eq_at2_of b _ (show 64 * (k.val / 128) + k.val % 128 / 2 = k.val / 2 by omega) (show 0 + l.val = l.val by omega)
  have hs : extractStridedSlice S1x512 ![k.val / 128, 0] s (slicesS512 ⟨k.val / 128, by omega⟩) (ix2 0 l)
      = at2 s (k.val / 128) l.val := by
    unfold extractStridedSlice
    exact eq_at2_of s _ (show k.val / 128 + 0 = k.val / 128 by omega) (show 0 + l.val = l.val by omega)
  rw [hb, hs]

/-- A block of weights at row `k`, column `l`. -/
theorem W128_apply (b : Vec Ideal S2048x128 .i8) (s : FVec Ideal S32x128 .bf16) (k : Fin 4096) (l : Fin 128) :
    W128 b s (ix2 k l) = wN (at2 b) (at2 s) k.val l.val := by
  have hk := k.isLt
  have hl := l.isLt
  have h := concatenate_ofFn_apply (α := Ideal .bf16) (t := S4096x128) (s₁ := S128x128) 0 (N := 32)
    (fun g : Fin 32 => pc128 (extractStridedSlice S64x128 ![64 * g.val, 0] b (slices128 g)) (extractStridedSlice S1x128 ![g.val, 0] s (slicesS128 g)))
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0 rfl 128 rfl (ix2 k l) ⟨k.val / 128, by omega⟩ rfl
    (ix2 ⟨k.val % 128, by omega⟩ l) rfl (fun c hc => by
      match c with
      | ⟨0, _⟩ => exact absurd rfl hc
      | ⟨1, _⟩ => rfl)
  refine h.trans ?_
  rw [pc128_apply]
  unfold wN
  rw [show k.val % 128 % 2 = k.val % 2 by omega]
  have hb : extractStridedSlice S64x128 ![64 * (k.val / 128), 0] b (slices128 ⟨k.val / 128, by omega⟩) (ix2 ⟨k.val % 128 / 2, by omega⟩ l)
      = at2 b (k.val / 2) l.val := by
    unfold extractStridedSlice
    exact eq_at2_of b _ (show 64 * (k.val / 128) + k.val % 128 / 2 = k.val / 2 by omega) (show 0 + l.val = l.val by omega)
  have hs : extractStridedSlice S1x128 ![k.val / 128, 0] s (slicesS128 ⟨k.val / 128, by omega⟩) (ix2 0 l)
      = at2 s (k.val / 128) l.val := by
    unfold extractStridedSlice
    exact eq_at2_of s _ (show k.val / 128 + 0 = k.val / 128 by omega) (show 0 + l.val = l.val by omega)
  rw [hb, hs]

/-- 512 columns of the projection. -/
theorem qProj_apply (x0 : Vec Ideal S1536x4096 .bf16) (b : Vec Ideal S2048x512 .i8) (s : Vec Ideal S32x512 .f32) (r : Fin 1536) (l : Fin 512) :
    qProj x0 b s (ix2 r l) = projN (at2 x0) (at2 b) (at2 s) r.val l.val := by
  pointwise [qProj]
  unfold projN
  rw [Finset.sum_range]
  exact Finset.sum_congr rfl fun k _ => by rw [W512_apply, eq_at2 x0]; rfl

/-- The k columns of the projection of k and v. -/
theorem kvProj_k (x0 : Vec Ideal S1536x4096 .bf16) (bk bv : Vec Ideal S2048x128 .i8) (sk sv : Vec Ideal S32x128 .f32) (r : Fin 1536) (l : Fin 128) :
    kvProj x0 bk bv sk sv (ix2 r ⟨l.val, by omega⟩) = projN (at2 x0) (at2 bk) (at2 sk) r.val l.val := by
  have hl := l.isLt
  pointwise [kvProj]
  unfold projN
  rw [Finset.sum_range]
  exact Finset.sum_congr rfl fun k _ => by rw [W128_apply, eq_at2 x0]; rfl

/-- The v columns of the projection of k and v. -/
theorem kvProj_v (x0 : Vec Ideal S1536x4096 .bf16) (bk bv : Vec Ideal S2048x128 .i8) (sk sv : Vec Ideal S32x128 .f32) (r : Fin 1536) (l : Fin 128) :
    kvProj x0 bk bv sk sv (ix2 r ⟨128 + l.val, by omega⟩) = projN (at2 x0) (at2 bv) (at2 sv) r.val l.val := by
  have hl := l.isLt
  pointwise [kvProj]
  unfold projN
  rw [Finset.sum_range]
  exact Finset.sum_congr rfl fun k _ => by rw [W128_apply, eq_at2 x0]; rfl

theorem evens_apply (r : Fin 1536) (l : Fin 128) : evens (ix2 r l) = if l.val % 2 = 0 then 1#1 else 0#1 := by
  have h : ∀ l : Fin 128, evens (ix2 0 l) = if l.val % 2 = 0 then 1#1 else 0#1 := by decide +kernel
  exact h l

/-- The rotary embedding at one entry. -/
theorem rot_apply (y cos sin : FVec Ideal S1536x128 .f32) (r : Fin 1536) (l : Fin 128) :
    rot y cos sin (ix2 r l) = rotAt (at2 y r.val) (at2 cos r.val) (at2 sin r.val) l.val := by
  pointwise [rot]
  rw [evens_apply, eq_at2 y, eq_at2 y, eq_at2 y, eq_at2 cos, eq_at2 sin]
  show _ + Scalar.select _ (at2 y r.val ((l.val + 128 - 127) % 128)) (at2 y r.val ((l.val + 128 - 1) % 128)) * _ = _
  rw [show l.val + 128 - 127 = l.val + 1 by omega, show l.val + 128 - 1 = l.val + 127 by omega]
  unfold rotAt
  by_cases h : l.val % 2 = 0
  · rw [if_pos h, if_pos h]; rfl
  · rw [if_neg h, if_neg h]; rfl

/-- The clip and the cast at one entry. -/
theorem quant_apply (y : FVec Ideal S1536x128 .f32) (s : EReal) (r : Fin 1536) (l : Fin 128) :
    quant (F := Ideal) y s (ix2 r l) = clipN (Ideal.div (y (ix2 r l)) s) := by
  pointwise [quant]
  rfl

/-- The block of k at one entry. -/
theorem kBlock_apply (x0 : Vec Ideal S1536x4096 .bf16) (bk bv : Vec Ideal S2048x128 .i8) (sk sv : Vec Ideal S32x128 .f32) (cos sin : Vec Ideal S1536x128 .f32)
    (s : EReal) (r : Fin 1536) (l : Fin 128) :
    kBlock (F := Ideal) x0 bk bv sk sv cos sin s (ix2 r l)
      = clipN (Ideal.div (rotAt (projN (at2 x0) (at2 bk) (at2 sk) r.val) (at2 cos r.val) (at2 sin r.val) l.val) s) := by
  unfold kBlock
  rw [quant_apply, rot_apply]
  congr 2
  refine rotAt_congr (fun l hl => ?_) l.isLt
  rw [at2_of_lt _ r.isLt hl, ← kvProj_k x0 bk bv sk sv r ⟨l, hl⟩]
  unfold extractStridedSlice
  congr 1
  funext a
  match a with
  | ⟨0, _⟩ => exact Fin.ext (by show 0 + r.val = r.val; omega)
  | ⟨1, _⟩ => exact Fin.ext (by show 0 + l = l; omega)

/-- The block of v at one entry. -/
theorem vBlock_apply (x0 : Vec Ideal S1536x4096 .bf16) (bk bv : Vec Ideal S2048x128 .i8) (sk sv : Vec Ideal S32x128 .f32)
    (s : EReal) (r : Fin 1536) (l : Fin 128) :
    vBlock (F := Ideal) x0 bk bv sk sv s (ix2 r l) = clipN (Ideal.div (projN (at2 x0) (at2 bv) (at2 sv) r.val l.val) s) := by
  unfold vBlock
  rw [quant_apply, ← kvProj_v x0 bk bv sk sv r l]
  congr 2
  unfold extractStridedSlice
  congr 1
  funext a
  match a with
  | ⟨0, _⟩ => exact Fin.ext (by show 0 + r.val = r.val; omega)
  | ⟨1, _⟩ => exact Fin.ext (by show 128 + l.val = 128 + l.val; omega)

/-- The block of q at one entry. -/
theorem qBlock_apply (x0 : Vec Ideal S1536x4096 .bf16) (b : Vec Ideal S2048x512 .i8) (s : Vec Ideal S32x512 .f32) (cos sin : Vec Ideal S1536x128 .f32)
    (j : Fin 4) (r : Fin 1536) (l : Fin 128) :
    qBlock (F := Ideal) x0 b s cos sin (ix2 r ⟨128 * j.val + l.val, by omega⟩)
      = rotAt (fun l => projN (at2 x0) (at2 b) (at2 s) r.val (128 * j.val + l)) (at2 cos r.val) (at2 sin r.val) l.val := by
  rw [qBlock_at x0 b s cos sin j (ix2 r l) _ rfl rfl]
  unfold qHead
  show rot (F := Ideal) _ cos sin (ix2 r l) = _
  rw [rot_apply]
  refine rotAt_congr (fun l hl => ?_) l.isLt
  rw [at2_of_lt _ r.isLt hl, show projN (at2 x0) (at2 b) (at2 s) r.val (128 * j.val + l) = _ from
    (qProj_apply x0 b s r ⟨128 * j.val + l, by omega⟩).symm]
  unfold extractStridedSlice
  congr 1
  funext a
  match a with
  | ⟨0, _⟩ => exact Fin.ext (by show 0 + r.val = r.val; omega)
  | ⟨1, _⟩ => exact Fin.ext (by show 128 * j.val + l = 128 * j.val + l; omega)

end Cert.KernelQkvIdeal.Val
-- ==== Proof.QkvValue.lean ====
module

public import proofs.«01_k».proof.Proof.Gen.KernelQkvIdeal.Value
public import proofs.«01_k».proof.Proof.QkvSteps
public import proofs.«01_k».proof.Proof.QkvWeights
public import proofs.«01_k».proof.Proof.Packed
public import proofs.«01_k».proof.Proof.Rotary
public import Idealize.ShloMosaic.Lib.Pipeline.Value
public import Idealize.ShloMosaic.Lib.StableHlo.Run
public import Idealize.ShloMosaic.Lib.IdealHost
public import Idealize.ShloMosaic.Lib.Tactic

@[expose] public section

set_option maxRecDepth 16384

/-!
  The q, k and v call: the block of each argument that a grid point reads, as entries of the whole argument, and then the
  three results' arrays, over the extended reals.
-/

noncomputable section

namespace Cert.KernelQkvIdeal.Val

open Cert.KernelQkvIdeal Cert.KernelQkvIdeal.Gen
open Idealize.ShloMosaic Idealize.ShloMosaic.TcCoe Idealize.ShloMosaic.Tactic
open Idealize.ShloMosaic.Pointwise Cert.Packed

variable (m : (ℓ : Loc nD τ sig) → Buf (Elt Ideal) ℓ)

theorem index2 : ∀ t : Fin grid0.N, win0_2.index t 0 = 0 ∧ win0_2.index t 1 = 0 := by decide +kernel

theorem blk2 (c : Dev nD) (t : Fin cfg0.N) {r l : ℕ} (hr : r < 1536) (hl : l < 4096) :
    at2 (iblk m c 2 t : Vec Ideal S1536x4096 .bf16) r l = at2 (m ((c : Thread nD τ).loc main_arg0)) (1536 * (0) + r) (4096 * (0) + l) := by
  have hi := index2 t
  rw [at2_of_lt _ hr hl]
  unfold iblk
  rw [View.read_apply]
  show V m c main_arg0 _ = _
  rw [V_main_arg0]
  refine eq_at2_of (m ((c : Thread nD τ).loc main_arg0)) _ ?_ ?_
  · show win0_2.index t 0 * 1536 + 1 * r = 1536 * (0) + r
    rw [hi.1]; ring
  · show win0_2.index t 1 * 4096 + 1 * l = 4096 * (0) + l
    rw [hi.2]; ring

theorem index3 : ∀ t : Fin grid0.N, win0_3.index t 0 = 0 ∧ win0_3.index t 1 = t.val := by decide +kernel

theorem blk3 (c : Dev nD) (t : Fin cfg0.N) {r l : ℕ} (hr : r < 2048) (hl : l < 512) :
    at2 (iblk m c 3 t : Vec Ideal S2048x512 .i8) r l = at2 (m ((c : Thread nD τ).loc main_arg1)) (2048 * (0) + r) (512 * (t.val) + l) := by
  have hi := index3 t
  rw [at2_of_lt _ hr hl]
  unfold iblk
  rw [View.read_apply]
  show V m c main_arg1 _ = _
  rw [V_main_arg1]
  refine eq_at2_of (m ((c : Thread nD τ).loc main_arg1)) _ ?_ ?_
  · show win0_3.index t 0 * 2048 + 1 * r = 2048 * (0) + r
    rw [hi.1]; ring
  · show win0_3.index t 1 * 512 + 1 * l = 512 * (t.val) + l
    rw [hi.2]; ring

theorem index4 : ∀ t : Fin grid0.N, win0_4.index t 0 = 0 ∧ win0_4.index t 1 = 32 + t.val := by decide +kernel

theorem blk4 (c : Dev nD) (t : Fin cfg0.N) {r l : ℕ} (hr : r < 2048) (hl : l < 128) :
    at2 (iblk m c 4 t : Vec Ideal S2048x128 .i8) r l = at2 (m ((c : Thread nD τ).loc main_arg1)) (2048 * (0) + r) (128 * (32 + t.val) + l) := by
  have hi := index4 t
  rw [at2_of_lt _ hr hl]
  unfold iblk
  rw [View.read_apply]
  show V m c main_arg1 _ = _
  rw [V_main_arg1]
  refine eq_at2_of (m ((c : Thread nD τ).loc main_arg1)) _ ?_ ?_
  · show win0_4.index t 0 * 2048 + 1 * r = 2048 * (0) + r
    rw [hi.1]; ring
  · show win0_4.index t 1 * 128 + 1 * l = 128 * (32 + t.val) + l
    rw [hi.2]; ring

theorem index5 : ∀ t : Fin grid0.N, win0_5.index t 0 = 0 ∧ win0_5.index t 1 = 40 + t.val := by decide +kernel

theorem blk5 (c : Dev nD) (t : Fin cfg0.N) {r l : ℕ} (hr : r < 2048) (hl : l < 128) :
    at2 (iblk m c 5 t : Vec Ideal S2048x128 .i8) r l = at2 (m ((c : Thread nD τ).loc main_arg1)) (2048 * (0) + r) (128 * (40 + t.val) + l) := by
  have hi := index5 t
  rw [at2_of_lt _ hr hl]
  unfold iblk
  rw [View.read_apply]
  show V m c main_arg1 _ = _
  rw [V_main_arg1]
  refine eq_at2_of (m ((c : Thread nD τ).loc main_arg1)) _ ?_ ?_
  · show win0_5.index t 0 * 2048 + 1 * r = 2048 * (0) + r
    rw [hi.1]; ring
  · show win0_5.index t 1 * 128 + 1 * l = 128 * (40 + t.val) + l
    rw [hi.2]; ring

theorem index6 : ∀ t : Fin grid0.N, win0_6.index t 0 = 0 ∧ win0_6.index t 1 = t.val := by decide +kernel

theorem blk6 (c : Dev nD) (t : Fin cfg0.N) {r l : ℕ} (hr : r < 32) (hl : l < 512) :
    at2 (iblk m c 6 t : Vec Ideal S32x512 .f32) r l = at2 (m ((c : Thread nD τ).loc main_arg2)) (32 * (0) + r) (512 * (t.val) + l) := by
  have hi := index6 t
  rw [at2_of_lt _ hr hl]
  unfold iblk
  rw [View.read_apply]
  show V m c main_arg2 _ = _
  rw [V_main_arg2]
  refine eq_at2_of (m ((c : Thread nD τ).loc main_arg2)) _ ?_ ?_
  · show win0_6.index t 0 * 32 + 1 * r = 32 * (0) + r
    rw [hi.1]; ring
  · show win0_6.index t 1 * 512 + 1 * l = 512 * (t.val) + l
    rw [hi.2]; ring

theorem index7 : ∀ t : Fin grid0.N, win0_7.index t 0 = 0 ∧ win0_7.index t 1 = 32 + t.val := by decide +kernel

theorem blk7 (c : Dev nD) (t : Fin cfg0.N) {r l : ℕ} (hr : r < 32) (hl : l < 128) :
    at2 (iblk m c 7 t : Vec Ideal S32x128 .f32) r l = at2 (m ((c : Thread nD τ).loc main_arg2)) (32 * (0) + r) (128 * (32 + t.val) + l) := by
  have hi := index7 t
  rw [at2_of_lt _ hr hl]
  unfold iblk
  rw [View.read_apply]
  show V m c main_arg2 _ = _
  rw [V_main_arg2]
  refine eq_at2_of (m ((c : Thread nD τ).loc main_arg2)) _ ?_ ?_
  · show win0_7.index t 0 * 32 + 1 * r = 32 * (0) + r
    rw [hi.1]; ring
  · show win0_7.index t 1 * 128 + 1 * l = 128 * (32 + t.val) + l
    rw [hi.2]; ring

theorem index8 : ∀ t : Fin grid0.N, win0_8.index t 0 = 0 ∧ win0_8.index t 1 = 40 + t.val := by decide +kernel

theorem blk8 (c : Dev nD) (t : Fin cfg0.N) {r l : ℕ} (hr : r < 32) (hl : l < 128) :
    at2 (iblk m c 8 t : Vec Ideal S32x128 .f32) r l = at2 (m ((c : Thread nD τ).loc main_arg2)) (32 * (0) + r) (128 * (40 + t.val) + l) := by
  have hi := index8 t
  rw [at2_of_lt _ hr hl]
  unfold iblk
  rw [View.read_apply]
  show V m c main_arg2 _ = _
  rw [V_main_arg2]
  refine eq_at2_of (m ((c : Thread nD τ).loc main_arg2)) _ ?_ ?_
  · show win0_8.index t 0 * 32 + 1 * r = 32 * (0) + r
    rw [hi.1]; ring
  · show win0_8.index t 1 * 128 + 1 * l = 128 * (40 + t.val) + l
    rw [hi.2]; ring

theorem index0 : ∀ t : Fin grid0.N, win0_0.index t 0 = 0 := by decide +kernel

theorem blk0 (c : Dev nD) (t : Fin cfg0.N) (y : S8.Idx) :
    (iblk m c 0 t : Vec Ideal S8 .f32) y = (m ((c : Thread nD τ).loc main_arg5) : Vec Ideal S8 .f32) y := by
  unfold iblk
  rw [View.read_apply]
  show V m c main_arg5 _ = _
  rw [V_main_arg5]
  refine congrArg (m ((c : Thread nD τ).loc main_arg5) : Vec Ideal S8 .f32) (funext fun a => ?_)
  match a with
  | ⟨0, _⟩ => exact Fin.ext (by show win0_0.index t 0 * 8 + 1 * (y 0).val = (y 0).val; rw [index0 t]; ring)

theorem index1 : ∀ t : Fin grid0.N, win0_1.index t 0 = 0 := by decide +kernel

theorem blk1 (c : Dev nD) (t : Fin cfg0.N) (y : S8.Idx) :
    (iblk m c 1 t : Vec Ideal S8 .f32) y = (m ((c : Thread nD τ).loc main_arg6) : Vec Ideal S8 .f32) y := by
  unfold iblk
  rw [View.read_apply]
  show V m c main_arg6 _ = _
  rw [V_main_arg6]
  refine congrArg (m ((c : Thread nD τ).loc main_arg6) : Vec Ideal S8 .f32) (funext fun a => ?_)
  match a with
  | ⟨0, _⟩ => exact Fin.ext (by show win0_1.index t 0 * 8 + 1 * (y 0).val = (y 0).val; rw [index1 t]; ring)

/-- Each cosine twice. -/
def cosF (x : FVec Ideal S1536x64 .f32) : FVec Ideal S1536x128 .f32 :=
  shapeCast S1536x128 (broadcastInDim S1536x64x2 ![0, 1] bcast_S1536x64_S1536x64x2_0_1 x) shapeCasts_S1536x64x2_S1536x128

/-- One more axis, of one entry. -/
def unit (x : FVec Ideal S1536x64 .f32) : FVec Ideal S1536x64x1 .f32 :=
  broadcastInDim S1536x64x1 ![0, 1] bcast_S1536x64_S1536x64x1_0_1 x

/-- Each sine twice, the first with a minus sign. -/
def sinF (x : FVec Ideal S1536x64 .f32) : FVec Ideal S1536x128 .f32 :=
  shapeCast S1536x128 (concatenate S1536x64x2 2 [⟨S1536x64x1, unit (Host.negf x)⟩, ⟨S1536x64x1, unit x⟩]
    concatenates_S1536x64x1_S1536x64x1_S1536x64x2_d2) shapeCasts_S1536x64x2_S1536x128

theorem V_main_v1 (c : Dev nD) : V m c main_v1 = cosF (m ((c : Thread nD τ).loc main_arg3)) := by
  show StableHlo.after hostOps0 _ (Proc.devRef .tc main_v1) = _
  after_results
  rfl

theorem V_main_v6 (c : Dev nD) : V m c main_v6 = sinF (m ((c : Thread nD τ).loc main_arg4)) := by
  show StableHlo.after hostOps0 _ (Proc.devRef .tc main_v6) = _
  after_results
  rfl

theorem cosF_apply (x : FVec Ideal S1536x64 .f32) (r : Fin 1536) (l : Fin 128) : cosF x (ix2 r l) = at2 x r.val (l.val / 2) := by
  unfold cosF
  rw [shapeCast_apply _ _ (ix2 r l) (ix3 r (⟨l.val / 2, by omega⟩ : Fin 64) (⟨l.val % 2, by omega⟩ : Fin 2))
    (by rewrite [Shape.rowMajor_val_three, Shape.rowMajor_val_two]
        show (r.val * 64 + l.val / 2) * 2 + l.val % 2 = r.val * 128 + l.val
        omega),
    broadcastInDim_apply _ bcast_S1536x64_S1536x64x2_0_1 x _ (ix2 r (⟨l.val / 2, by omega⟩ : Fin 64)) (fun a => match a with
    | ⟨0, _⟩ => by show r.val = if (1536 : Nat) = 1 then 0 else r.val; rw [if_neg (by decide)]
    | ⟨1, _⟩ => by show l.val / 2 = if (64 : Nat) = 1 then 0 else l.val / 2; rw [if_neg (by decide)])]
  exact eq_at2 x _ _

theorem unit_apply (x : FVec Ideal S1536x64 .f32) (r : Fin 1536) (j : Fin 64) (e : Fin 1) : unit x (ix3 r j e) = at2 x r.val j.val := by
  unfold unit
  rw [broadcastInDim_apply _ bcast_S1536x64_S1536x64x1_0_1 x _ (ix2 r j) (fun a => match a with
    | ⟨0, _⟩ => by show r.val = if (1536 : Nat) = 1 then 0 else r.val; rw [if_neg (by decide)]
    | ⟨1, _⟩ => by show j.val = if (64 : Nat) = 1 then 0 else j.val; rw [if_neg (by decide)])]
  exact eq_at2 x _ _

theorem sinF_apply (x : FVec Ideal S1536x64 .f32) (r : Fin 1536) (l : Fin 128) :
    sinF x (ix2 r l) = if l.val % 2 = 0 then - at2 x r.val (l.val / 2) else at2 x r.val (l.val / 2) := by
  unfold sinF
  rw [shapeCast_apply _ _ (ix2 r l) (ix3 r (⟨l.val / 2, by omega⟩ : Fin 64) (⟨l.val % 2, by omega⟩ : Fin 2))
    (by rewrite [Shape.rowMajor_val_three, Shape.rowMajor_val_two]
        show (r.val * 64 + l.val / 2) * 2 + l.val % 2 = r.val * 128 + l.val
        omega)]
  by_cases he : l.val % 2 = 0
  · rw [if_pos he]
    refine (concatenate_pair_apply_left (t := S1536x64x2) (s₁ := S1536x64x1) (s₂ := S1536x64x1) _ _ _ _ _ rfl
      (ix3 r (⟨l.val / 2, by omega⟩ : Fin 64) (0 : Fin 1)) ?_).trans ((unit_apply _ _ _ _).trans ?_)
    · intro k
      match k with
      | ⟨0, _⟩ => rfl
      | ⟨1, _⟩ => rfl
      | ⟨2, _⟩ => exact he.symm
    · rfl
  · rw [if_neg he]
    refine (concatenate_pair_apply_right (t := S1536x64x2) (s₁ := S1536x64x1) (s₂ := S1536x64x1) _ _ _ _ _ rfl rfl
      (ix3 r (⟨l.val / 2, by omega⟩ : Fin 64) (0 : Fin 1)) ?_ ?_).trans (unit_apply _ _ _ _)
    · intro k hk
      match k with
      | ⟨0, _⟩ => rfl
      | ⟨1, _⟩ => rfl
      | ⟨2, _⟩ => exact absurd rfl hk
    · show 0 + 1 = l.val % 2
      omega

theorem index9 : ∀ t : Fin grid0.N, win0_9.index t 0 = 0 ∧ win0_9.index t 1 = 0 := by decide +kernel

theorem blk9 (c : Dev nD) (t : Fin cfg0.N) {r l : ℕ} (hr : r < 1536) (hl : l < 128) :
    at2 (iblk m c 9 t : Vec Ideal S1536x128 .f32) r l = at2 (m ((c : Thread nD τ).loc main_arg3) : Vec Ideal S1536x64 .f32) r (l / 2) := by
  have hi := index9 t
  rw [at2_of_lt _ hr hl]
  unfold iblk
  rw [View.read_apply]
  show V m c main_v1 _ = _
  rw [V_main_v1]
  refine Eq.trans ?_ (cosF_apply _ ⟨r, hr⟩ ⟨l, hl⟩)
  refine congrArg (cosF (m ((c : Thread nD τ).loc main_arg3))) (funext fun a => ?_)
  match a with
  | ⟨0, _⟩ => exact Fin.ext (by show win0_9.index t 0 * 1536 + 1 * r = r; rw [hi.1]; ring)
  | ⟨1, _⟩ => exact Fin.ext (by show win0_9.index t 1 * 128 + 1 * l = l; rw [hi.2]; ring)

theorem index10 : ∀ t : Fin grid0.N, win0_10.index t 0 = 0 ∧ win0_10.index t 1 = 0 := by decide +kernel

theorem blk10 (c : Dev nD) (t : Fin cfg0.N) {r l : ℕ} (hr : r < 1536) (hl : l < 128) :
    at2 (iblk m c 10 t : Vec Ideal S1536x128 .f32) r l = if l % 2 = 0 then - (at2 (m ((c : Thread nD τ).loc main_arg4) : Vec Ideal S1536x64 .f32) r (l / 2) : EReal) else at2 (m ((c : Thread nD τ).loc main_arg4) : Vec Ideal S1536x64 .f32) r (l / 2) := by
  have hi := index10 t
  rw [at2_of_lt _ hr hl]
  unfold iblk
  rw [View.read_apply]
  show V m c main_v6 _ = _
  rw [V_main_v6]
  refine Eq.trans ?_ (sinF_apply _ ⟨r, hr⟩ ⟨l, hl⟩)
  refine congrArg (sinF (m ((c : Thread nD τ).loc main_arg4))) (funext fun a => ?_)
  match a with
  | ⟨0, _⟩ => exact Fin.ext (by show win0_10.index t 0 * 1536 + 1 * r = r; rw [hi.1]; ring)
  | ⟨1, _⟩ => exact Fin.ext (by show win0_10.index t 1 * 128 + 1 * l = l; rw [hi.2]; ring)

/-! ## The results -/

/-- An argument's contents. -/
abbrev arg (c : Dev nD) (b : Ref sig .tc) : b.ty.Contents (Elt Ideal) := m ((c : Thread nD τ).loc b)

/-- An entry of the projection. -/
abbrev prj (c : Dev nD) (r n : ℕ) : EReal :=
  projN (at2 (arg m c main_arg0 : Vec Ideal S1536x4096 .bf16)) (at2 (arg m c main_arg1 : Vec Ideal S2048x34816 .i8))
    (at2 (arg m c main_arg2 : Vec Ideal S32x34816 .f32)) r n

theorem coords_val : ∀ t : Fin grid0.N, ((grid0.coords t) 0).val = t.val := by decide +kernel

/-- The scale of a head, read at a point's coordinate. -/
theorem scale_at (x : Vec Ideal S8 .f32) (t : Fin grid0.N) (h : Fin 8) (ht : t.val = h.val) (p : ∀ a : Fin S8.rank, ((grid0.coords t) 0).val < S8.size a) :
    x (fun a => ⟨((grid0.coords t) 0).val, p a⟩) = x (ix1 h) := by
  refine congrArg x (funext fun a => ?_)
  match a with
  | ⟨0, _⟩ => exact Fin.ext ((coords_val t).trans ht)

/-- The rotary embedding of a head with a point's tables. -/
theorem rot_point (c : Dev nD) (t : Fin cfg0.N) (p : ℕ → EReal) (r : Fin 1536) (l : Fin 128) :
    rotAt p (at2 (iblk m c 9 t : Vec Ideal S1536x128 .f32) r.val) (at2 (iblk m c 10 t : Vec Ideal S1536x128 .f32) r.val) l.val
      = rotN p (at2 (arg m c main_arg3 : Vec Ideal S1536x64 .f32) r.val) (at2 (arg m c main_arg4 : Vec Ideal S1536x64 .f32) r.val) l.val :=
  rotAt_eq l.isLt (blk9 m c t r.isLt l.isLt) (blk10 m c t r.isLt l.isLt)

/-- The projection of a point's columns of q. -/
theorem prj_q (c : Dev nD) (t : Fin cfg0.N) (r : Fin 1536) {n : ℕ} (hn : n < 512) :
    projN (at2 (iblk m c 2 t : Vec Ideal S1536x4096 .bf16)) (at2 (iblk m c 3 t : Vec Ideal S2048x512 .i8)) (at2 (iblk m c 6 t : Vec Ideal S32x512 .f32)) r.val n
      = prj m c r.val (512 * t.val + n) := by
  unfold prj projN
  refine Finset.sum_congr rfl fun k hk => ?_
  have hk : k < 4096 := Finset.mem_range.mp hk
  rw [blk2 m c t r.isLt hk, show 1536 * 0 + r.val = r.val by ring, show 4096 * 0 + k = k by ring]
  refine congrArg _ ?_
  have e := wN_shift (P' := at2 (iblk m c 3 t : Vec Ideal S2048x512 .i8)) (S' := at2 (iblk m c 6 t : Vec Ideal S32x512 .f32))
    (P := at2 (arg m c main_arg1 : Vec Ideal S2048x34816 .i8)) (S := at2 (arg m c main_arg2 : Vec Ideal S32x34816 .f32)) (q := 0) (k := k) (l := n) (n := 512 * t.val + n) ?_ ?_
  · rwa [show 128 * 0 + k = k by ring] at e
  · rw [blk3 m c t (by omega) hn, show 2048 * 0 + k / 2 = 64 * 0 + k / 2 by ring, show 512 * (t.val) + n = 512 * t.val + n by ring]
  · rw [blk6 m c t (by omega) hn, show 32 * 0 + k / 128 = 0 + k / 128 by ring, show 512 * (t.val) + n = 512 * t.val + n by ring]

/-- The projection of a point's columns of k. -/
theorem prj_k (c : Dev nD) (t : Fin cfg0.N) (r : Fin 1536) {n : ℕ} (hn : n < 128) :
    projN (at2 (iblk m c 2 t : Vec Ideal S1536x4096 .bf16)) (at2 (iblk m c 4 t : Vec Ideal S2048x128 .i8)) (at2 (iblk m c 7 t : Vec Ideal S32x128 .f32)) r.val n
      = prj m c r.val (4096 + 128 * t.val + n) := by
  unfold prj projN
  refine Finset.sum_congr rfl fun k hk => ?_
  have hk : k < 4096 := Finset.mem_range.mp hk
  rw [blk2 m c t r.isLt hk, show 1536 * 0 + r.val = r.val by ring, show 4096 * 0 + k = k by ring]
  refine congrArg _ ?_
  have e := wN_shift (P' := at2 (iblk m c 4 t : Vec Ideal S2048x128 .i8)) (S' := at2 (iblk m c 7 t : Vec Ideal S32x128 .f32))
    (P := at2 (arg m c main_arg1 : Vec Ideal S2048x34816 .i8)) (S := at2 (arg m c main_arg2 : Vec Ideal S32x34816 .f32)) (q := 0) (k := k) (l := n) (n := 4096 + 128 * t.val + n) ?_ ?_
  · rwa [show 128 * 0 + k = k by ring] at e
  · rw [blk4 m c t (by omega) hn, show 2048 * 0 + k / 2 = 64 * 0 + k / 2 by ring, show 128 * ((32 + t.val)) + n = 4096 + 128 * t.val + n by ring]
  · rw [blk7 m c t (by omega) hn, show 32 * 0 + k / 128 = 0 + k / 128 by ring, show 128 * ((32 + t.val)) + n = 4096 + 128 * t.val + n by ring]

/-- The projection of a point's columns of v. -/
theorem prj_v (c : Dev nD) (t : Fin cfg0.N) (r : Fin 1536) {n : ℕ} (hn : n < 128) :
    projN (at2 (iblk m c 2 t : Vec Ideal S1536x4096 .bf16)) (at2 (iblk m c 5 t : Vec Ideal S2048x128 .i8)) (at2 (iblk m c 8 t : Vec Ideal S32x128 .f32)) r.val n
      = prj m c r.val (5120 + 128 * t.val + n) := by
  unfold prj projN
  refine Finset.sum_congr rfl fun k hk => ?_
  have hk : k < 4096 := Finset.mem_range.mp hk
  rw [blk2 m c t r.isLt hk, show 1536 * 0 + r.val = r.val by ring, show 4096 * 0 + k = k by ring]
  refine congrArg _ ?_
  have e := wN_shift (P' := at2 (iblk m c 5 t : Vec Ideal S2048x128 .i8)) (S' := at2 (iblk m c 8 t : Vec Ideal S32x128 .f32))
    (P := at2 (arg m c main_arg1 : Vec Ideal S2048x34816 .i8)) (S := at2 (arg m c main_arg2 : Vec Ideal S32x34816 .f32)) (q := 0) (k := k) (l := n) (n := 5120 + 128 * t.val + n) ?_ ?_
  · rwa [show 128 * 0 + k = k by ring] at e
  · rw [blk5 m c t (by omega) hn, show 2048 * 0 + k / 2 = 64 * 0 + k / 2 by ring, show 128 * ((40 + t.val)) + n = 5120 + 128 * t.val + n by ring]
  · rw [blk8 m c t (by omega) hn, show 32 * 0 + k / 128 = 0 + k / 128 by ring, show 128 * ((40 + t.val)) + n = 5120 + 128 * t.val + n by ring]

theorem flush_all11 : ∀ t : Fin cfg0.N, (cfg0.win 11).flush t = true := (by decide +kernel : ∀ t : Fin grid0.N, win0_11.flush t = true)
theorem flush_all12 : ∀ t : Fin cfg0.N, (cfg0.win 12).flush t = true := (by decide +kernel : ∀ t : Fin grid0.N, win0_12.flush t = true)
theorem flush_all13 : ∀ t : Fin cfg0.N, (cfg0.win 13).flush t = true := (by decide +kernel : ∀ t : Fin grid0.N, win0_13.flush t = true)
theorem index11 : ∀ t : Fin grid0.N, win0_11.index t 0 = 0 ∧ win0_11.index t 1 = t.val := by decide +kernel
theorem index12 : ∀ t : Fin grid0.N, win0_12.index t 0 = 0 ∧ win0_12.index t 1 = t.val := by decide +kernel
theorem index13 : ∀ t : Fin grid0.N, win0_13.index t 0 = 0 ∧ win0_13.index t 1 = t.val := by decide +kernel

/-- Output window 11's array at an entry is what the entry's point wrote back there. -/
theorem arr11 (c : Dev nD) (t : Fin cfg0.N) (r : Fin 1536) (l : Fin 512) (n : Fin 4096) (hn : n.val = 512 * t.val + l.val) :
    ((dats m 0 c).arrAt 11 cfg0.N : Vec Ideal S1536x4096 .bf16) (ix2 r n) = ((dats m 0 c).flushed 11 t : Vec Ideal S1536x512 .bf16) (ix2 r l) := by
  have hi := index11 t
  have hb := congrFun (Value.blocks11 m c t (flush_all11 t)) (ix2 r l)
  rw [View.read_apply] at hb
  refine Eq.trans ?_ hb
  refine congrArg ((dats m 0 c).arrAt 11 cfg0.N : Vec Ideal S1536x4096 .bf16) (funext fun a => ?_)
  match a with
  | ⟨0, _⟩ => exact Fin.ext (by show r.val = win0_11.index t 0 * 1536 + 1 * r.val; rw [hi.1]; ring)
  | ⟨1, _⟩ => exact Fin.ext (by show n.val = win0_11.index t 1 * 512 + 1 * l.val; rw [hi.2, hn]; ring)

/-- Output window 12's array at an entry is what the entry's point wrote back there. -/
theorem arr12 (c : Dev nD) (t : Fin cfg0.N) (r : Fin 1536) (l : Fin 128) (n : Fin 1024) (hn : n.val = 128 * t.val + l.val) :
    ((dats m 0 c).arrAt 12 cfg0.N : Vec Ideal S1536x1024 .fp8e4m3) (ix2 r n) = ((dats m 0 c).flushed 12 t : Vec Ideal S1536x128 .fp8e4m3) (ix2 r l) := by
  have hi := index12 t
  have hb := congrFun (Value.blocks12 m c t (flush_all12 t)) (ix2 r l)
  rw [View.read_apply] at hb
  refine Eq.trans ?_ hb
  refine congrArg ((dats m 0 c).arrAt 12 cfg0.N : Vec Ideal S1536x1024 .fp8e4m3) (funext fun a => ?_)
  match a with
  | ⟨0, _⟩ => exact Fin.ext (by show r.val = win0_12.index t 0 * 1536 + 1 * r.val; rw [hi.1]; ring)
  | ⟨1, _⟩ => exact Fin.ext (by show n.val = win0_12.index t 1 * 128 + 1 * l.val; rw [hi.2, hn]; ring)

/-- Output window 13's array at an entry is what the entry's point wrote back there. -/
theorem arr13 (c : Dev nD) (t : Fin cfg0.N) (r : Fin 1536) (l : Fin 128) (n : Fin 1024) (hn : n.val = 128 * t.val + l.val) :
    ((dats m 0 c).arrAt 13 cfg0.N : Vec Ideal S1536x1024 .fp8e4m3) (ix2 r n) = ((dats m 0 c).flushed 13 t : Vec Ideal S1536x128 .fp8e4m3) (ix2 r l) := by
  have hi := index13 t
  have hb := congrFun (Value.blocks13 m c t (flush_all13 t)) (ix2 r l)
  rw [View.read_apply] at hb
  refine Eq.trans ?_ hb
  refine congrArg ((dats m 0 c).arrAt 13 cfg0.N : Vec Ideal S1536x1024 .fp8e4m3) (funext fun a => ?_)
  match a with
  | ⟨0, _⟩ => exact Fin.ext (by show r.val = win0_13.index t 0 * 1536 + 1 * r.val; rw [hi.1]; ring)
  | ⟨1, _⟩ => exact Fin.ext (by show n.val = win0_13.index t 1 * 128 + 1 * l.val; rw [hi.2, hn]; ring)

/-- q at an entry: head `h`, column `l`. -/
theorem q_apply (c : Dev nD) (r : Fin 1536) (h : Fin 32) (l : Fin 128) :
    ((dats m 0 c).arrAt 11 cfg0.N : Vec Ideal S1536x4096 .bf16) (ix2 r ⟨128 * h.val + l.val, by omega⟩)
      = rotN (fun l => prj m c r.val (128 * h.val + l)) (at2 (arg m c main_arg3 : Vec Ideal S1536x64 .f32) r.val) (at2 (arg m c main_arg4 : Vec Ideal S1536x64 .f32) r.val) l.val := by
  have hN : cfg0.N = 8 := N_0
  let t : Fin cfg0.N := ⟨h.val / 4, by omega⟩
  let j : Fin 4 := ⟨h.val % 4, by omega⟩
  have hj : j.val = h.val % 4 := rfl
  have ht : t.val = h.val / 4 := rfl
  rw [arr11 m c t r ⟨128 * j.val + l.val, by omega⟩ _ (by show 128 * h.val + l.val = 512 * t.val + (128 * j.val + l.val); omega), Value.flushed11_A, out_11]
  show qBlock (F := Ideal) _ _ _ _ _ (ix2 r ⟨128 * j.val + l.val, _⟩) = _
  rw [qBlock_apply]
  refine (rot_point m c t _ r l).trans (rotN_congr (fun l hl => ?_) l.isLt)
  rw [prj_q m c t r (by omega)]
  exact congrArg _ (by omega)

/-- k at an entry: head `h`, column `l`. -/
theorem k_apply (c : Dev nD) (r : Fin 1536) (h : Fin 8) (l : Fin 128) :
    ((dats m 0 c).arrAt 12 cfg0.N : Vec Ideal S1536x1024 .fp8e4m3) (ix2 r ⟨128 * h.val + l.val, by omega⟩)
      = clipN (Ideal.div (rotN (fun l => prj m c r.val (4096 + (128 * h.val + l))) (at2 (arg m c main_arg3 : Vec Ideal S1536x64 .f32) r.val) (at2 (arg m c main_arg4 : Vec Ideal S1536x64 .f32) r.val) l.val)
          ((arg m c main_arg5 : Vec Ideal S8 .f32) (ix1 h))) := by
  have hN : cfg0.N = 8 := N_0
  let t : Fin cfg0.N := ⟨h.val, by omega⟩
  have ht : t.val = h.val := rfl
  rw [arr12 m c t r l _ (by show 128 * h.val + l.val = 128 * t.val + l.val; omega), Value.flushed12_A, out_12]
  show kBlock (F := Ideal) _ _ _ _ _ _ _ _ (ix2 r l) = _
  rw [kBlock_apply, rot_point m c t, (blk0 m c t _).trans (scale_at (arg m c main_arg5 : Vec Ideal S8 .f32) t h ht (fun a => by fin_cases a; exact ((grid0.coords t) 0).isLt))]
  refine congrArg (fun z => clipN (Ideal.div z _)) (rotN_congr (fun l hl => ?_) l.isLt)
  rw [prj_k m c t r hl]
  exact congrArg _ (by omega)

/-- v at an entry: head `h`, column `l`. -/
theorem v_apply (c : Dev nD) (r : Fin 1536) (h : Fin 8) (l : Fin 128) :
    ((dats m 0 c).arrAt 13 cfg0.N : Vec Ideal S1536x1024 .fp8e4m3) (ix2 r ⟨128 * h.val + l.val, by omega⟩)
      = clipN (Ideal.div (prj m c r.val (5120 + (128 * h.val + l.val))) ((arg m c main_arg6 : Vec Ideal S8 .f32) (ix1 h))) := by
  have hN : cfg0.N = 8 := N_0
  let t : Fin cfg0.N := ⟨h.val, by omega⟩
  have ht : t.val = h.val := rfl
  rw [arr13 m c t r l _ (by show 128 * h.val + l.val = 128 * t.val + l.val; omega), Value.flushed13_A, out_13]
  show vBlock (F := Ideal) _ _ _ _ _ _ (ix2 r l) = _
  rw [vBlock_apply, (blk1 m c t _).trans (scale_at (arg m c main_arg6 : Vec Ideal S8 .f32) t h ht (fun a => by fin_cases a; exact ((grid0.coords t) 0).isLt)), prj_v m c t r l.isLt]
  refine congrArg (fun n => clipN (Ideal.div (prj m c r.val n) _)) ?_
  omega

end Cert.KernelQkvIdeal.Val
-- ==== Proof.QkvRef.lean ====
module

public import proofs.«01_k».proof.Proof.RefVal
public import proofs.«01_k».proof.Proof.Rotary
public import proofs.«01_k».proof.Proof.Gen.ReferenceQkvIdeal.Read

@[expose] public section

set_option maxRecDepth 2000

/-!
  The reference of the q, k and v call: its three results as functions of the arguments, read at an index.
-/

noncomputable section

namespace Cert.ReferenceQkvIdeal.Val

open Cert.ReferenceQkvIdeal Cert.ReferenceQkvIdeal.Gen Idealize.ShloMosaic Idealize.ShloMosaic.StableHlo Cert.Packed
open Idealize.ShloMosaic.Pointwise

variable {F : FTy → Type} [FloatOps F]

/-! ## 32 heads -/

/-- The 4096 columns as 32 heads of 128. -/
def heads32 (P : FVec F S1536x4096 .f32) : FVec F S1536x32x128 .f32 := shapeCast S1536x32x128 P shapeCasts_S1536x4096_S1536x32x128
/-- The even columns of each head. -/
def even32 (H : FVec F S1536x32x128 .f32) : FVec F S1536x32x64 .f32 :=
  Host.slice S1536x32x64 ![0, 0, 0] ![1, 1, 2] H slicesBy_S1536x32x128_S1536x32x64_0s1_0s1_0s2
/-- The odd columns of each head. -/
def odd32 (H : FVec F S1536x32x128 .f32) : FVec F S1536x32x64 .f32 :=
  Host.slice S1536x32x64 ![0, 0, 1] ![1, 1, 2] H slicesBy_S1536x32x128_S1536x32x64_0s1_0s1_1s2
/-- The cosines or sines, repeated for every head. -/
def tab32 (t : FVec F S1536x64 .f32) : FVec F S1536x32x64 .f32 :=
  broadcastInDim S1536x32x64 ![0, 1, 2] bcast_S1536x1x64_S1536x32x64_0_1_2
    (broadcastInDim S1536x1x64 ![0, 2] bcast_S1536x64_S1536x1x64_0_2 t)
/-- The even columns of the rotated heads. -/
def re32 (H : FVec F S1536x32x128 .f32) (c s : FVec F S1536x64 .f32) : FVec F S1536x32x64 .f32 :=
  subf (mulf (even32 H) (tab32 c)) (mulf (odd32 H) (tab32 s))
/-- The odd columns of the rotated heads. -/
def im32 (H : FVec F S1536x32x128 .f32) (c s : FVec F S1536x64 .f32) : FVec F S1536x32x64 .f32 :=
  addf (mulf (even32 H) (tab32 s)) (mulf (odd32 H) (tab32 c))
/-- One more axis, of one entry. -/
def unit32 (y : FVec F S1536x32x64 .f32) : FVec F S1536x32x64x1 .f32 :=
  broadcastInDim S1536x32x64x1 ![0, 1, 2] bcast_S1536x32x64_S1536x32x64x1_0_1_2 y
/-- Two arrays side by side on the last axis. -/
def pair32 (a b : FVec F S1536x32x64x1 .f32) : FVec F S1536x32x64x2 .f32 :=
  concatenate S1536x32x64x2 3 [⟨S1536x32x64x1, a⟩, ⟨S1536x32x64x1, b⟩] concatenates_S1536x32x64x1_S1536x32x64x1_S1536x32x64x2_d3
/-- The rotated heads. -/
def rot32 (H : FVec F S1536x32x128 .f32) (c s : FVec F S1536x64 .f32) : FVec F S1536x32x128 .f32 :=
  shapeCast S1536x32x128 (pair32 (unit32 (re32 H c s)) (unit32 (im32 H c s))) shapeCasts_S1536x32x64x2_S1536x32x128

theorem heads32_apply (P : FVec Ideal S1536x4096 .f32) (r : Fin 1536) (h : Fin 32) (l : Fin 128) :
    heads32 P (ix3 r h l) = at2 P r.val (128 * h.val + l.val) := by
  unfold heads32
  rw [shapeCast_apply P _ (ix3 r h l) (ix2 r ⟨128 * h.val + l.val, by omega⟩)
    (by rewrite [Shape.rowMajor_val_three, Shape.rowMajor_val_two]
        show r.val * 4096 + (128 * h.val + l.val) = (r.val * 32 + h.val) * 128 + l.val
        omega)]
  exact eq_at2 P _ _

theorem even32_apply (H : FVec Ideal S1536x32x128 .f32) (r : Fin 1536) (h : Fin 32) (j : Fin 64) :
    even32 H (ix3 r h j) = H (ix3 r h ⟨2 * j.val, by omega⟩) := by
  unfold even32 Host.slice
  congr 1
  funext a
  match a with
  | ⟨0, _⟩ => exact Fin.ext (by show 0 + 1 * r.val = r.val; omega)
  | ⟨1, _⟩ => exact Fin.ext (by show 0 + 1 * h.val = h.val; omega)
  | ⟨2, _⟩ => exact Fin.ext (by show 0 + 2 * j.val = 2 * j.val; omega)

theorem odd32_apply (H : FVec Ideal S1536x32x128 .f32) (r : Fin 1536) (h : Fin 32) (j : Fin 64) :
    odd32 H (ix3 r h j) = H (ix3 r h ⟨2 * j.val + 1, by omega⟩) := by
  unfold odd32 Host.slice
  congr 1
  funext a
  match a with
  | ⟨0, _⟩ => exact Fin.ext (by show 0 + 1 * r.val = r.val; omega)
  | ⟨1, _⟩ => exact Fin.ext (by show 0 + 1 * h.val = h.val; omega)
  | ⟨2, _⟩ => exact Fin.ext (by show 1 + 2 * j.val = 2 * j.val + 1; omega)

theorem tab32_apply (t : FVec Ideal S1536x64 .f32) (r : Fin 1536) (h : Fin 32) (j : Fin 64) :
    tab32 t (ix3 r h j) = at2 t r.val j.val := by
  unfold tab32
  rw [broadcastInDim_apply _ bcast_S1536x1x64_S1536x32x64_0_1_2 _ (ix3 r h j) (ix3 r (0 : Fin 1) j) (fun a => match a with
    | ⟨0, _⟩ => by show r.val = if (1536 : Nat) = 1 then 0 else r.val; rw [if_neg (by decide)]
    | ⟨1, _⟩ => by show 0 = if (1 : Nat) = 1 then 0 else h.val; rw [if_pos rfl]
    | ⟨2, _⟩ => by show j.val = if (64 : Nat) = 1 then 0 else j.val; rw [if_neg (by decide)]),
    broadcastInDim_apply _ bcast_S1536x64_S1536x1x64_0_2 t (ix3 r (0 : Fin 1) j) (ix2 r j) (fun a => match a with
    | ⟨0, _⟩ => by show r.val = if (1536 : Nat) = 1 then 0 else r.val; rw [if_neg (by decide)]
    | ⟨1, _⟩ => by show j.val = if (64 : Nat) = 1 then 0 else j.val; rw [if_neg (by decide)])]
  exact eq_at2 t _ _

theorem unit32_apply (y : FVec Ideal S1536x32x64 .f32) (r : Fin 1536) (h : Fin 32) (j : Fin 64) (i : S1536x32x64x1.Idx)
    (h0 : (i 0).val = r.val) (h1 : (i 1).val = h.val) (h2 : (i 2).val = j.val) : unit32 y i = y (ix3 r h j) := by
  unfold unit32
  exact broadcastInDim_apply _ bcast_S1536x32x64_S1536x32x64x1_0_1_2 y i (ix3 r h j) (fun a => match a with
    | ⟨0, _⟩ => by show r.val = if (1536 : Nat) = 1 then 0 else (i 0).val; rw [if_neg (by decide), h0]
    | ⟨1, _⟩ => by show h.val = if (32 : Nat) = 1 then 0 else (i 1).val; rw [if_neg (by decide), h1]
    | ⟨2, _⟩ => by show j.val = if (64 : Nat) = 1 then 0 else (i 2).val; rw [if_neg (by decide), h2])

theorem pair32_apply (a b : FVec Ideal S1536x32x64 .f32) (r : Fin 1536) (h : Fin 32) (j : Fin 64) (e : Fin 2) :
    pair32 (unit32 a) (unit32 b) (ix4 r h j e) = if e.val = 0 then a (ix3 r h j) else b (ix3 r h j) := by
  unfold pair32
  by_cases he : e.val = 0
  · rw [if_pos he]
    refine (concatenate_pair_apply_left (s₁ := S1536x32x64x1) (s₂ := S1536x32x64x1) _ _ _ _ (ix4 r h j e) rfl (ix4 r h j (0 : Fin 1)) ?_).trans (unit32_apply a r h j _ rfl rfl rfl)
    intro k
    match k with
    | ⟨0, _⟩ => rfl
    | ⟨1, _⟩ => rfl
    | ⟨2, _⟩ => rfl
    | ⟨3, _⟩ => exact he.symm
  · rw [if_neg he]
    refine (concatenate_pair_apply_right (s₁ := S1536x32x64x1) (s₂ := S1536x32x64x1) _ _ _ _ (ix4 r h j e) rfl rfl (ix4 r h j (0 : Fin 1)) ?_ ?_).trans (unit32_apply b r h j _ rfl rfl rfl)
    · intro k hk
      match k with
      | ⟨0, _⟩ => rfl
      | ⟨1, _⟩ => rfl
      | ⟨2, _⟩ => rfl
      | ⟨3, _⟩ => exact absurd rfl hk
    · show 0 + 1 = e.val
      omega

/-- The rotated heads at one entry. -/
theorem rot32_apply (P : FVec Ideal S1536x4096 .f32) (c s : FVec Ideal S1536x64 .f32) (r : Fin 1536) (h : Fin 32) (l : Fin 128) :
    rot32 (heads32 P) c s (ix3 r h l)
      = rotN (fun l => at2 P r.val (128 * h.val + l)) (at2 c r.val) (at2 s r.val) l.val := by
  unfold rot32
  rw [shapeCast_apply _ _ (ix3 r h l) (ix4 r h (⟨l.val / 2, by omega⟩ : Fin 64) (⟨l.val % 2, by omega⟩ : Fin 2))
    (by rewrite [Shape.rowMajor_val_four, Shape.rowMajor_val_three]
        show ((r.val * 32 + h.val) * 64 + l.val / 2) * 2 + l.val % 2 = (r.val * 32 + h.val) * 128 + l.val
        omega), pair32_apply]
  unfold rotN
  by_cases he : l.val % 2 = 0
  · rw [if_pos he, if_pos he]
    show even32 _ _ * tab32 c _ - odd32 _ _ * tab32 s _ = _
    rw [even32_apply, odd32_apply, tab32_apply, tab32_apply, heads32_apply, heads32_apply]
    show at2 P r.val (128 * h.val + 2 * (l.val / 2)) * _ - at2 P r.val (128 * h.val + (2 * (l.val / 2) + 1)) * _ = _
    rw [show 2 * (l.val / 2) = l.val by omega]
  · rw [if_neg he, if_neg he]
    show even32 _ _ * tab32 s _ + odd32 _ _ * tab32 c _ = _
    rw [even32_apply, odd32_apply, tab32_apply, tab32_apply, heads32_apply, heads32_apply]
    show at2 P r.val (128 * h.val + 2 * (l.val / 2)) * _ + at2 P r.val (128 * h.val + (2 * (l.val / 2) + 1)) * _ = _
    rw [show 2 * (l.val / 2) = l.val - 1 by omega, show l.val - 1 + 1 = l.val by omega]

/-! ## 8 heads -/

/-- The 1024 columns as 8 heads of 128. -/
def heads8 (P : FVec F S1536x1024 .f32) : FVec F S1536x8x128 .f32 := shapeCast S1536x8x128 P shapeCasts_S1536x1024_S1536x8x128
/-- The even columns of each head. -/
def even8 (H : FVec F S1536x8x128 .f32) : FVec F S1536x8x64 .f32 :=
  Host.slice S1536x8x64 ![0, 0, 0] ![1, 1, 2] H slicesBy_S1536x8x128_S1536x8x64_0s1_0s1_0s2
/-- The odd columns of each head. -/
def odd8 (H : FVec F S1536x8x128 .f32) : FVec F S1536x8x64 .f32 :=
  Host.slice S1536x8x64 ![0, 0, 1] ![1, 1, 2] H slicesBy_S1536x8x128_S1536x8x64_0s1_0s1_1s2
/-- The cosines or sines, repeated for every head. -/
def tab8 (t : FVec F S1536x64 .f32) : FVec F S1536x8x64 .f32 :=
  broadcastInDim S1536x8x64 ![0, 1, 2] bcast_S1536x1x64_S1536x8x64_0_1_2
    (broadcastInDim S1536x1x64 ![0, 2] bcast_S1536x64_S1536x1x64_0_2 t)
/-- The even columns of the rotated heads. -/
def re8 (H : FVec F S1536x8x128 .f32) (c s : FVec F S1536x64 .f32) : FVec F S1536x8x64 .f32 :=
  subf (mulf (even8 H) (tab8 c)) (mulf (odd8 H) (tab8 s))
/-- The odd columns of the rotated heads. -/
def im8 (H : FVec F S1536x8x128 .f32) (c s : FVec F S1536x64 .f32) : FVec F S1536x8x64 .f32 :=
  addf (mulf (even8 H) (tab8 s)) (mulf (odd8 H) (tab8 c))
/-- One more axis, of one entry. -/
def unit8 (y : FVec F S1536x8x64 .f32) : FVec F S1536x8x64x1 .f32 :=
  broadcastInDim S1536x8x64x1 ![0, 1, 2] bcast_S1536x8x64_S1536x8x64x1_0_1_2 y
/-- Two arrays side by side on the last axis. -/
def pair8 (a b : FVec F S1536x8x64x1 .f32) : FVec F S1536x8x64x2 .f32 :=
  concatenate S1536x8x64x2 3 [⟨S1536x8x64x1, a⟩, ⟨S1536x8x64x1, b⟩] concatenates_S1536x8x64x1_S1536x8x64x1_S1536x8x64x2_d3
/-- The rotated heads. -/
def rot8 (H : FVec F S1536x8x128 .f32) (c s : FVec F S1536x64 .f32) : FVec F S1536x8x128 .f32 :=
  shapeCast S1536x8x128 (pair8 (unit8 (re8 H c s)) (unit8 (im8 H c s))) shapeCasts_S1536x8x64x2_S1536x8x128

theorem heads8_apply (P : FVec Ideal S1536x1024 .f32) (r : Fin 1536) (h : Fin 8) (l : Fin 128) :
    heads8 P (ix3 r h l) = at2 P r.val (128 * h.val + l.val) := by
  unfold heads8
  rw [shapeCast_apply P _ (ix3 r h l) (ix2 r ⟨128 * h.val + l.val, by omega⟩)
    (by rewrite [Shape.rowMajor_val_three, Shape.rowMajor_val_two]
        show r.val * 1024 + (128 * h.val + l.val) = (r.val * 8 + h.val) * 128 + l.val
        omega)]
  exact eq_at2 P _ _

theorem even8_apply (H : FVec Ideal S1536x8x128 .f32) (r : Fin 1536) (h : Fin 8) (j : Fin 64) :
    even8 H (ix3 r h j) = H (ix3 r h ⟨2 * j.val, by omega⟩) := by
  unfold even8 Host.slice
  congr 1
  funext a
  match a with
  | ⟨0, _⟩ => exact Fin.ext (by show 0 + 1 * r.val = r.val; omega)
  | ⟨1, _⟩ => exact Fin.ext (by show 0 + 1 * h.val = h.val; omega)
  | ⟨2, _⟩ => exact Fin.ext (by show 0 + 2 * j.val = 2 * j.val; omega)

theorem odd8_apply (H : FVec Ideal S1536x8x128 .f32) (r : Fin 1536) (h : Fin 8) (j : Fin 64) :
    odd8 H (ix3 r h j) = H (ix3 r h ⟨2 * j.val + 1, by omega⟩) := by
  unfold odd8 Host.slice
  congr 1
  funext a
  match a with
  | ⟨0, _⟩ => exact Fin.ext (by show 0 + 1 * r.val = r.val; omega)
  | ⟨1, _⟩ => exact Fin.ext (by show 0 + 1 * h.val = h.val; omega)
  | ⟨2, _⟩ => exact Fin.ext (by show 1 + 2 * j.val = 2 * j.val + 1; omega)

theorem tab8_apply (t : FVec Ideal S1536x64 .f32) (r : Fin 1536) (h : Fin 8) (j : Fin 64) :
    tab8 t (ix3 r h j) = at2 t r.val j.val := by
  unfold tab8
  rw [broadcastInDim_apply _ bcast_S1536x1x64_S1536x8x64_0_1_2 _ (ix3 r h j) (ix3 r (0 : Fin 1) j) (fun a => match a with
    | ⟨0, _⟩ => by show r.val = if (1536 : Nat) = 1 then 0 else r.val; rw [if_neg (by decide)]
    | ⟨1, _⟩ => by show 0 = if (1 : Nat) = 1 then 0 else h.val; rw [if_pos rfl]
    | ⟨2, _⟩ => by show j.val = if (64 : Nat) = 1 then 0 else j.val; rw [if_neg (by decide)]),
    broadcastInDim_apply _ bcast_S1536x64_S1536x1x64_0_2 t (ix3 r (0 : Fin 1) j) (ix2 r j) (fun a => match a with
    | ⟨0, _⟩ => by show r.val = if (1536 : Nat) = 1 then 0 else r.val; rw [if_neg (by decide)]
    | ⟨1, _⟩ => by show j.val = if (64 : Nat) = 1 then 0 else j.val; rw [if_neg (by decide)])]
  exact eq_at2 t _ _

theorem unit8_apply (y : FVec Ideal S1536x8x64 .f32) (r : Fin 1536) (h : Fin 8) (j : Fin 64) (i : S1536x8x64x1.Idx)
    (h0 : (i 0).val = r.val) (h1 : (i 1).val = h.val) (h2 : (i 2).val = j.val) : unit8 y i = y (ix3 r h j) := by
  unfold unit8
  exact broadcastInDim_apply _ bcast_S1536x8x64_S1536x8x64x1_0_1_2 y i (ix3 r h j) (fun a => match a with
    | ⟨0, _⟩ => by show r.val = if (1536 : Nat) = 1 then 0 else (i 0).val; rw [if_neg (by decide), h0]
    | ⟨1, _⟩ => by show h.val = if (8 : Nat) = 1 then 0 else (i 1).val; rw [if_neg (by decide), h1]
    | ⟨2, _⟩ => by show j.val = if (64 : Nat) = 1 then 0 else (i 2).val; rw [if_neg (by decide), h2])

theorem pair8_apply (a b : FVec Ideal S1536x8x64 .f32) (r : Fin 1536) (h : Fin 8) (j : Fin 64) (e : Fin 2) :
    pair8 (unit8 a) (unit8 b) (ix4 r h j e) = if e.val = 0 then a (ix3 r h j) else b (ix3 r h j) := by
  unfold pair8
  by_cases he : e.val = 0
  · rw [if_pos he]
    refine (concatenate_pair_apply_left (s₁ := S1536x8x64x1) (s₂ := S1536x8x64x1) _ _ _ _ (ix4 r h j e) rfl (ix4 r h j (0 : Fin 1)) ?_).trans (unit8_apply a r h j _ rfl rfl rfl)
    intro k
    match k with
    | ⟨0, _⟩ => rfl
    | ⟨1, _⟩ => rfl
    | ⟨2, _⟩ => rfl
    | ⟨3, _⟩ => exact he.symm
  · rw [if_neg he]
    refine (concatenate_pair_apply_right (s₁ := S1536x8x64x1) (s₂ := S1536x8x64x1) _ _ _ _ (ix4 r h j e) rfl rfl (ix4 r h j (0 : Fin 1)) ?_ ?_).trans (unit8_apply b r h j _ rfl rfl rfl)
    · intro k hk
      match k with
      | ⟨0, _⟩ => rfl
      | ⟨1, _⟩ => rfl
      | ⟨2, _⟩ => rfl
      | ⟨3, _⟩ => exact absurd rfl hk
    · show 0 + 1 = e.val
      omega

/-- The rotated heads at one entry. -/
theorem rot8_apply (P : FVec Ideal S1536x1024 .f32) (c s : FVec Ideal S1536x64 .f32) (r : Fin 1536) (h : Fin 8) (l : Fin 128) :
    rot8 (heads8 P) c s (ix3 r h l)
      = rotN (fun l => at2 P r.val (128 * h.val + l)) (at2 c r.val) (at2 s r.val) l.val := by
  unfold rot8
  rw [shapeCast_apply _ _ (ix3 r h l) (ix4 r h (⟨l.val / 2, by omega⟩ : Fin 64) (⟨l.val % 2, by omega⟩ : Fin 2))
    (by rewrite [Shape.rowMajor_val_four, Shape.rowMajor_val_three]
        show ((r.val * 8 + h.val) * 64 + l.val / 2) * 2 + l.val % 2 = (r.val * 8 + h.val) * 128 + l.val
        omega), pair8_apply]
  unfold rotN
  by_cases he : l.val % 2 = 0
  · rw [if_pos he, if_pos he]
    show even8 _ _ * tab8 c _ - odd8 _ _ * tab8 s _ = _
    rw [even8_apply, odd8_apply, tab8_apply, tab8_apply, heads8_apply, heads8_apply]
    show at2 P r.val (128 * h.val + 2 * (l.val / 2)) * _ - at2 P r.val (128 * h.val + (2 * (l.val / 2) + 1)) * _ = _
    rw [show 2 * (l.val / 2) = l.val by omega]
  · rw [if_neg he, if_neg he]
    show even8 _ _ * tab8 s _ + odd8 _ _ * tab8 c _ = _
    rw [even8_apply, odd8_apply, tab8_apply, tab8_apply, heads8_apply, heads8_apply]
    show at2 P r.val (128 * h.val + 2 * (l.val / 2)) * _ + at2 P r.val (128 * h.val + (2 * (l.val / 2) + 1)) * _ = _
    rw [show 2 * (l.val / 2) = l.val - 1 by omega, show l.val - 1 + 1 = l.val by omega]

/-! ## The host operations -/

variable (m : (ℓ : Loc nD τ sig) → Buf (Elt Ideal) ℓ) (c : Dev nD)

/-- An argument's contents. -/
abbrev arg (b : Ref sig .tc) : b.ty.Contents (Elt Ideal) := m (c, Proc.devRef .tc b)

/-- The columns of the fused projection that hold q. -/
abbrev pq : FVec Ideal S1536x4096 .f32 := ReferenceIdeal.Read.val_main_v22 (arg m c main_arg0) (arg m c main_arg1) (arg m c main_arg2)
/-- The columns of the fused projection that hold k. -/
abbrev pk : FVec Ideal S1536x1024 .f32 := ReferenceIdeal.Read.val_main_v23 (arg m c main_arg0) (arg m c main_arg1) (arg m c main_arg2)
/-- The columns of the fused projection that hold v. -/
abbrev pv : FVec Ideal S1536x1024 .f32 := ReferenceIdeal.Read.val_main_v24 (arg m c main_arg0) (arg m c main_arg1) (arg m c main_arg2)
/-- A scale for each head, repeated over the rows and columns. -/
def scales (s : FVec F S8 .f32) : FVec F S1536x8x128 .f32 :=
  broadcastInDim S1536x8x128 ![0, 1, 2] bcast_S1x8x1_S1536x8x128_0_1_2 (broadcastInDim S1x8x1 ![1] bcast_S8_S1x8x1_1 s)

theorem scales_apply (s : FVec Ideal S8 .f32) (r : Fin 1536) (h : Fin 8) (l : Fin 128) :
    scales s (ix3 r h l) = s (ix1 h) := by
  unfold scales
  rw [broadcastInDim_apply _ bcast_S1x8x1_S1536x8x128_0_1_2 _ (ix3 r h l) (ix3 (0 : Fin 1) h (0 : Fin 1)) (fun a => match a with
    | ⟨0, _⟩ => by show 0 = if (1 : Nat) = 1 then 0 else r.val; rw [if_pos rfl]
    | ⟨1, _⟩ => by show h.val = if (8 : Nat) = 1 then 0 else h.val; rw [if_neg (by decide)]
    | ⟨2, _⟩ => by show 0 = if (1 : Nat) = 1 then 0 else l.val; rw [if_pos rfl]),
    broadcastInDim_apply _ bcast_S8_S1x8x1_1 s (ix3 (0 : Fin 1) h (0 : Fin 1)) (ix1 h) (fun a => match a with
    | ⟨0, _⟩ => by show h.val = if (8 : Nat) = 1 then 0 else h.val; rw [if_neg (by decide)])]

/-- The clip to the range of the codes. -/
def clip8 (y : FVec Ideal S1536x8x128 .f32) : FVec Ideal S1536x8x128 .f32 :=
  minimumf (broadcastInDim S1536x8x128 ![] bcast_S_S1536x8x128 (constant S_ .f32 0x43E00000#32))
    (maximumf (broadcastInDim S1536x8x128 ![] bcast_S_S1536x8x128 (constant S_ .f32 0xC3E00000#32)) y)

theorem clip8_apply (y : FVec Ideal S1536x8x128 .f32) (i : S1536x8x128.Idx) : clip8 y i = clipN (y i) := rfl

/-- The result q. -/
abbrev qR : Vec Ideal S1536x4096 .bf16 :=
  Read.val_main_v46 (F := Ideal) (arg m c main_arg0) (arg m c main_arg1) (arg m c main_arg2) (arg m c main_arg3) (arg m c main_arg4)
/-- The codes of k. -/
abbrev kR : Vec Ideal S1536x1024 .fp8e4m3 :=
  Read.val_main_v79 (F := Ideal) (arg m c main_arg0) (arg m c main_arg1) (arg m c main_arg2) (arg m c main_arg3) (arg m c main_arg4)
    (arg m c main_arg5)
/-- The codes of v. -/
abbrev vR : Vec Ideal S1536x1024 .fp8e4m3 :=
  Read.val_main_v80 (F := Ideal) (arg m c main_arg0) (arg m c main_arg1) (arg m c main_arg2) (arg m c main_arg6)

theorem qR_eq : qR m c
    = shapeCast S1536x4096 (truncf .bf16 (rot32 (F := Ideal) (heads32 (pq m c)) (arg m c main_arg3) (arg m c main_arg4)) bitsLt_bf16_f32)
        shapeCasts_S1536x32x128_S1536x4096 := rfl

theorem kR_eq : kR m c
    = shapeCast S1536x1024 (Host.convertf .fp8e4m3 (clip8 (Host.divf (rot8 (F := Ideal) (heads8 (pk m c)) (arg m c main_arg3) (arg m c main_arg4))
        (scales (arg m c main_arg5))))) shapeCasts_S1536x8x128_S1536x1024 := rfl

theorem vR_eq : vR m c
    = shapeCast S1536x1024 (Host.convertf .fp8e4m3 (clip8 (Host.divf (F := Ideal) (heads8 (pv m c)) (scales (arg m c main_arg6)))))
        shapeCasts_S1536x8x128_S1536x1024 := rfl

/-! ## The same at an index -/

/-- An entry of the projection. -/
abbrev prj (r n : ℕ) : EReal :=
  projN (at2 (arg m c main_arg0 : Vec Ideal S1536x4096 .bf16)) (at2 (arg m c main_arg1 : Vec Ideal S2048x34816 .i8))
    (at2 (arg m c main_arg2 : Vec Ideal S32x34816 .f32)) r n

theorem pq_at (r : Fin 1536) {n : ℕ} (hn : n < 4096) : at2 (pq m c) r.val n = prj m c r.val n := by
  rw [at2_of_lt _ r.isLt hn]
  refine (ReferenceIdeal.Read.val_main_v22_apply _ _ _ _).trans ((ReferenceIdeal.Val.proj_eq _ _ _ _).trans ?_)
  rfl

theorem pk_at (r : Fin 1536) {n : ℕ} (hn : n < 1024) : at2 (pk m c) r.val n = prj m c r.val (4096 + n) := by
  rw [at2_of_lt _ r.isLt hn]
  refine (ReferenceIdeal.Read.val_main_v23_apply _ _ _ _).trans ((ReferenceIdeal.Val.proj_eq _ _ _ _).trans ?_)
  rfl

theorem pv_at (r : Fin 1536) {n : ℕ} (hn : n < 1024) : at2 (pv m c) r.val n = prj m c r.val (5120 + n) := by
  rw [at2_of_lt _ r.isLt hn]
  refine (ReferenceIdeal.Read.val_main_v24_apply _ _ _ _).trans ((ReferenceIdeal.Val.proj_eq _ _ _ _).trans ?_)
  rfl

/-- q at an entry: head `h`, column `l`. -/
theorem q_apply (r : Fin 1536) (h : Fin 32) (l : Fin 128) :
    qR m c (ix2 r ⟨128 * h.val + l.val, by omega⟩)
      = rotN (fun l => prj m c r.val (128 * h.val + l)) (at2 (arg m c main_arg3 : Vec Ideal S1536x64 .f32) r.val) (at2 (arg m c main_arg4 : Vec Ideal S1536x64 .f32) r.val) l.val := by
  rw [qR_eq, shapeCast_apply _ _ (ix2 r ⟨128 * h.val + l.val, by omega⟩) (ix3 r h l)
    (by rewrite [Shape.rowMajor_val_three, Shape.rowMajor_val_two]
        show (r.val * 32 + h.val) * 128 + l.val = r.val * 4096 + (128 * h.val + l.val)
        omega)]
  show rot32 (F := Ideal) _ _ _ (ix3 r h l) = _
  rw [rot32_apply]
  refine rotN_congr (fun l hl => ?_) l.isLt
  exact pq_at m c r (by omega)

/-- The codes of k at an entry: head `h`, column `l`. -/
theorem k_apply (r : Fin 1536) (h : Fin 8) (l : Fin 128) :
    kR m c (ix2 r ⟨128 * h.val + l.val, by omega⟩)
      = clipN (Ideal.div (rotN (fun l => prj m c r.val (4096 + (128 * h.val + l))) (at2 (arg m c main_arg3 : Vec Ideal S1536x64 .f32) r.val) (at2 (arg m c main_arg4 : Vec Ideal S1536x64 .f32) r.val) l.val)
          ((arg m c main_arg5 : Vec Ideal S8 .f32) (ix1 h))) := by
  rw [kR_eq, shapeCast_apply _ _ (ix2 r ⟨128 * h.val + l.val, by omega⟩) (ix3 r h l)
    (by rewrite [Shape.rowMajor_val_three, Shape.rowMajor_val_two]
        show (r.val * 8 + h.val) * 128 + l.val = r.val * 1024 + (128 * h.val + l.val)
        omega)]
  show clipN (Ideal.div (rot8 (F := Ideal) _ _ _ (ix3 r h l)) (scales (F := Ideal) _ (ix3 r h l))) = _
  rw [rot8_apply, scales_apply]
  refine congrArg (fun y => clipN (Ideal.div y _)) (rotN_congr (fun l hl => ?_) l.isLt)
  exact pk_at m c r (by omega)

/-- The codes of v at an entry: head `h`, column `l`. -/
theorem v_apply (r : Fin 1536) (h : Fin 8) (l : Fin 128) :
    vR m c (ix2 r ⟨128 * h.val + l.val, by omega⟩)
      = clipN (Ideal.div (prj m c r.val (5120 + (128 * h.val + l.val))) ((arg m c main_arg6 : Vec Ideal S8 .f32) (ix1 h))) := by
  rw [vR_eq, shapeCast_apply _ _ (ix2 r ⟨128 * h.val + l.val, by omega⟩) (ix3 r h l)
    (by rewrite [Shape.rowMajor_val_three, Shape.rowMajor_val_two]
        show (r.val * 8 + h.val) * 128 + l.val = r.val * 1024 + (128 * h.val + l.val)
        omega)]
  show clipN (Ideal.div (heads8 (F := Ideal) _ (ix3 r h l)) (scales (F := Ideal) _ (ix3 r h l))) = _
  rw [heads8_apply, scales_apply, pv_at m c r (by omega)]

end Cert.ReferenceQkvIdeal.Val

end
-- ==== Proof.QkvAlg.lean ====
module

public import proofs.«01_k».proof.Proof.QkvValue
public import proofs.«01_k».proof.Proof.QkvRef
public import proofs.«01_k».proof.Defs

@[expose] public section

set_option maxRecDepth 16384

/-!
  The q, k and v call: from equal arguments the ideal kernel and the reference return equal arrays. Both sides hold, at row
  `r`, head `h` and column `l` of the head, the rotated projections and the clipped quotients by the head's scale.
-/

noncomputable section

namespace Cert.QkvAlg

open Idealize.ShloMosaic Idealize.ShloMosaic.TcCoe Idealize.SL.Sem Idealize.ShloMosaic.Pointwise Cert.Packed

theorem split_index {H N : ℕ} (hN : N = 128 * H) (i : (⟨2, ![1536, N]⟩ : Shape).Idx) :
    ∃ (r : Fin 1536) (h : Fin H) (l : Fin 128), ∃ hn : 128 * h.val + l.val < N, i = ix2 r ⟨128 * h.val + l.val, hn⟩ := by
  have h1 : (i 1).val < N := (i 1).isLt
  refine ⟨i 0, ⟨(i 1).val / 128, by omega⟩, ⟨(i 1).val % 128, Nat.mod_lt _ (by norm_num)⟩, ?_, ?_⟩
  · show 128 * ((i 1).val / 128) + (i 1).val % 128 < N
    omega
  · refine funext fun a => ?_
    match a with
    | ⟨0, _⟩ => rfl
    | ⟨1, _⟩ => exact Fin.ext (by show (i 1).val = 128 * ((i 1).val / 128) + (i 1).val % 128; omega)

section

variable (m : (ℓ : Loc Cert.KernelQkvIdeal.nD Cert.KernelQkvIdeal.τ Cert.KernelQkvIdeal.sig) → Buf (Elt Ideal) ℓ)
variable (m' : (ℓ : Loc Cert.ReferenceQkvIdeal.nD Cert.ReferenceQkvIdeal.τ Cert.ReferenceQkvIdeal.sig) → Buf (Elt Ideal) ℓ)
variable (c : Dev Cert.KernelQkvIdeal.nD)

local notation "SameArgs" =>
  (Cert.ReferenceQkvIdeal.Val.arg m' c Cert.ReferenceQkvIdeal.main_arg0 = Cert.KernelQkvIdeal.Val.arg m c Cert.KernelQkvIdeal.main_arg0
  ∧ Cert.ReferenceQkvIdeal.Val.arg m' c Cert.ReferenceQkvIdeal.main_arg1 = Cert.KernelQkvIdeal.Val.arg m c Cert.KernelQkvIdeal.main_arg1
  ∧ Cert.ReferenceQkvIdeal.Val.arg m' c Cert.ReferenceQkvIdeal.main_arg2 = Cert.KernelQkvIdeal.Val.arg m c Cert.KernelQkvIdeal.main_arg2
  ∧ Cert.ReferenceQkvIdeal.Val.arg m' c Cert.ReferenceQkvIdeal.main_arg3 = Cert.KernelQkvIdeal.Val.arg m c Cert.KernelQkvIdeal.main_arg3
  ∧ Cert.ReferenceQkvIdeal.Val.arg m' c Cert.ReferenceQkvIdeal.main_arg4 = Cert.KernelQkvIdeal.Val.arg m c Cert.KernelQkvIdeal.main_arg4
  ∧ Cert.ReferenceQkvIdeal.Val.arg m' c Cert.ReferenceQkvIdeal.main_arg5 = Cert.KernelQkvIdeal.Val.arg m c Cert.KernelQkvIdeal.main_arg5
  ∧ Cert.ReferenceQkvIdeal.Val.arg m' c Cert.ReferenceQkvIdeal.main_arg6 = Cert.KernelQkvIdeal.Val.arg m c Cert.KernelQkvIdeal.main_arg6)

theorem prj_eq (h : SameArgs) (r n : ℕ) :
    Cert.ReferenceQkvIdeal.Val.prj m' c r n = Cert.KernelQkvIdeal.Val.prj m c r n := by
  obtain ⟨h0, h1, h2, _⟩ := h
  unfold Cert.ReferenceQkvIdeal.Val.prj Cert.KernelQkvIdeal.Val.prj
  rw [h0, h1, h2]
  try rfl

theorem q_eq (h : SameArgs) :
    (Cert.ReferenceQkvIdeal.Val.qR m' c : Vec Ideal Cert.KernelQkvIdeal.S1536x4096 .bf16)
      = ((Cert.KernelQkvIdeal.Gen.dats m 0 c).arrAt 11 Cert.KernelQkvIdeal.cfg0.N : Vec Ideal Cert.KernelQkvIdeal.S1536x4096 .bf16) := by
  refine funext fun i => ?_
  obtain ⟨r, k, l, hn, rfl⟩ := split_index (H := 32) (by norm_num) i
  refine (Cert.ReferenceQkvIdeal.Val.q_apply m' c r k l).trans (Eq.trans ?_ (Cert.KernelQkvIdeal.Val.q_apply m c r k l).symm)
  have hp := prj_eq m m' c h
  obtain ⟨_, _, _, h3, h4, _, _⟩ := h
  simp only [hp]
  rw [h3, h4]
  try rfl

theorem k_eq (h : SameArgs) :
    (Cert.ReferenceQkvIdeal.Val.kR m' c : Vec Ideal Cert.KernelQkvIdeal.S1536x1024 .fp8e4m3)
      = ((Cert.KernelQkvIdeal.Gen.dats m 0 c).arrAt 12 Cert.KernelQkvIdeal.cfg0.N : Vec Ideal Cert.KernelQkvIdeal.S1536x1024 .fp8e4m3) := by
  refine funext fun i => ?_
  obtain ⟨r, k, l, hn, rfl⟩ := split_index (H := 8) (by norm_num) i
  refine (Cert.ReferenceQkvIdeal.Val.k_apply m' c r k l).trans (Eq.trans ?_ (Cert.KernelQkvIdeal.Val.k_apply m c r k l).symm)
  have hp := prj_eq m m' c h
  obtain ⟨_, _, _, h3, h4, h5, _⟩ := h
  simp only [hp]
  rw [h3, h4, h5]
  try rfl

theorem v_eq (h : SameArgs) :
    (Cert.ReferenceQkvIdeal.Val.vR m' c : Vec Ideal Cert.KernelQkvIdeal.S1536x1024 .fp8e4m3)
      = ((Cert.KernelQkvIdeal.Gen.dats m 0 c).arrAt 13 Cert.KernelQkvIdeal.cfg0.N : Vec Ideal Cert.KernelQkvIdeal.S1536x1024 .fp8e4m3) := by
  refine funext fun i => ?_
  obtain ⟨r, k, l, hn, rfl⟩ := split_index (H := 8) (by norm_num) i
  refine (Cert.ReferenceQkvIdeal.Val.v_apply m' c r k l).trans (Eq.trans ?_ (Cert.KernelQkvIdeal.Val.v_apply m c r k l).symm)
  have hp := prj_eq m m' c h
  obtain ⟨_, _, _, _, _, _, h6⟩ := h
  simp only [hp]
  rw [h6]
  try rfl

end

/-- From equal arguments the q, k and v call and its reference return equal arrays. -/
theorem algebraic : Cert.algebraic_KernelQkvIdeal_ReferenceQkvIdeal (hKernelQkvIdeal := Cert.KernelQkvIdeal.Gen.facts)
    (hReferenceQkvIdeal := Cert.ReferenceQkvIdeal.Gen.facts) := by
  intro m g m' g' _ hargs
  refine ⟨fun c => (Cert.KernelQkvIdeal.Gen.dats m 0 c).arrAt 11 Cert.KernelQkvIdeal.cfg0.N,
    fun c => (Cert.KernelQkvIdeal.Gen.dats m 0 c).arrAt 12 Cert.KernelQkvIdeal.cfg0.N,
    fun c => (Cert.KernelQkvIdeal.Gen.dats m 0 c).arrAt 13 Cert.KernelQkvIdeal.cfg0.N,
    Cert.KernelQkvIdeal.Value.run_blocks m g, ?_⟩
  refine (θ_run (Cert.ReferenceQkvIdeal.defs (F := Ideal)) _ _).mono (fun r h c => ?_) (Cert.ReferenceQkvIdeal.Value.run (F := Ideal) m' g')
  obtain ⟨hq, hk, hv, hrest⟩ := h c
  refine ⟨hq.trans ((Cert.ReferenceQkvIdeal.Read.val_main_v46_eq m' c).trans (q_eq m m' c (hargs c))),
    hk.trans ((Cert.ReferenceQkvIdeal.Read.val_main_v79_eq m' c).trans (k_eq m m' c (hargs c))), hv.trans ?_, hrest⟩
  rw [Cert.ReferenceQkvIdeal.Read.val_main_v80_eq]
  exact v_eq m m' c (hargs c)

end Cert.QkvAlg

end
-- ==== Proof.LnVal.lean ====
module

public import proofs.«01_k».proof.Proof.Gen.KernelLnIdeal.Value
public import proofs.«01_k».proof.Proof.Gen.ReferenceLnIdeal.Read
public import proofs.«01_k».proof.Defs
public import Idealize.ShloMosaic.Lib.Pointwise
public import Idealize.ShloMosaic.Lib.Pipeline.Value
public import Idealize.ShloMosaic.Lib.StableHlo.RunRead
public import Idealize.ShloMosaic.Lib.IdealHost
public import Idealize.ShloMosaic.Lib.Tactic

@[expose] public section

set_option maxRecDepth 16384

/-!
  The layer norm's call: both programs leave, at row `r` and column `n`, the row's normalised entry times the column's weight
  (`normN`), over the extended reals.
-/

noncomputable section

namespace Cert.LnVal

open Idealize.ShloMosaic Idealize.ShloMosaic.TcCoe Idealize.SL.Sem Idealize.ShloMosaic.Pointwise

/-- The length of a row, as the programs write it: 4096. -/
def lenN : EReal := Scalar.ofBits (F := Ideal) .f32 0x45800000#32

/-- The mean of a row. -/
def meanN (x : Fin 4096 → EReal) : EReal := Ideal.div (∑ k : Fin 4096, x k) lenN

/-- The variance of a row. -/
def varN (x : Fin 4096 → EReal) : EReal := Ideal.div (∑ k : Fin 4096, (x k - meanN x) * (x k - meanN x)) lenN

/-- A row's normalised entry times the weight. -/
def normN (x : Fin 4096 → EReal) (g : EReal) (n : Fin 4096) : EReal :=
  Ideal.div (x n - meanN x) (Ideal.sqrt (varN x + Scalar.ofBits (F := Ideal) .f32 0x3727C5AC#32)) * g

end Cert.LnVal

/-! ## The kernel -/

namespace Cert.KernelLnIdeal.Val

open Cert.KernelLnIdeal Cert.KernelLnIdeal.Gen Cert.LnVal
open Idealize.ShloMosaic Idealize.ShloMosaic.TcCoe Idealize.ShloMosaic.Pointwise

theorem lane_sum (X : FVec Ideal S128x4096 .f32) (r : Fin 128) (j : S128.Idx) (hj : j = ix1 r) :
    (multiReduction (F := Ideal) .add [1] S128 X 0x00000000#32 reduces_S128x4096_S128 (.inl rfl) rfl) j
      = ∑ k : Fin 4096, X (ix2 r k) := by
  subst hj
  refine (Ideal.multiReduction_add_single X 0x00000000#32 reduces_S128x4096_S128 (.inl rfl) rfl _).trans ?_
  refine Finset.sum_congr rfl fun k _ => congrArg X (funext fun a => Fin.ext ?_)
  match a with
  | ⟨0, _⟩ => rfl
  | ⟨1, _⟩ => rfl

/-- The rows' means, spread over the block. -/
theorem mean_apply (X : FVec Ideal S128x4096 .f32) (r : Fin 128) (k : Fin 4096) :
    (broadcastTo S128x4096 (divf (shapeCast S128x1 (multiReduction (F := Ideal) .add [1] S128 X 0x00000000#32 reduces_S128x4096_S128 (.inl rfl) rfl) shapeCasts_S128_S128x1) (broadcast S128x1 (Scalar.ofBits .f32 0x45800000#32))) broadcasts_S128x1_S128x4096) (ix2 r k)
      = meanN (fun k => X (ix2 r k)) := by
  refine (broadcastTo_apply _ _ (ix2 r k) (ix2 r 0 : S128x1.Idx) (fun a => match a with | ⟨0, _⟩ => by show r.val = (if (128 : Nat) = 1 then 0 else r.val); rw [if_neg (by decide)] | ⟨1, _⟩ => by show 0 = (if (1 : Nat) = 1 then 0 else k.val); rw [if_pos rfl])).trans ?_
  refine congrArg (fun y => Ideal.div y lenN) (?_ : (shapeCast S128x1 (multiReduction (F := Ideal) .add [1] S128 X 0x00000000#32 reduces_S128x4096_S128 (.inl rfl) rfl) shapeCasts_S128_S128x1) (ix2 r 0 : S128x1.Idx) = _)
  refine (Idealize.ShloMosaic.shapeCast_apply _ _ (ix2 r 0 : S128x1.Idx) (ix1 r : S128.Idx) (by rw [Shape.rowMajor_val_one, Shape.rowMajor_val_two]; show r.val = r.val * 1 + 0; omega)).trans ?_
  exact lane_sum X r _ rfl

/-- What a grid point leaves in its block. -/
theorem out_apply (P0 : Vec Ideal S128x4096 .bf16) (P1 : Vec Ideal S1x4096 .f32) (r : Fin 128) (n : Fin 4096) :
    Value.E2 P0 P1 (ix2 r n) = normN (fun k => P0 (ix2 r k)) (P1 (ix2 0 n)) n := by
  have h0 : Value.ix2_0 (ix2 r n) = ix2 r n := funext fun a => match a with | ⟨0, _⟩ => rfl | ⟨1, _⟩ => rfl
  have h1 : Value.ix2_1 (ix2 r n) = (ix1 r : S128.Idx) := funext fun a => match a with | ⟨0, _⟩ => rfl
  have h2 : Value.ix2_2 (ix2 r n) = (ix1 r : S128.Idx) := funext fun a => match a with | ⟨0, _⟩ => rfl
  have h3 : Value.ix2_3 (ix2 r n) = ix2 0 n := funext fun a => match a with | ⟨0, _⟩ => rfl | ⟨1, _⟩ => rfl
  have hs := lane_sum (extf .f32 (P0 : FVec Ideal S128x4096 .bf16) bitsLt_bf16_f32) r (Value.ix2_1 (ix2 r n)) h1
  have hv := fun X => lane_sum X r (Value.ix2_2 (ix2 r n)) h2
  have hm := mean_apply (extf .f32 (P0 : FVec Ideal S128x4096 .bf16) bitsLt_bf16_f32) r
  unfold Value.E2
  rw [hs, hv, h0, h3]
  show Ideal.div (P0 (ix2 r n) - Ideal.div _ lenN) (Ideal.sqrt (Ideal.div _ lenN + _)) * P1 (ix2 0 n) = _
  unfold normN varN
  congr 4
  refine congrArg (fun y => Ideal.div y lenN) (Finset.sum_congr rfl fun k _ => ?_)
  show (P0 (ix2 r k) - (broadcastTo S128x4096 _ _) (ix2 r k)) * (P0 (ix2 r k) - (broadcastTo S128x4096 _ _) (ix2 r k)) = _
  rw [hm k]
  rfl

variable (m : (ℓ : Loc nD τ sig) → Buf (Elt Ideal) ℓ)

theorem hz : (![0, 0] : Fin 2 → Nat) = fun _ => 0 := funext fun a => by fin_cases a <;> rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem flush2 : ∀ t : Fin cfg0.N, (cfg0.win 2).flush t = true := (by decide +kernel : ∀ t : Fin grid0.N, win0_2.flush t = true)

/-- A block of the first argument is 128 of its rows. -/
theorem blk0 (c : Dev nD) (t : Fin cfg0.N) (r : Fin 128) (k : Fin 4096) (R : Fin 1536) (hR : R.val = 128 * t.val + r.val) :
    (iblk m c 0 t : Vec Ideal S128x4096 .bf16) (ix2 r k) = (m ((c : Thread nD τ).loc main_arg0) : Vec Ideal S1536x4096 .bf16) (ix2 R k) := by
  have hi := index0 t
  unfold iblk
  rw [View.read_apply]
  show V m c main_arg0 _ = _
  rw [V_main_arg0]
  refine congrArg (m ((c : Thread nD τ).loc main_arg0) : Vec Ideal S1536x4096 .bf16) (funext fun a => ?_)
  match a with
  | ⟨0, _⟩ => exact Fin.ext (by show win0_0.index t 0 * 128 + 1 * r.val = R.val; rw [hi.1, hR]; ring)
  | ⟨1, _⟩ => exact Fin.ext (by show win0_0.index t 1 * 4096 + 1 * k.val = k.val; rw [hi.2]; ring)

theorem V_main_v0 (c : Dev nD) : (V m c main_v0 : (⟨S1x4096, .f32⟩ : BufTy).Contents (Elt Ideal))
    = shapeCast S1x4096 (m ((c : Thread nD τ).loc main_arg1) : Vec Ideal S4096 .f32) shapeCasts_S4096_S1x4096 := by
  show StableHlo.after hostOps0 _ (Proc.devRef .tc main_v0) = _
  after_reads_simp
  rfl

/-- The weights' block is the whole second argument, as one row. -/
theorem blk1 (c : Dev nD) (t : Fin cfg0.N) (n : Fin 4096) :
    (iblk m c 1 t : Vec Ideal S1x4096 .f32) (ix2 0 n) = (m ((c : Thread nD τ).loc main_arg1) : Vec Ideal S4096 .f32) (ix1 n) := by
  have hi := index1 t
  unfold iblk
  rw [View.read_apply]
  show (V m c main_v0 : (⟨S1x4096, .f32⟩ : BufTy).Contents (Elt Ideal)) _ = _
  rw [V_main_v0]
  refine Eq.trans (congrArg (shapeCast S1x4096 (m ((c : Thread nD τ).loc main_arg1) : Vec Ideal S4096 .f32) shapeCasts_S4096_S1x4096)
    (?_ : _ = (ix2 0 n : S1x4096.Idx))) ?_
  · refine funext fun a => ?_
    match a with
    | ⟨0, _⟩ => exact Fin.ext (by show win0_1.index t 0 * 1 + 1 * 0 = 0; rw [hi.1])
    | ⟨1, _⟩ => exact Fin.ext (by show win0_1.index t 1 * 4096 + 1 * n.val = n.val; rw [hi.2]; ring)
  · exact Idealize.ShloMosaic.shapeCast_apply _ _ (ix2 0 n : S1x4096.Idx) (ix1 n : S4096.Idx) (by rw [Shape.rowMajor_val_one, Shape.rowMajor_val_two]; show n.val = 0 * 4096 + n.val; omega)

/-- The kernel's result. -/
theorem arr_apply (c : Dev nD) (R : Fin 1536) (n : Fin 4096) :
    ((dats m 0 c).arrAt 2 cfg0.N : Vec Ideal S1536x4096 .bf16) (ix2 R n)
      = normN (fun k => (m ((c : Thread nD τ).loc main_arg0) : Vec Ideal S1536x4096 .bf16) (ix2 R k))
          ((m ((c : Thread nD τ).loc main_arg1) : Vec Ideal S4096 .f32) (ix1 n)) n := by
  have hN : cfg0.N = 12 := N_0
  have ht : R.val / 128 < cfg0.N := by have := R.isLt; omega
  have hR : R.val = 128 * (⟨R.val / 128, ht⟩ : Fin cfg0.N).val + (⟨R.val % 128, Nat.mod_lt _ (by norm_num)⟩ : Fin 128).val := by
    show R.val = 128 * (R.val / 128) + R.val % 128
    omega
  generalize (⟨R.val / 128, ht⟩ : Fin cfg0.N) = t at hR
  generalize (⟨R.val % 128, Nat.mod_lt _ (by norm_num)⟩ : Fin 128) = r at hR
  have hi := index2 t
  have hb := congrFun (Value.blocks2 m c t (flush2 t)) (ix2 r n)
  rw [View.read_apply, Value.flushed2] at hb
  have he : ((dats m 0 c).arrAt 2 cfg0.N : Vec Ideal S1536x4096 .bf16) (ix2 R n)
      = (out0_2 (iblk m c 0 t) (iblk m c 1 t) : Vec Ideal S128x4096 .bf16) (ix2 r n) := by
    refine Eq.trans ?_ hb
    refine congrArg ((dats m 0 c).arrAt 2 cfg0.N : Vec Ideal S1536x4096 .bf16) (funext fun a => ?_)
    match a with
    | ⟨0, _⟩ => exact Fin.ext (by show R.val = win0_2.index t 0 * 128 + 1 * r.val; rw [hi.1, hR]; ring)
    | ⟨1, _⟩ => exact Fin.ext (by show n.val = win0_2.index t 1 * 4096 + 1 * n.val; rw [hi.2]; ring)
  rw [he]
  unfold out0_2
  rw [Value.canon2_eq, View.ld_unit_zero (S := S128x4096) hz, View.ld_unit_zero (S := S1x4096) hz]
  rw [out_apply, blk1 m c t n]
  exact congrArg (fun x => normN x _ n) (funext fun k => blk0 m c t r k R hR)

end Cert.KernelLnIdeal.Val

/-! ## The reference -/

namespace Cert.ReferenceLnIdeal.Val

open Cert.ReferenceLnIdeal Cert.ReferenceLnIdeal.Gen Cert.ReferenceLnIdeal.Read Cert.LnVal
open Idealize.ShloMosaic Idealize.ShloMosaic.TcCoe Idealize.ShloMosaic.Pointwise

variable (x0 : (⟨S1536x4096, .bf16⟩ : BufTy).Contents (Elt Ideal)) (x1 : (⟨S4096, .f32⟩ : BufTy).Contents (Elt Ideal))

theorem zero_bits : (FloatOps.ofBits .f32 0x00000000#32 : Ideal .f32) = 0 :=
  Ideal.ofBits_zero_f32

theorem mean_apply (r : Fin 1536) (n : Fin 4096) : val_main_v5 (F := Ideal) x0 (ix2 r n) = meanN (fun k => x0 (ix2 r k)) := by
  rw [val_main_v5_apply, val_main_v4_apply, val_main_v2_apply, val_main_v1_apply, val_main_cst_apply, zero_bits, zero_add,
    val_main_v3_apply, val_main_cst_0_apply]
  refine congrArg (fun y => Ideal.div y lenN) (Finset.sum_congr rfl fun k _ => ?_)
  refine congrArg x0 (funext fun a => ?_)
  match a with
  | ⟨0, _⟩ => rfl
  | ⟨1, _⟩ => rfl

theorem centred_apply (r : Fin 1536) (n : Fin 4096) :
    val_main_v6 (F := Ideal) x0 (ix2 r n) = x0 (ix2 r n) - meanN (fun k => x0 (ix2 r k)) := by
  rw [val_main_v6_apply, mean_apply]
  rfl

theorem var_apply (r : Fin 1536) (i : S1536x1.Idx) (hi : i = ix2 r 0) :
    val_main_v11 (F := Ideal) x0 i = varN (fun k => x0 (ix2 r k)) := by
  subst hi
  rw [val_main_v11_apply, val_main_v9_apply, val_main_v8_apply, val_main_cst_1_apply, zero_bits, zero_add,
    val_main_v10_apply, val_main_cst_2_apply]
  refine congrArg (fun y => Ideal.div y lenN) (Finset.sum_congr rfl fun k _ => ?_)
  rw [show idx_main_v8 (idx_main_v9 (ix2 r 0)) k = ix2 r k from funext fun a => match a with | ⟨0, _⟩ => rfl | ⟨1, _⟩ => rfl,
    val_main_v7_apply, centred_apply]
  rfl

/-- The reference's result. -/
theorem ref_apply (r : Fin 1536) (n : Fin 4096) :
    val_main_v20 (F := Ideal) x0 x1 (ix2 r n) = normN (fun k => x0 (ix2 r k)) (x1 (ix1 n)) n := by
  rw [val_main_v20_apply, val_main_v19_apply, val_main_v16_apply, centred_apply, val_main_v15_apply, val_main_v14_apply,
    val_main_v13_apply, val_main_v12_apply, val_main_cst_3_apply, val_main_v18_apply, val_main_v17_apply,
    var_apply x0 r (idx_main_v15 (ix2 r n)) (funext fun a => match a with | ⟨0, _⟩ => rfl | ⟨1, _⟩ => rfl)]
  refine congrArg (fun y => _ * y) (congrArg x1 (funext fun a => ?_))
  match a with
  | ⟨0, _⟩ => rfl

end Cert.ReferenceLnIdeal.Val

/-! ## The claim -/

namespace Cert.LnVal

open Idealize.ShloMosaic Idealize.ShloMosaic.TcCoe Idealize.SL.Sem Idealize.ShloMosaic.Pointwise

/-- From equal arguments the layer norm's call and its reference return equal arrays. -/
theorem algebraic : Cert.algebraic_KernelLnIdeal_ReferenceLnIdeal (hKernelLnIdeal := Cert.KernelLnIdeal.Gen.facts)
    (hReferenceLnIdeal := Cert.ReferenceLnIdeal.Gen.facts) := by
  intro m g m' g' _ hargs
  refine ⟨fun c => (Cert.KernelLnIdeal.Gen.dats m 0 c).arrAt 2 Cert.KernelLnIdeal.cfg0.N, Cert.KernelLnIdeal.Value.run_blocks m g, ?_⟩
  refine (θ_run (Cert.ReferenceLnIdeal.defs (F := Ideal)) _ _).mono (fun r h c => ?_) (Cert.ReferenceLnIdeal.Value.run (F := Ideal) m' g')
  obtain ⟨hv, hrest⟩ := h c
  refine ⟨hv.trans ?_, hrest⟩
  obtain ⟨h0, h1⟩ := hargs c
  rw [Cert.ReferenceLnIdeal.Read.val_main_v20_eq, h0, h1]
  refine funext fun i => ?_
  have hi : i = ix2 (i 0) (i 1) := eq_ix2 i
  rw [hi]
  exact (Cert.ReferenceLnIdeal.Val.ref_apply _ _ (i 0) (i 1)).trans (Cert.KernelLnIdeal.Val.arr_apply m c (i 0) (i 1)).symm

end Cert.LnVal

end
-- ==== Proof.AttnMath.lean ====
module

public import Idealize.ShloMosaic.Lib.Pointwise
public import Idealize.ShloMosaic.Lib.WordCmp

@[expose] public section

/-!
  Attention of one query row over the extended reals.

  `attnN b s v w`: the row's result at one column; `b k` says whether key `k` is visible, `s k` is its score in base-2
  units, `v k` its value code at the column, `w` the scale of the value codes.
  `attnN_window`: leaving out keys that are not visible does not change it.
  `visW seg i j`: key `j` is visible to query `i`: same segment, not later, fewer than 384 rows before.
-/

noncomputable section

namespace Cert.Attn

open Idealize.ShloMosaic Idealize.ShloMosaic.Pointwise

/-- A score, or minus infinity where the key is not visible. -/
def masked (b : BitVec 1) (s : EReal) : EReal := if b = 1#1 then s else ⊥

/-- The masked row's largest entry, rounded up. -/
def rowMax {ι : Type} [Fintype ι] (x : ι → EReal) : EReal :=
  Ideal.liftRound Int.ceil (Finset.univ.fold max ⊥ x)

/-- One row of attention at one column. -/
def attnN {ι : Type} [Fintype ι] (b : ι → BitVec 1) (s v : ι → EReal) (w : EReal) : EReal :=
  Ideal.div (∑ k, Ideal.exp2 (masked (b k) (s k) - rowMax fun k => masked (b k) (s k)) * w * v k)
    (∑ k, Ideal.exp2 (masked (b k) (s k) - rowMax fun k => masked (b k) (s k)))

theorem masked_one (s : EReal) : masked 1#1 s = s := if_pos rfl
theorem masked_hidden {b : BitVec 1} (h : b ≠ 1#1) (s : EReal) : masked b s = ⊥ := if_neg h

theorem exp2_hidden (m : EReal) : Ideal.exp2 (⊥ - m) = 0 := by
  rw [EReal.bot_sub]; rfl

/-- The largest entry over the keys is the largest over any family that reaches every visible key. -/
theorem rowMax_window {ι κ : Type} [Fintype ι] [Fintype κ] (e : ι → κ) (x : κ → EReal)
    (h : ∀ k, (∃ i, e i = k) ∨ x k = ⊥) : rowMax x = rowMax fun i => x (e i) := by
  unfold rowMax
  congr 1
  apply le_antisymm
  · refine (Finset.fold_max_le _).2 ⟨bot_le, fun k _ => ?_⟩
    rcases h k with ⟨i, rfl⟩ | h
    · exact Finset.le_fold_max _ |>.2 (.inr ⟨i, Finset.mem_univ _, le_rfl⟩)
    · rw [h]; exact bot_le
  · refine (Finset.fold_max_le _).2 ⟨bot_le, fun i _ => ?_⟩
    exact Finset.le_fold_max _ |>.2 (.inr ⟨e i, Finset.mem_univ _, le_rfl⟩)

/-- Keys that are not visible may be left out. -/
theorem attnN_window {ι κ : Type} [Fintype ι] [Fintype κ] (e : ι → κ) (he : Function.Injective e)
    (b : κ → BitVec 1) (s v : κ → EReal) (w : EReal) (h : ∀ k, b k = 1#1 → ∃ i, e i = k) :
    attnN b s v w = attnN (fun i => b (e i)) (fun i => s (e i)) (fun i => v (e i)) w := by
  have hm : (rowMax fun k => masked (b k) (s k)) = rowMax fun i => masked (b (e i)) (s (e i)) :=
    rowMax_window e (fun k => masked (b k) (s k)) fun k => by
      by_cases hk : b k = 1#1
      · exact .inl (h k hk)
      · exact .inr (masked_hidden hk _)
  have h0 : ∀ k, k ∉ Set.range e → ∀ m, Ideal.exp2 (masked (b k) (s k) - m) = 0 := fun k hk m => by
    rw [masked_hidden (fun hb => hk (h k hb)), exp2_hidden]
  unfold attnN
  rw [hm]
  congr 1
  · exact (Fintype.sum_of_injective e he _ _ (fun k hk => by rw [h0 k hk, zero_mul, zero_mul]) fun i => rfl).symm
  · exact (Fintype.sum_of_injective e he _ _ (fun k hk => h0 k hk _) fun i => rfl).symm

/-! ## The power of two -/

theorem two_bits : (FloatOps.ofBits (F := Ideal) .f32 0x40000000#32 : EReal) = ((2 : ℝ) : EReal) := by
  show Ideal.ofBits .f32 0x40000000#32 = _
  simp [Ideal.ofBits, Ideal.ieee, -EReal.coe_mul]; norm_num
theorem bot_bits : (FloatOps.ofBits (F := Ideal) .f32 0xFF800000#32 : EReal) = ⊥ := by
  show Ideal.ofBits .f32 0xFF800000#32 = _
  simp [Ideal.ofBits, Ideal.ieee]
theorem zero_bits : (FloatOps.ofBits (F := Ideal) .f32 0x00000000#32 : EReal) = 0 := by
  show Ideal.ofBits .f32 0x00000000#32 = _
  simp [Ideal.ofBits, Ideal.ieee]

/-- A power with base two. -/
theorem pow_two (z : EReal) : Ideal.pow ((2 : ℝ) : EReal) z = Ideal.exp2 z := by
  induction z using EReal.rec with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe r => rfl

/-! ## Which keys a query sees -/

/-- Whether query `i` sees key `j`. -/
def visW (seg : ℕ → BitVec 32) (i j : ℕ) : BitVec 1 :=
  IntOp.andi (IntOp.andi (IntOp.cmpi .eq (seg i) (seg j)) (IntOp.cmpi .sle (BitVec.ofNat 32 j) (BitVec.ofNat 32 i)))
    (IntOp.cmpi .slt (IntOp.subi (BitVec.ofNat 32 i) (BitVec.ofNat 32 j)) 384#32)

theorem ofNat_toInt {n : ℕ} (h : n < 1536) : (BitVec.ofNat 32 n).toInt = n := by
  have h1 : (BitVec.ofNat 32 n).toNat = n := by simp only [BitVec.toNat_ofNat]; omega
  rw [BitVec.toInt_eq_toNat_of_lt (by omega), h1]

theorem and_one : ∀ a b : BitVec 1, IntOp.andi a b = 1#1 → a = 1#1 ∧ b = 1#1 := by decide

/-- A visible key is not later than the query and fewer than 384 rows before it. -/
theorem visW_bounds {seg : ℕ → BitVec 32} {i j : ℕ} (hi : i < 1536) (hj : j < 1536) (h : visW seg i j = 1#1) :
    j ≤ i ∧ i < j + 384 := by
  unfold visW at h
  obtain ⟨h, h3⟩ := and_one _ _ h
  obtain ⟨-, h2⟩ := and_one _ _ h
  have h2' : (BitVec.ofNat 32 j).sle (BitVec.ofNat 32 i) = true := by
    by_contra hc
    simp only [Bool.not_eq_true] at hc
    simp [IntOp.cmpi, hc] at h2
  have h3' : (IntOp.subi (BitVec.ofNat 32 i) (BitVec.ofNat 32 j)).slt 384#32 = true := by
    by_contra hc
    simp only [Bool.not_eq_true] at hc
    simp [IntOp.cmpi, hc] at h3
  rw [BitVec.sle_iff_toInt_le, ofNat_toInt hi, ofNat_toInt hj] at h2'
  have hji : j ≤ i := by exact_mod_cast h2'
  refine ⟨hji, ?_⟩
  have hs : IntOp.subi (BitVec.ofNat 32 i) (BitVec.ofNat 32 j) = BitVec.ofNat 32 (i - j) := by
    show BitVec.ofNat 32 i - BitVec.ofNat 32 j = _
    apply BitVec.eq_of_toNat_eq
    simp only [BitVec.toNat_sub, BitVec.toNat_ofNat]
    omega
  rw [hs, BitVec.slt_iff_toInt_lt, ofNat_toInt (by omega)] at h3'
  have : (384#32 : BitVec 32).toInt = 384 := by decide
  rw [this] at h3'
  omega

end Cert.Attn

end
-- ==== Proof.AttnSteps.lean ====
module

public import proofs.«01_k».proof.Proof.Gen.KernelAttnIdeal.Frame
public import Idealize.ShloMosaic.Lib.Pipeline.Value
public import Idealize.ShloMosaic.Lib.Pointwise
public import Idealize.ShloMosaic.Lib.Tactic

@[expose] public section

set_option maxRecDepth 16384

/-!
  What the attention call's body leaves in its two result blocks at one grid point, written as whole-array operations.

  `kWin`, `visK`: the 512 rows of codes the point reads, and which of them each of its 128 queries sees.
  `head`: one head of the block. `aBlock`, `bBlock`: the four heads side by side, in f32 and cast to bf16.
-/

noncomputable section

namespace Cert.KernelAttnIdeal.Val

open Cert.KernelAttnIdeal Cert.KernelAttnIdeal.Gen
open Idealize.ShloMosaic Idealize.ShloMosaic.TcCoe Idealize.ShloMosaic.Tactic Idealize.ShloMosaic.Pointwise

variable {F : FTy → Type} [FloatOps F]

theorem hz : (![0, 0] : Fin 2 → Nat) = fun _ => 0 := funext fun a => by fin_cases a <;> rfl

/-- The rows of codes a point reads. -/
def kWin (i : grid0.Coords) (x : Vec F S1536x128 .fp8e4m3) : Vec F S512x128 .fp8e4m3 :=
  View.ld x (Rect.unit (s := S1536x128) (k0_off1 i) S512x128.size (k0_off1_inb i))

/-- Which of those rows each query of the point sees. -/
def visK (i : grid0.Coords) (x5 : Vec F S128x1 .i32) (x6 : Vec F S1x1536 .i32) : IVec S128x512 1 :=
  k0_pay10 (k0_pay8 (F := F) i (View.ld x6 (Rect.unit (s := S1x1536) (k0_off2 i 0#32) S1x128.size (k0_off2_inb i 0)))
    (View.ld x6 (Rect.unit (s := S1x1536) (k0_off2 i 128#32) S1x128.size (k0_off2_inb i 1)))
    (View.ld x6 (Rect.unit (s := S1x1536) (k0_off2 i 256#32) S1x128.size (k0_off2_inb i 2)))
    (View.ld x6 (Rect.unit (s := S1x1536) (k0_off2 i 384#32) S1x128.size (k0_off2_inb i 3))) x5) (k0_pay9 i)

/-- One head's 128 columns of the queries. -/
def qH (e : Fin 4) (x2 : Vec F S128x512 .bf16) : Vec F S128x128 .bf16 :=
  fun x => x2 (ix2 (x 0) ⟨128 * e.val + (x 1).val, by have : (x 1).val < 128 := (x 1).isLt; omega⟩)

/-- One entry of a table of eight scales. -/
def sc (x : Vec F S8 .f32) (i : grid0.Coords) : F .f32 := x (fun a => ⟨(i 0).val, by fin_cases a; exact (i 0).isLt⟩)

/-- One head of a point's block. -/
def head (i : grid0.Coords) (x0 x1 : Vec F S8 .f32) (x3 x4 : Vec F S1536x128 .fp8e4m3)
    (x5 : Vec F S128x1 .i32) (x6 : Vec F S1x1536 .i32) (q : Vec F S128x128 .bf16) : FVec F S128x128 .f32 :=
  k0_pay2 (k0_pay4 (kWin i x3)) (k0_pay5 (kWin i x4)) (visK i x5 x6) (k0_pay11 (sc x0 i)) (sc x1 i) q

/-- A point's block: its four heads side by side. -/
def aBlock (i : grid0.Coords) (x0 x1 : Vec F S8 .f32) (x2 : Vec F S128x512 .bf16) (x3 x4 : Vec F S1536x128 .fp8e4m3)
    (x5 : Vec F S128x1 .i32) (x6 : Vec F S1x1536 .i32) : Vec F S128x512 .f32 :=
  fun y => head i x0 x1 x3 x4 x5 x6 (qH ⟨(y 1).val / 128, by have : (y 1).val < 512 := (y 1).isLt; omega⟩ x2)
    (ix2 (y 0) ⟨(y 1).val % 128, Nat.mod_lt _ (by decide)⟩)

/-- The block cast to bf16. -/
def bBlock (i : grid0.Coords) (x0 x1 : Vec F S8 .f32) (x2 : Vec F S128x512 .bf16) (x3 x4 : Vec F S1536x128 .fp8e4m3)
    (x5 : Vec F S128x1 .i32) (x6 : Vec F S1x1536 .i32) : Vec F S128x512 .bf16 :=
  truncf .bf16 (aBlock i x0 x1 x2 x3 x4 x5 x6) bitsLt_bf16_f32

theorem aBlock_at (i : grid0.Coords) (x0 x1 : Vec F S8 .f32) (x2 : Vec F S128x512 .bf16) (x3 x4 : Vec F S1536x128 .fp8e4m3)
    (x5 : Vec F S128x1 .i32) (x6 : Vec F S1x1536 .i32)
    (j : Fin 4) (x : S128x128.Idx) (y : S128x512.Idx) (h0 : (y 0).val = (x 0).val) (h1 : (y 1).val = 128 * j.val + (x 1).val) :
    aBlock i x0 x1 x2 x3 x4 x5 x6 y = head i x0 x1 x3 x4 x5 x6 (qH j x2) x := by
  have hx : (x 1).val < 128 := (x 1).isLt
  have ej : (⟨(y 1).val / 128, by have : (y 1).val < 512 := (y 1).isLt; omega⟩ : Fin 4) = j := Fin.ext (by show (y 1).val / 128 = j.val; omega)
  have ex : (ix2 (y 0) ⟨(y 1).val % 128, Nat.mod_lt _ (by decide)⟩ : S128x128.Idx) = x := by
    funext a
    match a with
    | ⟨0, _⟩ => exact Fin.ext h0
    | ⟨1, _⟩ => exact Fin.ext (by show (y 1).val % 128 = (x 1).val; omega)
  unfold aBlock
  rw [ej, ex]

theorem bBlock_at (i : grid0.Coords) (x0 x1 : Vec F S8 .f32) (x2 : Vec F S128x512 .bf16) (x3 x4 : Vec F S1536x128 .fp8e4m3)
    (x5 : Vec F S128x1 .i32) (x6 : Vec F S1x1536 .i32)
    (j : Fin 4) (x : S128x128.Idx) (y : S128x512.Idx) (h0 : (y 0).val = (x 0).val) (h1 : (y 1).val = 128 * j.val + (x 1).val) :
    bBlock i x0 x1 x2 x3 x4 x5 x6 y = (truncf .bf16 (head i x0 x1 x3 x4 x5 x6 (qH j x2)) bitsLt_bf16_f32 : FVec F S128x128 .bf16) x :=
  congrArg (FloatOps.truncf (F := F) .bf16 bitsLt_bf16_f32) (aBlock_at i x0 x1 x2 x3 x4 x5 x6 j x y h0 h1)

theorem q_read (x2 : Vec F S128x512 .bf16) (j : Fin 4) {n : ℕ} (hn : n = 128 * j.val) (inb : ∀ a, ![0, n] a + S128x128.size a ≤ S128x512.size a) :
    View.ld x2 (Rect.unit (s := S128x512) ![0, n] S128x128.size inb) = qH j x2 := by
  subst hn
  funext x
  refine congrArg x2 (funext fun a => Fin.ext ?_)
  match a with
  | ⟨0, _⟩ => show 0 + 1 * (x 0).val = (x 0).val; omega
  | ⟨1, _⟩ => show 128 * j.val + 1 * (x 1).val = 128 * j.val + (x 1).val; omega

theorem q_read_0 (x2 : Vec F S128x512 .bf16) : View.ld x2 (Rect.unit (s := S128x512) ![0, 0] S128x128.size inb_S128x512_S128x128_0_0) = qH 0 x2 := q_read x2 0 rfl _
theorem q_read_1 (x2 : Vec F S128x512 .bf16) : View.ld x2 (Rect.unit (s := S128x512) ![0, 128] S128x128.size inb_S128x512_S128x128_0_128) = qH 1 x2 := q_read x2 1 rfl _
theorem q_read_2 (x2 : Vec F S128x512 .bf16) : View.ld x2 (Rect.unit (s := S128x512) ![0, 256] S128x128.size inb_S128x512_S128x128_0_256) = qH 2 x2 := q_read x2 2 rfl _
theorem q_read_3 (x2 : Vec F S128x512 .bf16) : View.ld x2 (Rect.unit (s := S128x512) ![0, 384] S128x128.size inb_S128x512_S128x128_0_384) = qH 3 x2 := q_read x2 3 rfl _

theorem coord_toNat : ∀ k : Fin 8, BitVec.toNat (Scalar.indexCast (BitVec.ofNat 32 k.val)) = k.val := by decide

/-- The scale of the point's head. -/
theorem scalar_read (x : Vec F S8 .f32) (k : Fin 8) {n : ℕ} (hn : n = k.val) (inb : ∀ a, ![n] a + (![1] : Fin 1 → ℕ) a ≤ S8.size a)
    (h : 0 < (Rect.unit (s := S8) ![n] ![1] inb).shape.numel) :
    View.ld x (Rect.unit (s := S8) ![n] ![1] inb) (Shape.Idx.first h) = x (fun a => ⟨k.val, by fin_cases a; exact k.isLt⟩) := by
  subst hn
  refine congrArg x (funext fun a => Fin.ext ?_)
  fin_cases a
  show k.val + 1 * 0 = k.val
  omega

set_option maxHeartbeats 1000000 in
/-- What a point leaves in its f32 block. -/
theorem out_7 (c : Dev nD) (i : grid0.Coords) (arg2 : Memref sig .tc .smem S8 .f32) (harg2 : arg2.IsWhole) (arg3 : Memref sig .tc .smem S8 .f32) (harg3 : arg3.IsWhole) (arg4 : Memref sig .tc .vmem S128x512 .bf16) (harg4 : arg4.IsWhole) (arg5 : Memref sig .tc .vmem S1536x128 .fp8e4m3) (harg5 : arg5.IsWhole) (arg6 : Memref sig .tc .vmem S1536x128 .fp8e4m3) (harg6 : arg6.IsWhole) (arg7 : Memref sig .tc .vmem S128x1 .i32) (harg7 : arg7.IsWhole) (arg8 : Memref sig .tc .vmem S1x1536 .i32) (harg8 : arg8.IsWhole) (arg9 : Memref sig .tc .vmem S128x512 .f32) (harg9 : arg9.IsWhole) (arg10 : Memref sig .tc .vmem S128x512 .bf16) (harg10 : arg10.IsWhole)
    (x0 : Vec F S8 .f32) (x1 : Vec F S8 .f32) (x2 : Vec F S128x512 .bf16) (x3 : Vec F S1536x128 .fp8e4m3) (x4 : Vec F S1536x128 .fp8e4m3) (x5 : Vec F S128x1 .i32) (x6 : Vec F S1x1536 .i32) :
    out0_A_7 c i arg2 harg2 arg3 harg3 arg4 harg4 arg5 harg5 arg6 harg6 arg7 harg7 arg8 harg8 arg9 harg9 arg10 harg10 x0 x1 x2 x3 x4 x5 x6 = aBlock i x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S128x1) hz]
  generalize hs0 : View.ld x0 _ _ = s0
  have e0 : s0 = sc x0 i := hs0.symm.trans (scalar_read x0 (i 0) (coord_toNat (i 0)) _ _)
  generalize hs1 : View.ld x1 _ _ = s1
  have e1 : s1 = sc x1 i := hs1.symm.trans (scalar_read x1 (i 0) (coord_toNat (i 0)) _ _)
  subst e0 e1
  funext y
  refine View.canon_apply_of_pieces (aBlock i x0 x1 x2 x3 x4 x5 x6) _ ?_ y (View.cover_of_tiledL (s := S128x512) _ ![128, 128] (by sl_kernel_rfl) y)
  simp only [List.forall_mem_cons, List.not_mem_nil, false_implies, implies_true, and_true]
  refine ⟨fun x => ?_, fun x => ?_, fun x => ?_, fun x => ?_⟩
  · refine Eq.trans ?_ (aBlock_at i x0 x1 x2 x3 x4 x5 x6 3 x _ (show 0 + 1 * (x 0).val = (x 0).val by omega) (show 384 + 1 * (x 1).val = 128 * 3 + (x 1).val by omega)).symm
    exact congrFun (congrArg (head i x0 x1 x3 x4 x5 x6) (q_read_3 x2)) x
  · refine Eq.trans ?_ (aBlock_at i x0 x1 x2 x3 x4 x5 x6 2 x _ (show 0 + 1 * (x 0).val = (x 0).val by omega) (show 256 + 1 * (x 1).val = 128 * 2 + (x 1).val by omega)).symm
    exact congrFun (congrArg (head i x0 x1 x3 x4 x5 x6) (q_read_2 x2)) x
  · refine Eq.trans ?_ (aBlock_at i x0 x1 x2 x3 x4 x5 x6 1 x _ (show 0 + 1 * (x 0).val = (x 0).val by omega) (show 128 + 1 * (x 1).val = 128 * 1 + (x 1).val by omega)).symm
    exact congrFun (congrArg (head i x0 x1 x3 x4 x5 x6) (q_read_1 x2)) x
  · refine Eq.trans ?_ (aBlock_at i x0 x1 x2 x3 x4 x5 x6 0 x _ (show 0 + 1 * (x 0).val = (x 0).val by omega) (show 0 + 1 * (x 1).val = 128 * 0 + (x 1).val by omega)).symm
    exact congrFun (congrArg (head i x0 x1 x3 x4 x5 x6) (q_read_0 x2)) x

set_option maxHeartbeats 1000000 in
/-- What a point leaves in its bf16 block. -/
theorem out_8 (c : Dev nD) (i : grid0.Coords) (arg2 : Memref sig .tc .smem S8 .f32) (harg2 : arg2.IsWhole) (arg3 : Memref sig .tc .smem S8 .f32) (harg3 : arg3.IsWhole) (arg4 : Memref sig .tc .vmem S128x512 .bf16) (harg4 : arg4.IsWhole) (arg5 : Memref sig .tc .vmem S1536x128 .fp8e4m3) (harg5 : arg5.IsWhole) (arg6 : Memref sig .tc .vmem S1536x128 .fp8e4m3) (harg6 : arg6.IsWhole) (arg7 : Memref sig .tc .vmem S128x1 .i32) (harg7 : arg7.IsWhole) (arg8 : Memref sig .tc .vmem S1x1536 .i32) (harg8 : arg8.IsWhole) (arg9 : Memref sig .tc .vmem S128x512 .f32) (harg9 : arg9.IsWhole) (arg10 : Memref sig .tc .vmem S128x512 .bf16) (harg10 : arg10.IsWhole)
    (x0 : Vec F S8 .f32) (x1 : Vec F S8 .f32) (x2 : Vec F S128x512 .bf16) (x3 : Vec F S1536x128 .fp8e4m3) (x4 : Vec F S1536x128 .fp8e4m3) (x5 : Vec F S128x1 .i32) (x6 : Vec F S1x1536 .i32) :
    out0_A_8 c i arg2 harg2 arg3 harg3 arg4 harg4 arg5 harg5 arg6 harg6 arg7 harg7 arg8 harg8 arg9 harg9 arg10 harg10 x0 x1 x2 x3 x4 x5 x6 = bBlock i x0 x1 x2 x3 x4 x5 x6 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, View.ld_unit_zero (S := S128x1) hz]
  generalize hs0 : View.ld x0 _ _ = s0
  have e0 : s0 = sc x0 i := hs0.symm.trans (scalar_read x0 (i 0) (coord_toNat (i 0)) _ _)
  generalize hs1 : View.ld x1 _ _ = s1
  have e1 : s1 = sc x1 i := hs1.symm.trans (scalar_read x1 (i 0) (coord_toNat (i 0)) _ _)
  subst e0 e1
  funext y
  refine View.canon_apply_of_pieces (bBlock i x0 x1 x2 x3 x4 x5 x6) _ ?_ y (View.cover_of_tiledL (s := S128x512) _ ![128, 128] (by sl_kernel_rfl) y)
  simp only [List.forall_mem_cons, List.not_mem_nil, false_implies, implies_true, and_true]
  refine ⟨fun x => ?_, fun x => ?_, fun x => ?_, fun x => ?_⟩
  · refine Eq.trans ?_ (bBlock_at i x0 x1 x2 x3 x4 x5 x6 3 x _ (show 0 + 1 * (x 0).val = (x 0).val by omega) (show 384 + 1 * (x 1).val = 128 * 3 + (x 1).val by omega)).symm
    exact congrFun (congrArg (fun q => (truncf .bf16 (head i x0 x1 x3 x4 x5 x6 q) bitsLt_bf16_f32 : FVec F S128x128 .bf16)) (q_read_3 x2)) x
  · refine Eq.trans ?_ (bBlock_at i x0 x1 x2 x3 x4 x5 x6 2 x _ (show 0 + 1 * (x 0).val = (x 0).val by omega) (show 256 + 1 * (x 1).val = 128 * 2 + (x 1).val by omega)).symm
    exact congrFun (congrArg (fun q => (truncf .bf16 (head i x0 x1 x3 x4 x5 x6 q) bitsLt_bf16_f32 : FVec F S128x128 .bf16)) (q_read_2 x2)) x
  · refine Eq.trans ?_ (bBlock_at i x0 x1 x2 x3 x4 x5 x6 1 x _ (show 0 + 1 * (x 0).val = (x 0).val by omega) (show 128 + 1 * (x 1).val = 128 * 1 + (x 1).val by omega)).symm
    exact congrFun (congrArg (fun q => (truncf .bf16 (head i x0 x1 x3 x4 x5 x6 q) bitsLt_bf16_f32 : FVec F S128x128 .bf16)) (q_read_1 x2)) x
  · refine Eq.trans ?_ (bBlock_at i x0 x1 x2 x3 x4 x5 x6 0 x _ (show 0 + 1 * (x 0).val = (x 0).val by omega) (show 0 + 1 * (x 1).val = 128 * 0 + (x 1).val by omega)).symm
    exact congrFun (congrArg (fun q => (truncf .bf16 (head i x0 x1 x3 x4 x5 x6 q) bitsLt_bf16_f32 : FVec F S128x128 .bf16)) (q_read_0 x2)) x

end Cert.KernelAttnIdeal.Val
-- ==== Proof.AttnHead.lean ====
module

public import proofs.«01_k».proof.Proof.AttnMath
public import proofs.«01_k».proof.Proof.AttnSteps

@[expose] public section

/-!
  One head of the attention call's block, read at an entry.
-/

noncomputable section

namespace Cert.KernelAttnIdeal.Val

open Cert.KernelAttnIdeal Cert.KernelAttnIdeal.Gen Cert.Attn
open Idealize.ShloMosaic Idealize.ShloMosaic.Tactic Idealize.ShloMosaic.Pointwise

/-- The scores in base-2 units, minus infinity where a key is not seen. -/
def sK (k : FVec Ideal S512x128 .bf16) (b : IVec S128x512 1) (ks : Ideal .f32) (q : FVec Ideal S128x128 .bf16) : FVec Ideal S128x512 .f32 :=
  select b (mulf (mulf (matmul dot_S128x128_S512x128_S128x512_1_1_0_0_n_n none q k (constant S128x512 .f32 0x00000000#32))
    (broadcast S128x512 ks)) (broadcast S128x512 (Scalar.ofBits .f32 0x3FB8AA3B#32))) (broadcast S128x512 (Scalar.ofBits .f32 0xFF800000#32))

/-- Their rounded-up row maxima. -/
def mK (x : FVec Ideal S128x512 .f32) : FVec Ideal S128x1 .f32 :=
  ceil (shapeCast S128x1 (multiReduction .maximumf [1] S128 x 0xFF800000#32 reduces_S128x512_S128 (.inl rfl) rfl) shapeCasts_S128_S128x1)

/-- The powers of two. -/
def pK (x : FVec Ideal S128x512 .f32) : FVec Ideal S128x512 .f32 :=
  exp2 (subf x (broadcastTo S128x512 (mK x) broadcasts_S128x1_S128x512))

/-- The row sums. -/
def dK (p : FVec Ideal S128x512 .f32) : FVec Ideal S128x1 .f32 :=
  shapeCast S128x1 (multiReduction .add [1] S128 p 0x00000000#32 reduces_S128x512_S128 (.inl rfl) rfl) shapeCasts_S128_S128x1

/-- The weighted sums of the value codes. -/
def aK (p : FVec Ideal S128x512 .f32) (v : FVec Ideal S512x128 .bf16) (vs : Ideal .f32) : FVec Ideal S128x128 .f32 :=
  matmul dot_S128x512_S512x128_S128x128_1_0_0_1_n_n none (truncf .bf16 (mulf p (broadcast S128x512 vs)) bitsLt_bf16_f32) v
    (constant S128x128 .f32 0x00000000#32)

theorem pay2_eq (k v : FVec Ideal S512x128 .bf16) (b : IVec S128x512 1) (ks vs : Ideal .f32) (q : FVec Ideal S128x128 .bf16) :
    k0_pay2 k v b ks vs q = divf (aK (pK (sK k b ks q)) v vs) (broadcastTo S128x128 (dK (pK (sK k b ks q))) broadcasts_S128x1_S128x128) := rfl

theorem bot_word : Ideal.ofBits .f32 0xFF800000#32 = ⊥ := bot_bits

theorem sK_apply (k : FVec Ideal S512x128 .bf16) (b : IVec S128x512 1) (ks : Ideal .f32) (q : FVec Ideal S128x128 .bf16) (r : Fin 128) (j : Fin 512) :
    sK k b ks q (ix2 r j) = masked (b (ix2 r j)) ((∑ d : Fin 128, q (ix2 r d) * k (ix2 j d)) * ks * (Ideal.ofBits .f32 0x3FB8AA3B#32)) := by
  unfold sK
  pointwise
  rw [bot_word]
  rfl

theorem mK_apply (x : FVec Ideal S128x512 .f32) (r : Fin 128) (z : Fin 1) : mK x (ix2 r z) = rowMax fun j : Fin 512 => x (ix2 r j) := by
  unfold mK
  pointwise
  rw [bot_word]
  rfl

theorem pK_apply (x : FVec Ideal S128x512 .f32) (r : Fin 128) (j : Fin 512) :
    pK x (ix2 r j) = Ideal.exp2 (x (ix2 r j) - rowMax fun j : Fin 512 => x (ix2 r j)) := by
  unfold pK
  pointwise
  rw [mK_apply]
  rfl

theorem dK_apply (p : FVec Ideal S128x512 .f32) (r : Fin 128) (z : Fin 1) : dK p (ix2 r z) = ∑ j : Fin 512, p (ix2 r j) := by
  unfold dK
  pointwise

theorem aK_apply (p : FVec Ideal S128x512 .f32) (v : FVec Ideal S512x128 .bf16) (vs : Ideal .f32) (r l : Fin 128) :
    aK p v vs (ix2 r l) = ∑ j : Fin 512, p (ix2 r j) * vs * v (ix2 j l) := by
  unfold aK
  pointwise

theorem pay2_apply (k v : FVec Ideal S512x128 .bf16) (b : IVec S128x512 1) (ks vs : Ideal .f32) (q : FVec Ideal S128x128 .bf16) (r l : Fin 128) :
    k0_pay2 k v b ks vs q (ix2 r l) = attnN (fun j : Fin 512 => b (ix2 r j))
      (fun j => (∑ d : Fin 128, q (ix2 r d) * k (ix2 j d)) * ks * (Ideal.ofBits .f32 0x3FB8AA3B#32)) (fun j => v (ix2 j l)) vs := by
  rw [pay2_eq]
  show Ideal.div (aK _ v vs (ix2 r l)) (broadcastTo (t := S128x128) _ _ _) = _
  pointwise
  rw [aK_apply, dK_apply]
  unfold attnN
  simp only [pK_apply, sK_apply]

end Cert.KernelAttnIdeal.Val

end
-- ==== Proof.AttnWindow.lean ====
module

public import proofs.«01_k».proof.Proof.AttnHead
public import proofs.«01_k».proof.Proof.Packed

@[expose] public section

set_option maxRecDepth 16384

/-!
  The window of 512 keys that one point of the attention call reads: where it starts, which of its keys each query sees, and
  one head of the point's block as entries of the point's blocks.
-/

noncomputable section

namespace Cert.KernelAttnIdeal.Val

open Cert.KernelAttnIdeal Cert.KernelAttnIdeal.Gen Cert.Attn Cert.Packed
open Idealize.ShloMosaic Idealize.ShloMosaic.TcCoe Idealize.ShloMosaic.Tactic Idealize.ShloMosaic.Pointwise

/-- The word of the window's first key. -/
theorem start_word : ∀ k : Fin 12, Scalar.maxsi (Scalar.subi (Scalar.muli (BitVec.ofNat 32 k.val) 128#32) 384#32) 0#32 = BitVec.ofNat 32 (128 * k.val - 384) := by
  decide

theorem start_toNat : ∀ k : Fin 12, (Scalar.indexCast (Scalar.maxsi (Scalar.subi (Scalar.muli (BitVec.ofNat 32 k.val) 128#32) 384#32) 0#32)).toNat = 128 * k.val - 384 := by
  decide

theorem start_toNat_add : ∀ (k : Fin 12) (a : Fin 4),
    (Scalar.indexCast (Scalar.addi (Scalar.maxsi (Scalar.subi (Scalar.muli (BitVec.ofNat 32 k.val) 128#32) 384#32) 0#32) (BitVec.ofNat 32 (128 * a.val)))).toNat
      = 128 * k.val - 384 + 128 * a.val := by
  decide

/-- The window's first key. -/
def start (i : grid0.Coords) : ℕ := 128 * (i 1).val - 384

theorem coord_lt (i : grid0.Coords) : (i 1).val < 12 := (i 1).isLt

theorem start_le (i : grid0.Coords) {j : ℕ} (hj : j < 512) : start i + j < 1536 := by
  have := coord_lt i
  unfold start
  omega

theorem off1_zero (i : grid0.Coords) : k0_off1 i 0 = start i := start_toNat ⟨(i 1).val, coord_lt i⟩
theorem off1_one (i : grid0.Coords) : k0_off1 i 1 = 0 := rfl
theorem off2_zero (i : grid0.Coords) (w : BitVec 32) : k0_off2 i w 0 = 0 := rfl
theorem off2_one (i : grid0.Coords) (a : Fin 4) : k0_off2 i (BitVec.ofNat 32 (128 * a.val)) 1 = start i + 128 * a.val :=
  start_toNat_add ⟨(i 1).val, coord_lt i⟩ a

theorem kWin_apply (i : grid0.Coords) (x : Vec Ideal S1536x128 .fp8e4m3) (j : Fin 512) (l : Fin 128) :
    kWin i x (ix2 j l) = at2 x (start i + j.val) l.val := by
  refine eq_at2_of x _ ?_ ?_
  · show k0_off1 i 0 + 1 * j.val = _
    rw [off1_zero]; ring
  · show k0_off1 i 1 + 1 * l.val = _
    rw [off1_one]; ring

theorem segRead (i : grid0.Coords) (x6 : Vec Ideal S1x1536 .i32) (a : Fin 4) (w : BitVec 32) (hw : w = BitVec.ofNat 32 (128 * a.val))
    (inb : ∀ b, k0_off2 i w b + S1x128.size b ≤ S1x1536.size b) (l : Fin 128) :
    View.ld x6 (Rect.unit (s := S1x1536) (k0_off2 i w) S1x128.size inb) (ix2 0 l) = at2 x6 0 (start i + (128 * a.val + l.val)) := by
  refine eq_at2_of x6 _ ?_ ?_
  · rfl
  · show k0_off2 i w 1 + 1 * l.val = _
    rw [hw, off2_one]; ring

theorem conc_apply (a b c d : IVec S1x128 32) (j : Fin 512) :
    concatenate S1x512 1 [⟨S1x128, a⟩, ⟨S1x128, b⟩, ⟨S1x128, c⟩, ⟨S1x128, d⟩] concatenates_S1x128_S1x128_S1x128_S1x128_S1x512_d1 (ix2 0 j)
      = (![a, b, c, d] : Fin 4 → IVec S1x128 32) ⟨j.val / 128, by omega⟩ (ix2 0 ⟨j.val % 128, by omega⟩) := by
  refine concatenate_ofFn_apply (t := S1x512) (s₁ := S1x128) 1 (![a, b, c, d] : Fin 4 → IVec S1x128 32)
    concatenates_S1x128_S1x128_S1x128_S1x128_S1x512_d1 rfl 128 rfl (ix2 0 j) _ rfl _ rfl ?_
  intro k hk
  match k with
  | ⟨0, _⟩ => rfl
  | ⟨1, _⟩ => exact absurd rfl hk

theorem cast_row (x : IVec S1x128 32) : shapeCast S1x128 x shapeCasts_S1x128_S1x128 = x := by
  funext y
  exact shapeCast_apply _ _ y y rfl

theorem cast_col (x : IVec S128x1 32) : shapeCast S128x1 x shapeCasts_S128x1_S128x1 = x := by
  funext y
  exact shapeCast_apply _ _ y y rfl

theorem bcast_col (x : IVec S128x1 32) (r : Fin 128) (j : Fin 512) : broadcastTo S128x512 x broadcasts_S128x1_S128x512 (ix2 r j) = x (ix2 r 0) := by
  pointwise

theorem bcast_row (x : IVec S1x512 32) (r : Fin 128) (j : Fin 512) : broadcastTo S128x512 x broadcasts_S1x512_S128x512 (ix2 r j) = x (ix2 0 j) := by
  pointwise

theorem pay6_apply (i : grid0.Coords) (r : Fin 128) (j : Fin 512) : k0_pay6 i (ix2 r j) = BitVec.ofNat 32 (128 * (i 1).val + r.val) := by
  unfold k0_pay6
  show Scalar.muli (BitVec.ofNat 32 (i 1).val) 128#32 + iota .tc S128x512 32 [0] iota_S128x512_d0_w32 (ix2 r j) = _
  rw [iota_single_apply]
  show BitVec.ofNat 32 (i 1).val * BitVec.ofNat 32 128 + BitVec.ofNat 32 r.val = _
  rw [← BitVec.ofNat_mul, ← BitVec.ofNat_add, mul_comm]

theorem pay7_apply (i : grid0.Coords) (r : Fin 128) (j : Fin 512) : k0_pay7 i (ix2 r j) = BitVec.ofNat 32 (start i + j.val) := by
  unfold k0_pay7
  show Scalar.maxsi (Scalar.subi (Scalar.muli (BitVec.ofNat 32 (i 1).val) 128#32) 384#32) 0#32 + iota .tc S128x512 32 [1] iota_S128x512_d1_w32 (ix2 r j) = _
  rw [iota_single_apply, start_word ⟨(i 1).val, coord_lt i⟩]
  show BitVec.ofNat 32 (start i) + BitVec.ofNat 32 j.val = _
  rw [← BitVec.ofNat_add]

/-- The key segments that a point reads, side by side. -/
theorem seg_row (i : grid0.Coords) (x6 : Vec Ideal S1x1536 .i32) (a b c d : IVec S1x128 32)
    (ha : ∀ l : Fin 128, a (ix2 0 l) = at2 x6 0 (start i + (128 * (0 : Fin 4).val + l.val)))
    (hb : ∀ l : Fin 128, b (ix2 0 l) = at2 x6 0 (start i + (128 * (1 : Fin 4).val + l.val)))
    (hc : ∀ l : Fin 128, c (ix2 0 l) = at2 x6 0 (start i + (128 * (2 : Fin 4).val + l.val)))
    (hd : ∀ l : Fin 128, d (ix2 0 l) = at2 x6 0 (start i + (128 * (3 : Fin 4).val + l.val))) (j : Fin 512) :
    concatenate S1x512 1 [⟨S1x128, a⟩, ⟨S1x128, b⟩, ⟨S1x128, c⟩, ⟨S1x128, d⟩] concatenates_S1x128_S1x128_S1x128_S1x128_S1x512_d1 (ix2 0 j)
      = at2 x6 0 (start i + j.val) := by
  rw [conc_apply]
  have key : ∀ (n : Fin 4) (l : Fin 128), (![a, b, c, d] : Fin 4 → IVec S1x128 32) n (ix2 0 l) = at2 x6 0 (start i + (128 * n.val + l.val)) := by
    intro n l
    match n with
    | ⟨0, _⟩ => exact ha l
    | ⟨1, _⟩ => exact hb l
    | ⟨2, _⟩ => exact hc l
    | ⟨3, _⟩ => exact hd l
  rw [key]
  exact congrArg (at2 x6 0) (by show start i + (128 * (j.val / 128) + j.val % 128) = _; omega)

/-- Which keys of the window a query sees, from the segments of the rows. -/
theorem visK_apply (i : grid0.Coords) (x5 : Vec Ideal S128x1 .i32) (x6 : Vec Ideal S1x1536 .i32) (seg : ℕ → BitVec 32) (r : Fin 128) (j : Fin 512)
    (h5 : x5 (ix2 r 0) = seg (128 * (i 1).val + r.val)) (h6 : at2 x6 0 (start i + j.val) = seg (start i + j.val)) :
    visK i x5 x6 (ix2 r j) = visW seg (128 * (i 1).val + r.val) (start i + j.val) := by
  unfold visK k0_pay10 k0_pay8 k0_pay9
  show IntOp.andi (IntOp.andi (IntOp.cmpi .eq (broadcastTo S128x512 (shapeCast S128x1 x5 shapeCasts_S128x1_S128x1) broadcasts_S128x1_S128x512 (ix2 r j))
      (broadcastTo S128x512 _ broadcasts_S1x512_S128x512 (ix2 r j))) (IntOp.cmpi .sle (k0_pay7 i (ix2 r j)) (k0_pay6 i (ix2 r j))))
      (IntOp.cmpi .slt (IntOp.subi (k0_pay6 i (ix2 r j)) (k0_pay7 i (ix2 r j))) 384#32) = _
  rw [pay6_apply, pay7_apply, bcast_col, bcast_row, cast_col, h5]
  refine congrArg (fun z => IntOp.andi (IntOp.andi (IntOp.cmpi .eq _ z) _) _) (Eq.trans ?_ h6)
  exact seg_row i x6 _ _ _ _
    (fun l => (congrFun (cast_row _) _).trans (segRead i x6 0 0#32 rfl (k0_off2_inb i 0) l))
    (fun l => (congrFun (cast_row _) _).trans (segRead i x6 1 128#32 rfl (k0_off2_inb i 1) l))
    (fun l => (congrFun (cast_row _) _).trans (segRead i x6 2 256#32 rfl (k0_off2_inb i 2) l))
    (fun l => (congrFun (cast_row _) _).trans (segRead i x6 3 384#32 rfl (k0_off2_inb i 3) l)) j

/-- One head of a point's block at an entry, over all keys. -/
theorem head_apply (i : grid0.Coords) (x0 x1 : Vec Ideal S8 .f32) (x3 x4 : Vec Ideal S1536x128 .fp8e4m3)
    (x5 : Vec Ideal S128x1 .i32) (x6 : Vec Ideal S1x1536 .i32) (q : Vec Ideal S128x128 .bf16) (seg : ℕ → BitVec 32) (r l : Fin 128)
    (h5 : x5 (ix2 r 0) = seg (128 * (i 1).val + r.val)) (h6 : ∀ n : ℕ, n < 1536 → at2 x6 0 n = seg n) :
    head i x0 x1 x3 x4 x5 x6 q (ix2 r l)
      = attnN (fun n : Fin 1536 => visW seg (128 * (i 1).val + r.val) n.val)
          (fun n => (∑ d : Fin 128, q (ix2 r d) * at2 x3 n.val d.val) * (sc x0 i * Ideal.ofBits .f32 0x3DB504F3#32) * Ideal.ofBits .f32 0x3FB8AA3B#32)
          (fun n => at2 x4 n.val l.val) (sc x1 i) := by
  have hi := coord_lt i
  rw [attnN_window (ι := Fin 512) (fun j => (⟨start i + j.val, start_le i j.isLt⟩ : Fin 1536))
    (fun a b h => Fin.ext (by have := congrArg Fin.val h; simpa using this)) _ _ _ _ (fun n hn => by
      have hb := visW_bounds (by omega) n.isLt hn
      refine ⟨⟨n.val - start i, ?_⟩, Fin.ext ?_⟩
      · unfold start; omega
      · show start i + (n.val - start i) = n.val
        unfold start; omega)]
  unfold head
  rw [pay2_apply]
  congr 1
  · funext j
    exact visK_apply i x5 x6 seg r j h5 (h6 _ (start_le i j.isLt))
  · funext j
    refine congrArg (fun z => z * (sc x0 i * Ideal.ofBits .f32 0x3DB504F3#32) * Ideal.ofBits .f32 0x3FB8AA3B#32) (Finset.sum_congr rfl fun d _ => ?_)
    exact congrArg (fun z : EReal => q (ix2 r d) * z) (kWin_apply i x3 j d)
  · funext j
    exact kWin_apply i x4 j l

end Cert.KernelAttnIdeal.Val

end
-- ==== Proof.AttnValue.lean ====
module

public import proofs.«01_k».proof.Proof.Gen.KernelAttnIdeal.Value
public import proofs.«01_k».proof.Proof.AttnWindow
public import Idealize.ShloMosaic.Lib.Pipeline.Value
public import Idealize.ShloMosaic.Lib.StableHlo.Run
public import Idealize.ShloMosaic.Lib.Tactic

@[expose] public section

set_option maxRecDepth 16384

/-!
  The attention call: the block of each argument that a grid point reads, as entries of the whole argument, and then the two
  results' arrays, over the extended reals.
-/

noncomputable section

namespace Cert.KernelAttnIdeal.Val

open Cert.KernelAttnIdeal Cert.KernelAttnIdeal.Gen Cert.Attn
open Idealize.ShloMosaic Idealize.ShloMosaic.TcCoe Idealize.ShloMosaic.Tactic
open Idealize.ShloMosaic.Pointwise Cert.Packed

variable (m : (ℓ : Loc nD τ sig) → Buf (Elt Ideal) ℓ)

/-! ## What a point reads -/

theorem index0 : ∀ t : Fin grid0.N, win0_0.index t 0 = 0 := by decide +kernel

theorem blk0 (c : Dev nD) (t : Fin cfg0.N) (y : S8.Idx) :
    (iblk m c 0 t : Vec Ideal S8 .f32) y = (m ((c : Thread nD τ).loc main_arg4) : Vec Ideal S8 .f32) y := by
  unfold iblk
  rw [View.read_apply]
  show V m c main_arg4 _ = _
  rw [V_main_arg4]
  refine congrArg (m ((c : Thread nD τ).loc main_arg4) : Vec Ideal S8 .f32) (funext fun a => ?_)
  match a with
  | ⟨0, _⟩ => exact Fin.ext (by show win0_0.index t 0 * 8 + 1 * (y 0).val = (y 0).val; rw [index0 t]; ring)

theorem index1 : ∀ t : Fin grid0.N, win0_1.index t 0 = 0 := by decide +kernel

theorem blk1 (c : Dev nD) (t : Fin cfg0.N) (y : S8.Idx) :
    (iblk m c 1 t : Vec Ideal S8 .f32) y = (m ((c : Thread nD τ).loc main_arg5) : Vec Ideal S8 .f32) y := by
  unfold iblk
  rw [View.read_apply]
  show V m c main_arg5 _ = _
  rw [V_main_arg5]
  refine congrArg (m ((c : Thread nD τ).loc main_arg5) : Vec Ideal S8 .f32) (funext fun a => ?_)
  match a with
  | ⟨0, _⟩ => exact Fin.ext (by show win0_1.index t 0 * 8 + 1 * (y 0).val = (y 0).val; rw [index1 t]; ring)

theorem index2 : ∀ t : Fin grid0.N, win0_2.index t 0 = t.val % 12 ∧ win0_2.index t 1 = t.val / 12 := by decide +kernel

theorem blk2 (c : Dev nD) (t : Fin cfg0.N) {r l : ℕ} (hr : r < 128) (hl : l < 512) :
    at2 (iblk m c 2 t : Vec Ideal S128x512 .bf16) r l = at2 (m ((c : Thread nD τ).loc main_arg0)) (128 * (t.val % 12) + r) (512 * (t.val / 12) + l) := by
  have hi := index2 t
  rw [at2_of_lt _ hr hl]
  unfold iblk
  rw [View.read_apply]
  show V m c main_arg0 _ = _
  rw [V_main_arg0]
  refine eq_at2_of (m ((c : Thread nD τ).loc main_arg0)) _ ?_ ?_
  · show win0_2.index t 0 * 128 + 1 * r = 128 * (t.val % 12) + r
    rw [hi.1]; ring
  · show win0_2.index t 1 * 512 + 1 * l = 512 * (t.val / 12) + l
    rw [hi.2]; ring

theorem index3 : ∀ t : Fin grid0.N, win0_3.index t 0 = 0 ∧ win0_3.index t 1 = t.val / 12 := by decide +kernel

theorem blk3 (c : Dev nD) (t : Fin cfg0.N) {r l : ℕ} (hr : r < 1536) (hl : l < 128) :
    at2 (iblk m c 3 t : Vec Ideal S1536x128 .fp8e4m3) r l = at2 (m ((c : Thread nD τ).loc main_arg1)) (1536 * (0) + r) (128 * (t.val / 12) + l) := by
  have hi := index3 t
  rw [at2_of_lt _ hr hl]
  unfold iblk
  rw [View.read_apply]
  show V m c main_arg1 _ = _
  rw [V_main_arg1]
  refine eq_at2_of (m ((c : Thread nD τ).loc main_arg1)) _ ?_ ?_
  · show win0_3.index t 0 * 1536 + 1 * r = 1536 * (0) + r
    rw [hi.1]; ring
  · show win0_3.index t 1 * 128 + 1 * l = 128 * (t.val / 12) + l
    rw [hi.2]; ring

theorem index4 : ∀ t : Fin grid0.N, win0_4.index t 0 = 0 ∧ win0_4.index t 1 = t.val / 12 := by decide +kernel

theorem blk4 (c : Dev nD) (t : Fin cfg0.N) {r l : ℕ} (hr : r < 1536) (hl : l < 128) :
    at2 (iblk m c 4 t : Vec Ideal S1536x128 .fp8e4m3) r l = at2 (m ((c : Thread nD τ).loc main_arg2)) (1536 * (0) + r) (128 * (t.val / 12) + l) := by
  have hi := index4 t
  rw [at2_of_lt _ hr hl]
  unfold iblk
  rw [View.read_apply]
  show V m c main_arg2 _ = _
  rw [V_main_arg2]
  refine eq_at2_of (m ((c : Thread nD τ).loc main_arg2)) _ ?_ ?_
  · show win0_4.index t 0 * 1536 + 1 * r = 1536 * (0) + r
    rw [hi.1]; ring
  · show win0_4.index t 1 * 128 + 1 * l = 128 * (t.val / 12) + l
    rw [hi.2]; ring

/-- The segment of every row: how many of the bounds are not above it. -/
def segK (x : IVec S4 32) : IVec S1536 32 :=
  Host.reduce IntOp.addi (extui 32 (cmpi .sge
      (broadcastInDim S1536x3 ![0, 1] bcast_S1536x1_S1536x3_0_1 (broadcastInDim S1536x1 ![0] bcast_S1536_S1536x1_0 (iotaInDim S1536 32 0)))
      (broadcastInDim S1536x3 ![0, 1] bcast_S1x3_S1536x3_0_1 (broadcastInDim S1x3 ![1] bcast_S3_S1x3_1 (extractStridedSlice S3 ![1] x slices_S4_S3_1)))) natLt_1_32)
    (constantI S_ 32 0#32) reducesTo_S1536x3_S1536_d1 h_S_

/-- The same by number, zero past the last row. -/
def segKN (x : IVec S4 32) (n : ℕ) : BitVec 32 := if h : n < 1536 then segK x (ix1 ⟨n, h⟩) else 0#32

theorem segKN_lt (x : IVec S4 32) {n : ℕ} (h : n < 1536) : segKN x n = segK x (ix1 ⟨n, h⟩) := dif_pos h

theorem V_main_v9 (c : Dev nD) : V m c main_v9 = shapeCast S1536x1 (segK (m ((c : Thread nD τ).loc main_arg3))) shapeCasts_S1536_S1536x1 := by
  show StableHlo.after hostOps0 _ (Proc.devRef .tc main_v9) = _
  after_results
  rfl

theorem V_main_v10 (c : Dev nD) : V m c main_v10 = shapeCast S1x1536 (segK (m ((c : Thread nD τ).loc main_arg3))) shapeCasts_S1536_S1x1536 := by
  show StableHlo.after hostOps0 _ (Proc.devRef .tc main_v10) = _
  after_results
  rfl

theorem col_apply (s : IVec S1536 32) (n : Fin 1536) (z : Fin 1) : shapeCast S1536x1 s shapeCasts_S1536_S1536x1 (ix2 n z) = s (ix1 n) :=
  shapeCast_apply _ _ (ix2 n z) (ix1 n) (by
    rewrite [Shape.rowMajor_val_one, Shape.rowMajor_val_two]
    show n.val = n.val * 1 + z.val
    omega)

theorem row_apply (s : IVec S1536 32) (n : Fin 1536) (z : Fin 1) : shapeCast S1x1536 s shapeCasts_S1536_S1x1536 (ix2 z n) = s (ix1 n) :=
  shapeCast_apply _ _ (ix2 z n) (ix1 n) (by
    rewrite [Shape.rowMajor_val_one, Shape.rowMajor_val_two]
    show n.val = z.val * 1536 + n.val
    omega)

theorem index5 : ∀ t : Fin grid0.N, win0_5.index t 0 = t.val % 12 ∧ win0_5.index t 1 = 0 := by decide +kernel

theorem blk5 (c : Dev nD) (t : Fin cfg0.N) (r : Fin 128) :
    (iblk m c 5 t : Vec Ideal S128x1 .i32) (ix2 r 0) = segKN (m ((c : Thread nD τ).loc main_arg3)) (128 * (t.val % 12) + r.val) := by
  have hi := index5 t
  have hb : 128 * (t.val % 12) + r.val < 1536 := by omega
  unfold iblk
  rw [View.read_apply]
  show V m c main_v9 _ = _
  rw [V_main_v9]
  refine Eq.trans ?_ ((col_apply _ ⟨128 * (t.val % 12) + r.val, hb⟩ 0).trans (segKN_lt _ hb).symm)
  refine congrArg (shapeCast S1536x1 (segK (m ((c : Thread nD τ).loc main_arg3))) shapeCasts_S1536_S1536x1) (funext fun a => ?_)
  match a with
  | ⟨0, _⟩ => exact Fin.ext (by show win0_5.index t 0 * 128 + 1 * r.val = 128 * (t.val % 12) + r.val; rw [hi.1]; ring)
  | ⟨1, _⟩ => exact Fin.ext (by show win0_5.index t 1 * 1 + 1 * 0 = 0; rw [hi.2])

theorem index6 : ∀ t : Fin grid0.N, win0_6.index t 0 = 0 ∧ win0_6.index t 1 = 0 := by decide +kernel

theorem blk6 (c : Dev nD) (t : Fin cfg0.N) (n : ℕ) (hn : n < 1536) :
    at2 (iblk m c 6 t : Vec Ideal S1x1536 .i32) 0 n = segKN (m ((c : Thread nD τ).loc main_arg3)) n := by
  have hi := index6 t
  rw [at2_of_lt _ (by norm_num) hn]
  unfold iblk
  rw [View.read_apply]
  show V m c main_v10 _ = _
  rw [V_main_v10]
  refine Eq.trans ?_ ((row_apply _ ⟨n, hn⟩ 0).trans (segKN_lt _ hn).symm)
  refine congrArg (shapeCast S1x1536 (segK (m ((c : Thread nD τ).loc main_arg3))) shapeCasts_S1536_S1x1536) (funext fun a => ?_)
  match a with
  | ⟨0, _⟩ => exact Fin.ext (by show win0_6.index t 0 * 1 + 1 * 0 = 0; rw [hi.1])
  | ⟨1, _⟩ => exact Fin.ext (by show win0_6.index t 1 * 1536 + 1 * n = n; rw [hi.2]; ring)

/-! ## The results -/

/-- An argument's contents. -/
abbrev arg (c : Dev nD) (b : Ref sig .tc) : b.ty.Contents (Elt Ideal) := m ((c : Thread nD τ).loc b)

theorem coords_val : ∀ t : Fin grid0.N, ((grid0.coords t) 0).val = t.val / 12 ∧ ((grid0.coords t) 1).val = t.val % 12 := by decide +kernel

/-- The scale of a head, read at a point's coordinate. -/
theorem scale_at (x : Vec Ideal S8 .f32) (t : Fin grid0.N) (h : Fin 8) (ht : t.val / 12 = h.val) : sc x (grid0.coords t) = x (ix1 h) := by
  refine congrArg x (funext fun a => ?_)
  match a with
  | ⟨0, _⟩ => exact Fin.ext ((coords_val t).1.trans ht)

/-- Head `e` of group `g` at row `R` and column `l`, from the arrays by number and the group's two scales. -/
def entryN (seg : ℕ → BitVec 32) (q k v : ℕ → ℕ → EReal) (ks vs : EReal) (R g e l : ℕ) : EReal :=
  attnN (fun n : Fin 1536 => visW seg R n.val)
    (fun n => (∑ d : Fin 128, q R (512 * g + 128 * e + d.val) * k n.val (128 * g + d.val)) * (ks * Ideal.ofBits .f32 0x3DB504F3#32) * Ideal.ofBits .f32 0x3FB8AA3B#32)
    (fun n => v n.val (128 * g + l)) vs

/-- An entry of the result: row `R`, head `e` of group `g`, column `l`. -/
def entry (c : Dev nD) (R : ℕ) (g : Fin 8) (e : Fin 4) (l : Fin 128) : EReal :=
  entryN (segKN (arg m c main_arg3 : Vec Ideal S4 .i32)) (at2 (arg m c main_arg0 : Vec Ideal S1536x4096 .bf16)) (at2 (arg m c main_arg1 : Vec Ideal S1536x1024 .fp8e4m3))
    (at2 (arg m c main_arg2 : Vec Ideal S1536x1024 .fp8e4m3)) ((arg m c main_arg4 : Vec Ideal S8 .f32) (ix1 g)) ((arg m c main_arg5 : Vec Ideal S8 .f32) (ix1 g)) R g.val e.val l.val

/-- One head of a block whose entries are known by number. -/
theorem head_eq (i : grid0.Coords) (x0 x1 : Vec Ideal S8 .f32) (x3 x4 : Vec Ideal S1536x128 .fp8e4m3)
    (x5 : Vec Ideal S128x1 .i32) (x6 : Vec Ideal S1x1536 .i32) (x2 : Vec Ideal S128x512 .bf16) (seg : ℕ → BitVec 32) (Q K V : ℕ → ℕ → EReal) (ks vs : EReal)
    (R g : ℕ) (e : Fin 4) (r l : Fin 128) (hR : 128 * (i 1).val + r.val = R)
    (h5 : x5 (ix2 r 0) = seg R) (h6 : ∀ n : ℕ, n < 1536 → at2 x6 0 n = seg n) (h0 : sc x0 i = ks) (h1 : sc x1 i = vs)
    (hq : ∀ d : Fin 128, at2 x2 r.val (128 * e.val + d.val) = Q R (512 * g + 128 * e.val + d.val))
    (hk : ∀ (n : Fin 1536) (d : Fin 128), at2 x3 n.val d.val = K n.val (128 * g + d.val))
    (hv : ∀ (n : Fin 1536) (d : Fin 128), at2 x4 n.val d.val = V n.val (128 * g + d.val)) :
    head i x0 x1 x3 x4 x5 x6 (qH e x2) (ix2 r l) = entryN seg Q K V ks vs R g e.val l.val := by
  subst hR h0 h1
  rw [head_apply i x0 x1 x3 x4 x5 x6 _ seg r l h5 h6]
  have hq' : ∀ d : Fin 128, qH e x2 (ix2 r d) = Q (128 * (i 1).val + r.val) (512 * g + 128 * e.val + d.val) := fun d =>
    (eq_at2_of x2 _ (r := r.val) (n := 128 * e.val + d.val) rfl rfl).trans (hq d)
  simp only [hq', hk, hv]
  rfl

/-- One head of a point's block. -/
theorem head_at (c : Dev nD) (t : Fin cfg0.N) (g : Fin 8) (ht : t.val / 12 = g.val) (e : Fin 4) (r l : Fin 128) :
    head (F := Ideal) (grid0.coords t) (iblk m c 0 t) (iblk m c 1 t) (iblk m c 3 t) (iblk m c 4 t) (iblk m c 5 t) (iblk m c 6 t) (qH e (iblk m c 2 t)) (ix2 r l)
      = entry m c (128 * (t.val % 12) + r.val) g e l := by
  have hc := coords_val t
  refine head_eq (grid0.coords t) _ _ _ _ _ _ _ _ _ _ _ _ _ _ _ e r l (by rw [hc.2]) (blk5 m c t r) (blk6 m c t)
    ((scale_at _ t g ht).trans (blk0 m c t _)) ((scale_at _ t g ht).trans (blk1 m c t _)) (fun d => ?_) (fun n d => ?_) (fun n d => ?_)
  · refine (blk2 m c t r.isLt (by omega)).trans ?_
    rw [ht, add_assoc]
  · refine (blk3 m c t n.isLt d.isLt).trans ?_
    rw [ht, show 1536 * 0 + n.val = n.val by ring]
  · refine (blk4 m c t n.isLt d.isLt).trans ?_
    rw [ht, show 1536 * 0 + n.val = n.val by ring]

theorem flush_all7 : ∀ t : Fin cfg0.N, (cfg0.win 7).flush t = true := (by decide +kernel : ∀ t : Fin grid0.N, win0_7.flush t = true)
theorem index7 : ∀ t : Fin grid0.N, win0_7.index t 0 = t.val % 12 ∧ win0_7.index t 1 = t.val / 12 := by decide +kernel

/-- Output window 7's array at an entry is what the entry's point wrote back there. -/
theorem arr7 (c : Dev nD) (t : Fin cfg0.N) (r : Fin 128) (l : Fin 512) (R : Fin 1536) (n : Fin 4096) (hR : R.val = 128 * (t.val % 12) + r.val)
    (hn : n.val = 512 * (t.val / 12) + l.val) :
    ((dats m 0 c).arrAt 7 cfg0.N : Vec Ideal S1536x4096 .f32) (ix2 R n) = ((dats m 0 c).flushed 7 t : Vec Ideal S128x512 .f32) (ix2 r l) := by
  have hi := index7 t
  have hb := congrFun (Value.blocks7 m c t (flush_all7 t)) (ix2 r l)
  rw [View.read_apply] at hb
  refine Eq.trans ?_ hb
  refine congrArg ((dats m 0 c).arrAt 7 cfg0.N : Vec Ideal S1536x4096 .f32) (funext fun a => ?_)
  match a with
  | ⟨0, _⟩ => exact Fin.ext (by show R.val = win0_7.index t 0 * 128 + 1 * r.val; rw [hi.1, hR]; ring)
  | ⟨1, _⟩ => exact Fin.ext (by show n.val = win0_7.index t 1 * 512 + 1 * l.val; rw [hi.2, hn]; ring)

theorem flush_all8 : ∀ t : Fin cfg0.N, (cfg0.win 8).flush t = true := (by decide +kernel : ∀ t : Fin grid0.N, win0_8.flush t = true)
theorem index8 : ∀ t : Fin grid0.N, win0_8.index t 0 = t.val % 12 ∧ win0_8.index t 1 = t.val / 12 := by decide +kernel

/-- Output window 8's array at an entry is what the entry's point wrote back there. -/
theorem arr8 (c : Dev nD) (t : Fin cfg0.N) (r : Fin 128) (l : Fin 512) (R : Fin 1536) (n : Fin 4096) (hR : R.val = 128 * (t.val % 12) + r.val)
    (hn : n.val = 512 * (t.val / 12) + l.val) :
    ((dats m 0 c).arrAt 8 cfg0.N : Vec Ideal S1536x4096 .bf16) (ix2 R n) = ((dats m 0 c).flushed 8 t : Vec Ideal S128x512 .bf16) (ix2 r l) := by
  have hi := index8 t
  have hb := congrFun (Value.blocks8 m c t (flush_all8 t)) (ix2 r l)
  rw [View.read_apply] at hb
  refine Eq.trans ?_ hb
  refine congrArg ((dats m 0 c).arrAt 8 cfg0.N : Vec Ideal S1536x4096 .bf16) (funext fun a => ?_)
  match a with
  | ⟨0, _⟩ => exact Fin.ext (by show R.val = win0_8.index t 0 * 128 + 1 * r.val; rw [hi.1, hR]; ring)
  | ⟨1, _⟩ => exact Fin.ext (by show n.val = win0_8.index t 1 * 512 + 1 * l.val; rw [hi.2, hn]; ring)

/-- The f32 result at an entry. -/
theorem res7_apply (c : Dev nD) (R : Fin 1536) (g : Fin 8) (e : Fin 4) (l : Fin 128) :
    ((dats m 0 c).arrAt 7 cfg0.N : Vec Ideal S1536x4096 .f32) (ix2 R ⟨512 * g.val + 128 * e.val + l.val, by omega⟩) = entry m c R.val g e l := by
  have hN : cfg0.N = 96 := N_0
  let t : Fin cfg0.N := ⟨12 * g.val + R.val / 128, by omega⟩
  have ht : t.val = 12 * g.val + R.val / 128 := rfl
  have hg : t.val / 12 = g.val := by omega
  let r : Fin 128 := ⟨R.val % 128, Nat.mod_lt _ (by norm_num)⟩
  have hr : r.val = R.val % 128 := rfl
  have hR : R.val = 128 * (t.val % 12) + r.val := by omega
  rw [arr7 m c t r ⟨128 * e.val + l.val, by omega⟩ R _ hR (by show 512 * g.val + 128 * e.val + l.val = 512 * (t.val / 12) + (128 * e.val + l.val); omega), Value.flushed7_A, out_7]
  show aBlock (F := Ideal) _ _ _ _ _ _ _ _ (ix2 r ⟨128 * e.val + l.val, _⟩) = _
  rw [aBlock_at _ _ _ _ _ _ _ _ e (ix2 r l) _ rfl rfl, hR]
  exact head_at m c t g hg e r l

/-- The bf16 result at an entry. -/
theorem res8_apply (c : Dev nD) (R : Fin 1536) (g : Fin 8) (e : Fin 4) (l : Fin 128) :
    ((dats m 0 c).arrAt 8 cfg0.N : Vec Ideal S1536x4096 .bf16) (ix2 R ⟨512 * g.val + 128 * e.val + l.val, by omega⟩) = entry m c R.val g e l := by
  have hN : cfg0.N = 96 := N_0
  let t : Fin cfg0.N := ⟨12 * g.val + R.val / 128, by omega⟩
  have ht : t.val = 12 * g.val + R.val / 128 := rfl
  have hg : t.val / 12 = g.val := by omega
  let r : Fin 128 := ⟨R.val % 128, Nat.mod_lt _ (by norm_num)⟩
  have hr : r.val = R.val % 128 := rfl
  have hR : R.val = 128 * (t.val % 12) + r.val := by omega
  rw [arr8 m c t r ⟨128 * e.val + l.val, by omega⟩ R _ hR (by show 512 * g.val + 128 * e.val + l.val = 512 * (t.val / 12) + (128 * e.val + l.val); omega), Value.flushed8_A, out_8]
  show bBlock (F := Ideal) _ _ _ _ _ _ _ _ (ix2 r ⟨128 * e.val + l.val, _⟩) = _
  rw [bBlock_at _ _ _ _ _ _ _ _ e (ix2 r l) _ rfl rfl, hR]
  exact head_at m c t g hg e r l

end Cert.KernelAttnIdeal.Val

end
-- ==== Proof.AttnRef.lean ====
module

public import proofs.«01_k».proof.Proof.AttnMath
public import proofs.«01_k».proof.Proof.RefVal
public import proofs.«01_k».proof.Proof.Gen.ReferenceAttnIdeal.Frame
public import Idealize.ShloMosaic.Lib.Pipeline.ValueKit
public import Idealize.ShloMosaic.Lib.StableHlo.RunLoop

@[expose] public section

set_option maxRecDepth 4000

/-!
  The reference of the attention call: its two results as functions of the arguments.
-/

noncomputable section

namespace Cert.ReferenceAttnIdeal.Val

open Cert.ReferenceAttnIdeal Cert.ReferenceAttnIdeal.Gen Idealize.ShloMosaic Idealize.ShloMosaic.StableHlo Cert.Packed
open Idealize.ShloMosaic.Pointwise Idealize.ShloMosaic.TcCoe

variable {F : FTy → Type} [FloatOps F]

/-! ## The host operations as functions -/

/-- The segment of every row: how many of the bounds are not above it. -/
def segT (x : IVec S4 32) : IVec S1536 32 :=
  Host.reduce IntOp.addi (extui 32 (cmpi .sge
      (broadcastInDim S1536x3 ![0, 1] bcast_S1536x1_S1536x3_0_1 (broadcastInDim S1536x1 ![0] bcast_S1536_S1536x1_0 (iotaInDim S1536 32 0)))
      (broadcastInDim S1536x3 ![0, 1] bcast_S1x3_S1536x3_0_1 (broadcastInDim S1x3 ![1] bcast_S3_S1x3_1 (extractStridedSlice S3 ![1] x slices_S4_S3_1)))) natLt_1_32)
    (constantI S_ 32 0#32) reducesTo_S1536x3_S1536_d1 h_S_

/-- A column of words repeated along the rows. -/
def colT (x : IVec S1536 32) : IVec S1536x1536 32 :=
  broadcastInDim S1536x1536 ![0, 1] bcast_S1536x1_S1536x1536_0_1 (broadcastInDim S1536x1 ![0] bcast_S1536_S1536x1_0 x)
/-- A row of words repeated down the columns. -/
def rowT (x : IVec S1536 32) : IVec S1536x1536 32 :=
  broadcastInDim S1536x1536 ![0, 1] bcast_S1x1536_S1536x1536_0_1 (broadcastInDim S1x1536 ![1] bcast_S1536_S1x1536_1 x)

/-- Which keys each query sees. -/
def visT (x : IVec S4 32) : IVec S1536x1536 1 :=
  andi (andi (cmpi .eq (colT (segT x)) (rowT (segT x))) (cmpi .sle (rowT (iotaInDim S1536 32 0)) (colT (iotaInDim S1536 32 0))))
    (cmpi .slt (subi (colT (iotaInDim S1536 32 0)) (rowT (iotaInDim S1536 32 0))) (broadcastInDim S1536x1536 ![] bcast_S_S1536x1536 (constantI S_ 32 384#32)))

/-- The scores in base-2 units. -/
def scoreT (k : FVec F S1536x1024 .bf16) (q : FVec F S1536x4096 .bf16) (ks : FVec F S8 .f32) : FVec F S8x4x1536x1536 .f32 :=
  mulf (mulf (transpose S8x4x1536x1536 [0, 3, 2, 1]
      (Host.dotGeneral dot_S1536x8x128_S1536x8x4x128_S8x1536x1536x4_2_3_0_02_1_1 none
        (shapeCast S1536x8x128 k shapeCasts_S1536x1024_S1536x8x128) (shapeCast S1536x8x4x128 q shapeCasts_S1536x4096_S1536x8x4x128))
      transposes_S8x1536x1536x4_S8x4x1536x1536_0_3_2_1)
    (broadcastInDim S8x4x1536x1536 ![0, 1, 2, 3] bcast_S8x1x1x1_S8x4x1536x1536_0_1_2_3
      (broadcastInDim S8x1x1x1 ![0] bcast_S8_S8x1x1x1_0 (mulf ks (broadcastInDim S8 ![] bcast_S_S8 (constant S_ .f32 0x3DB504F3#32))))))
    (broadcastInDim S8x4x1536x1536 ![] bcast_S_S8x4x1536x1536 (constant S_ .f32 0x3FB8AA3B#32))

/-- The scores with minus infinity where a key is not visible. -/
def maskT (b : IVec S1536x1536 1) (s : FVec F S8x4x1536x1536 .f32) : FVec F S8x4x1536x1536 .f32 :=
  select (broadcastInDim S8x4x1536x1536 ![2, 3] bcast_S1536x1536_S8x4x1536x1536_2_3 b) s
    (broadcastInDim S8x4x1536x1536 ![] bcast_S_S8x4x1536x1536 (constant S_ .f32 0xFF800000#32))

/-- Each row's largest score, rounded up. -/
def maxT (x : FVec F S8x4x1536x1536 .f32) : FVec F S8x4x1536x1 .f32 :=
  Host.ceil (broadcastInDim S8x4x1536x1 ![0, 1, 2] bcast_S8x4x1536_S8x4x1536x1_0_1_2
    (Host.reduce FloatOps.maximumf x (constant S_ .f32 0xFF800000#32) reducesTo_S8x4x1536x1536_S8x4x1536_d3 h_S_))

/-- The powers of two. -/
def powT (x : FVec F S8x4x1536x1536 .f32) (mx : FVec F S8x4x1536x1 .f32) : FVec F S8x4x1536x1536 .f32 :=
  Host.powf (broadcastInDim S8x4x1536x1536 ![] bcast_S_S8x4x1536x1536 (constant S_ .f32 0x40000000#32))
    (subf x (broadcastInDim S8x4x1536x1536 ![0, 1, 2, 3] bcast_S8x4x1536x1_S8x4x1536x1536_0_1_2_3 mx))

/-- The row sums, one per query, head of k and head of q. -/
def denT (p : FVec F S8x4x1536x1536 .f32) : FVec F S1536x8x4 .f32 :=
  transpose S1536x8x4 [2, 0, 1] (Host.reduceAdd p (constant S_ .f32 0x00000000#32) reducesTo_S8x4x1536x1536_S8x4x1536_d3 h_S_) transposes_S8x4x1536_S1536x8x4_2_0_1

/-- The weighted sums of the value codes. -/
def accT (v : FVec F S1536x1024 .bf16) (vs : FVec F S8 .f32) (p : FVec F S8x4x1536x1536 .f32) : FVec F S1536x8x4x128 .f32 :=
  transpose S1536x8x4x128 [3, 0, 2, 1]
    (Host.dotGeneral dot_S1536x8x128_S8x4x1536x1536_S8x128x4x1536_0_3_2_12_1_0 none
      (shapeCast S1536x8x128 v shapeCasts_S1536x1024_S1536x8x128)
      (truncf .bf16 (mulf p (broadcastInDim S8x4x1536x1536 ![0, 1, 2, 3] bcast_S8x1x1x1_S8x4x1536x1536_0_1_2_3
        (broadcastInDim S8x1x1x1 ![0] bcast_S8_S8x1x1x1_0 vs))) bitsLt_bf16_f32))
    transposes_S8x128x4x1536_S1536x8x4x128_3_0_2_1

/-- The quotient, heads apart. -/
def divT (v : FVec F S1536x1024 .bf16) (vs : FVec F S8 .f32) (p : FVec F S8x4x1536x1536 .f32) : FVec F S1536x8x4x128 .f32 :=
  Host.divf (accT v vs p) (broadcastInDim S1536x8x4x128 ![0, 1, 2, 3] bcast_S1536x8x4x1_S1536x8x4x128_0_1_2_3
    (broadcastInDim S1536x8x4x1 ![0, 1, 2] bcast_S1536x8x4_S1536x8x4x1_0_1_2 (denT p)))

/-- The powers of two of the arguments. -/
def pT (q : FVec F S1536x4096 .bf16) (k : FVec F S1536x1024 .bf16) (x : IVec S4 32) (ks : FVec F S8 .f32) : FVec F S8x4x1536x1536 .f32 :=
  powT (maskT (visT x) (scoreT k q ks)) (maxT (maskT (visT x) (scoreT k q ks)))

/-- The f32 result. -/
def attnT (q : FVec F S1536x4096 .bf16) (k v : FVec F S1536x1024 .bf16) (x : IVec S4 32) (ks vs : FVec F S8 .f32) : FVec F S1536x4096 .f32 :=
  shapeCast S1536x4096 (divT v vs (pT q k x ks)) shapeCasts_S1536x8x4x128_S1536x4096

/-! ## The host operations run -/

section
variable (V : Valuation τ sig (Elt F))

theorem ops2_v60 : (after hostOps1_2 V (Proc.devRef .tc main_v60) : FVec F S1536x4096 .f32)
    = shapeCast S1536x4096 (Host.divf (transpose S1536x8x4x128 [3, 0, 2, 1]
    (Host.dotGeneral dot_S1536x8x128_S8x4x1536x1536_S8x128x4x1536_0_3_2_12_1_0 none
      (V (Proc.devRef .tc main_v2))
      (truncf .bf16 (mulf (powT (V (Proc.devRef .tc main_v42)) (maxT (V (Proc.devRef .tc main_v42)))) (broadcastInDim S8x4x1536x1536 ![0, 1, 2, 3] bcast_S8x1x1x1_S8x4x1536x1536_0_1_2_3
        (V (Proc.devRef .tc main_v35)))) bitsLt_bf16_f32))
    transposes_S8x128x4x1536_S1536x8x4x128_3_0_2_1) (broadcastInDim S1536x8x4x128 ![0, 1, 2, 3] bcast_S1536x8x4x1_S1536x8x4x128_0_1_2_3
    (broadcastInDim S1536x8x4x1 ![0, 1, 2] bcast_S1536x8x4_S1536x8x4x1_0_1_2 (denT (powT (V (Proc.devRef .tc main_v42)) (maxT (V (Proc.devRef .tc main_v42)))))))) shapeCasts_S1536x8x4x128_S1536x4096 := by
  after_results
  rfl

theorem ops2_v61 : (after hostOps1_2 V (Proc.devRef .tc main_v61) : FVec F S1536x4096 .bf16)
    = truncf .bf16 (after hostOps1_2 V (Proc.devRef .tc main_v60) : FVec F S1536x4096 .f32) bitsLt_bf16_f32 := by
  after_results

theorem ops1_v42 : (after hostOps1_1 V (Proc.devRef .tc main_v42) : FVec F S8x4x1536x1536 .f32)
    = select (broadcastInDim S8x4x1536x1536 ![2, 3] bcast_S1536x1536_S8x4x1536x1536_2_3 (V (Proc.devRef .tc main_v31))) (V (Proc.devRef .tc main_v41))
    (broadcastInDim S8x4x1536x1536 ![] bcast_S_S8x4x1536x1536 (V (Proc.devRef .tc main_cst_2))) := by
  after_results
  rfl
theorem ops1_v2 : after hostOps1_1 V (Proc.devRef .tc main_v2) = V (Proc.devRef .tc main_v2) := by after_results
theorem ops1_v35 : after hostOps1_1 V (Proc.devRef .tc main_v35) = V (Proc.devRef .tc main_v35) := by after_results

theorem ops0_v2 : (after hostOps1 V (Proc.devRef .tc main_v2) : FVec F S1536x8x128 .bf16)
    = shapeCast S1536x8x128 (V (Proc.devRef .tc main_v0_1) : FVec F S1536x1024 .bf16) shapeCasts_S1536x1024_S1536x8x128 := by
  after_results
  rfl
theorem ops0_v35 : (after hostOps1 V (Proc.devRef .tc main_v35) : FVec F S8x1x1x1 .f32)
    = broadcastInDim S8x1x1x1 ![0] bcast_S8_S8x1x1x1_0 (V (Proc.devRef .tc main_arg5) : FVec F S8 .f32) := by
  after_results
theorem ops0_cst : (after hostOps1 V (Proc.devRef .tc main_cst_2) : FVec F S_ .f32) = constant S_ .f32 0xFF800000#32 := by
  after_results
theorem ops0_v41 : (after hostOps1 V (Proc.devRef .tc main_v41) : FVec F S8x4x1536x1536 .f32)
    = scoreT (V (Proc.devRef .tc main_v0_0)) (V (Proc.devRef .tc main_arg0)) (V (Proc.devRef .tc main_arg4)) := by
  after_results
  rfl
theorem ops0_v31 : (after hostOps1 V (Proc.devRef .tc main_v31) : IVec S1536x1536 1) = visT (V (Proc.devRef .tc main_arg3)) := by
  after_results
  rfl

/-- The f32 result from the buffers' contents at the region's end. -/
theorem flat_after (b : DevRef τ sig) : after ([hostOps1, hostOps1_1, hostOps1_2] : List (List (HloOp τ sig (Elt F)))).flatten V b
    = after hostOps1_2 (after hostOps1_1 (after hostOps1 V)) b :=
  congrFun (afterL_eq_after_flatten ([hostOps1, hostOps1_1, hostOps1_2] : List (List (HloOp τ sig (Elt F)))) V).symm b
theorem ops_v60 : (after ([hostOps1, hostOps1_1, hostOps1_2] : List (List (HloOp τ sig (Elt F)))).flatten V (Proc.devRef .tc main_v60) : FVec F S1536x4096 .f32)
    = attnT (V (Proc.devRef .tc main_arg0)) (V (Proc.devRef .tc main_v0_0)) (V (Proc.devRef .tc main_v0_1)) (V (Proc.devRef .tc main_arg3))
        (V (Proc.devRef .tc main_arg4)) (V (Proc.devRef .tc main_arg5)) := by
  refine (flat_after V _).trans ?_
  rw [ops2_v60, ops1_v42, ops1_v2, ops1_v35, ops0_v2, ops0_v35, ops0_cst, ops0_v41, ops0_v31]
  rfl
theorem ops_v61 : (after ([hostOps1, hostOps1_1, hostOps1_2] : List (List (HloOp τ sig (Elt F)))).flatten V (Proc.devRef .tc main_v61) : FVec F S1536x4096 .bf16)
    = truncf .bf16 (after ([hostOps1, hostOps1_1, hostOps1_2] : List (List (HloOp τ sig (Elt F)))).flatten V (Proc.devRef .tc main_v60) : FVec F S1536x4096 .f32) bitsLt_bf16_f32 := by
  rw [flat_after, flat_after]
  exact ops2_v61 _

end

/-! ## The two copies of the codes -/

variable (m : (ℓ : Loc nD τ sig) → Buf (Elt F) ℓ) (c : Dev nD)

theorem blk0 : (iblk m c 0 t0_0 : FVec F S1536x1024 .fp8e4m3) = m ((c : Thread nD τ).loc main_arg1) := by
  funext y
  unfold iblk
  refine congrArg (m ((c : Thread nD τ).loc main_arg1)) (funext fun a => Fin.ext ?_)
  match a with
  | ⟨0, _⟩ => show _ + 1 * (y 0).val = (y 0).val; rw [one_mul]; exact Nat.zero_add _
  | ⟨1, _⟩ => show _ + 1 * (y 1).val = (y 1).val; rw [one_mul]; exact Nat.zero_add _
theorem arr2 : ((dats m 0 c).arrAt 2 (cfgs 0).N : FVec F S1536x1024 .bf16) = extf .bf16 (m ((c : Thread nD τ).loc main_arg1) : FVec F S1536x1024 .fp8e4m3) bitsLt_fp8e4m3_bf16 := by
  refine (dats m 0 c).arrAt_eq_of_after_last 2 t0_0 (by decide +kernel) _ fun j => ?_
  blk_simp
  rw [after0_2]
  frame_out
  rw [blk0]
  rfl
theorem blk1 : (iblk m c 1 t0_0 : FVec F S1536x1024 .fp8e4m3) = m ((c : Thread nD τ).loc main_arg2) := by
  funext y
  unfold iblk
  refine congrArg (m ((c : Thread nD τ).loc main_arg2)) (funext fun a => Fin.ext ?_)
  match a with
  | ⟨0, _⟩ => show _ + 1 * (y 0).val = (y 0).val; rw [one_mul]; exact Nat.zero_add _
  | ⟨1, _⟩ => show _ + 1 * (y 1).val = (y 1).val; rw [one_mul]; exact Nat.zero_add _
theorem arr3 : ((dats m 0 c).arrAt 3 (cfgs 0).N : FVec F S1536x1024 .bf16) = extf .bf16 (m ((c : Thread nD τ).loc main_arg2) : FVec F S1536x1024 .fp8e4m3) bitsLt_fp8e4m3_bf16 := by
  refine (dats m 0 c).arrAt_eq_of_after_last 3 t0_0 (by decide +kernel) _ fun j => ?_
  blk_simp
  rw [after0_3]
  frame_out
  rw [blk1]
  rfl

/-! ## The two results after the run -/

/-- The f32 result as a function of the arguments. -/
def res (m : (ℓ : Loc nD τ sig) → Buf (Elt F) ℓ) (c : Dev nD) : FVec F S1536x4096 .f32 :=
  attnT (m ((c : Thread nD τ).loc main_arg0)) (extf .bf16 (m ((c : Thread nD τ).loc main_arg1) : FVec F S1536x1024 .fp8e4m3) bitsLt_fp8e4m3_bf16)
    (extf .bf16 (m ((c : Thread nD τ).loc main_arg2) : FVec F S1536x1024 .fp8e4m3) bitsLt_fp8e4m3_bf16)
    (m ((c : Thread nD τ).loc main_arg3)) (m ((c : Thread nD τ).loc main_arg4)) (m ((c : Thread nD τ).loc main_arg5))

theorem tail_v60 : (Pipeline.afterTail₀ cfgs (dats m) 0 (V0 m) [hostOps1, hostOps1_1, hostOps1_2] c main_v60 : FVec F S1536x4096 .f32) = res m c := by
  unfold Pipeline.afterTail₀
  rw [ops_v60]
  unfold res
  congr 1
  · exact (Pipeline.withArrays_arr spec0 winFacts0.arr_inj c (V0 m c) (fun w => (dats m 0 c).arrAt w (cfgs 0).N) 2).trans (arr2 m c)
  · exact (Pipeline.withArrays_arr spec0 winFacts0.arr_inj c (V0 m c) (fun w => (dats m 0 c).arrAt w (cfgs 0).N) 3).trans (arr3 m c)

theorem tail_v61 : (Pipeline.afterTail₀ cfgs (dats m) 0 (V0 m) [hostOps1, hostOps1_1, hostOps1_2] c main_v61 : FVec F S1536x4096 .bf16)
    = truncf .bf16 (res m c) bitsLt_bf16_f32 := by
  rw [← tail_v60]
  unfold Pipeline.afterTail₀
  exact ops_v61 _

/-- The run of the reference: its two results, and the arguments as they were. -/
theorem run (ρ : Dev nD → PrngReg) : θ_run defs (onTc (τ := τ) (main (F := F))) ⟨m, fun _ => 0, ρ⟩ (fun r => ∀ c : Dev nD,
      r.2.mem ((c : Thread nD τ).loc main_v60) = res m c
      ∧ r.2.mem ((c : Thread nD τ).loc main_v61) = (truncf .bf16 (res m c) bitsLt_bf16_f32 : FVec F S1536x4096 .bf16)) :=
  (θ_run defs _ _).mono (fun _ h c => ⟨((h c).2 main_v60 (Pipeline.mem_restRefs_of main_v60 (by decide) (by decide))).trans (tail_v60 m c),
    ((h c).2 main_v61 (Pipeline.mem_restRefs_of main_v61 (by decide) (by decide))).trans (tail_v61 m c)⟩) (run_main m ρ)

end Cert.ReferenceAttnIdeal.Val

end
-- ==== Proof.AttnRefAt.lean ====
module

public import proofs.«01_k».proof.Proof.AttnRef
public import Idealize.ShloMosaic.Lib.KernelVsHost

@[expose] public section

set_option maxRecDepth 4000

/-!
  The reference of the attention call, read at an entry.
-/

noncomputable section

namespace Cert.ReferenceAttnIdeal.Val

open Cert.ReferenceAttnIdeal Cert.ReferenceAttnIdeal.Gen Idealize.ShloMosaic Idealize.ShloMosaic.StableHlo Cert.Packed Cert.Attn
open Idealize.ShloMosaic.Pointwise Idealize.ShloMosaic.TcCoe

/-- The segment of a row, as a natural number's. -/
def segN (x : IVec S4 32) (n : ℕ) : BitVec 32 := if h : n < 1536 then segT x (ix1 ⟨n, h⟩) else 0#32

theorem colT_apply (x : IVec S1536 32) (r k : Fin 1536) : colT x (ix2 r k) = x (ix1 r) := by
  unfold colT
  pointwise
theorem rowT_apply (x : IVec S1536 32) (r k : Fin 1536) : rowT x (ix2 r k) = x (ix1 k) := by
  unfold rowT
  pointwise

theorem visT_apply (x : IVec S4 32) (r k : Fin 1536) : visT x (ix2 r k) = visW (segN x) r.val k.val := by
  have h : ∀ n : Fin 1536, segN x n.val = segT x (ix1 n) := fun n => dif_pos n.isLt
  unfold visW
  rw [h, h]
  show IntOp.andi (IntOp.andi (IntOp.cmpi .eq (colT (segT x) (ix2 r k)) (rowT (segT x) (ix2 r k))) (IntOp.cmpi .sle (rowT (iotaInDim S1536 32 0) (ix2 r k)) (colT (iotaInDim S1536 32 0) (ix2 r k))))
    (IntOp.cmpi .slt (IntOp.subi (colT (iotaInDim S1536 32 0) (ix2 r k)) (rowT (iotaInDim S1536 32 0) (ix2 r k))) 384#32) = _
  simp only [colT_apply, rowT_apply]
  rfl

theorem bot_word : Ideal.ofBits .f32 0xFF800000#32 = ⊥ := bot_bits

theorem k3_apply (k : FVec Ideal S1536x1024 .bf16) (n : Fin 1536) (g : Fin 8) (d : Fin 128) :
    shapeCast S1536x8x128 k shapeCasts_S1536x1024_S1536x8x128 (ix3 n g d) = at2 k n.val (128 * g.val + d.val) := by
  rw [shapeCast_apply k _ (ix3 n g d) (ix2 n ⟨128 * g.val + d.val, by omega⟩)
    (by rewrite [Shape.rowMajor_val_three, Shape.rowMajor_val_two]
        show n.val * 1024 + (128 * g.val + d.val) = (n.val * 8 + g.val) * 128 + d.val
        omega)]
  exact eq_at2 k _ _
theorem q4_apply (q : FVec Ideal S1536x4096 .bf16) (n : Fin 1536) (g : Fin 8) (e : Fin 4) (d : Fin 128) :
    shapeCast S1536x8x4x128 q shapeCasts_S1536x4096_S1536x8x4x128 (ix4 n g e d) = at2 q n.val (512 * g.val + 128 * e.val + d.val) := by
  rw [shapeCast_apply q _ (ix4 n g e d) (ix2 n ⟨512 * g.val + 128 * e.val + d.val, by omega⟩)
    (by rewrite [Shape.rowMajor_val_four, Shape.rowMajor_val_two]
        show n.val * 4096 + (512 * g.val + 128 * e.val + d.val) = ((n.val * 8 + g.val) * 4 + e.val) * 128 + d.val
        omega)]
  exact eq_at2 q _ _

theorem scoreT_apply (k : FVec Ideal S1536x1024 .bf16) (q : FVec Ideal S1536x4096 .bf16) (ks : FVec Ideal S8 .f32) (g : Fin 8) (e : Fin 4) (r n : Fin 1536) :
    scoreT k q ks (ix4 g e r n) = (∑ d : Fin 128, at2 q r.val (512 * g.val + 128 * e.val + d.val) * at2 k n.val (128 * g.val + d.val))
      * (ks (ix1 g) * Ideal.ofBits .f32 0x3DB504F3#32) * Ideal.ofBits .f32 0x3FB8AA3B#32 := by
  unfold scoreT
  pointwise
  congr 2
  refine Finset.sum_congr rfl fun d _ => ?_
  rw [mul_comm]
  congr 1
  · exact eq_at2_of q _ (by rfl) (by show g.val * 512 + e.val * 128 + d.val = _; ring)
  · exact eq_at2_of k _ (by rfl) (by show g.val * 128 + d.val = _; ring)

theorem maskT_apply (b : IVec S1536x1536 1) (s : FVec Ideal S8x4x1536x1536 .f32) (g : Fin 8) (e : Fin 4) (r n : Fin 1536) :
    maskT b s (ix4 g e r n) = masked (b (ix2 r n)) (s (ix4 g e r n)) := by
  unfold maskT
  pointwise
  rw [bot_word]
  rfl

theorem reduces3 : S8x4x1536x1536.Reduces [3] S8x4x1536 := by decide

/-- A maximum over the last axis. -/
theorem rowMax_host (x : FVec Ideal S8x4x1536x1536 .f32) (g : Fin 8) (e : Fin 4) (r : Fin 1536) :
    Host.reduce FloatOps.maximumf x (constant S_ .f32 0xFF800000#32) reducesTo_S8x4x1536x1536_S8x4x1536_d3 h_S_ (ix3 g e r)
      = Finset.univ.fold max (Ideal.ofBits .f32 0xFF800000#32) fun n : Fin 1536 => x (ix4 g e r n) := by
  refine (congrFun (hostReduce_maximumf_eq_multiReduction x 0xFF800000#32 reducesTo_S8x4x1536x1536_S8x4x1536_d3 h_S_ reduces3 (.inl rfl) rfl) _).trans ?_
  refine (Ideal.multiReduction_maximumf_single x _ reduces3 (.inl rfl) rfl (ix3 g e r)).trans ?_
  refine congrArg (fun f => Finset.fold max (Ideal.ofBits .f32 0xFF800000#32) f Finset.univ) (funext fun n => ?_)
  refine congrArg x (funext fun a => ?_)
  match a with
  | ⟨0, _⟩ => rfl
  | ⟨1, _⟩ => rfl
  | ⟨2, _⟩ => rfl
  | ⟨3, _⟩ => rfl

/-- One more axis, of one entry. -/
theorem axis_apply (y : FVec Ideal S8x4x1536 .f32) (g : Fin 8) (e : Fin 4) (r : Fin 1536) (z : Fin 1) :
    broadcastInDim S8x4x1536x1 ![0, 1, 2] bcast_S8x4x1536_S8x4x1536x1_0_1_2 y (ix4 g e r z) = y (ix3 g e r) := by
  refine broadcastInDim_apply _ bcast_S8x4x1536_S8x4x1536x1_0_1_2 y _ (ix3 g e r) (fun a => match a with
    | ⟨0, _⟩ => by show g.val = if (8 : Nat) = 1 then 0 else g.val; rw [if_neg (by decide)]
    | ⟨1, _⟩ => by show e.val = if (4 : Nat) = 1 then 0 else e.val; rw [if_neg (by decide)]
    | ⟨2, _⟩ => by show r.val = if (1536 : Nat) = 1 then 0 else r.val; rw [if_neg (by decide)])

theorem ceil_at (w : FVec Ideal S8x4x1536x1 .f32) (i : S8x4x1536x1.Idx) : Host.ceil w i = Ideal.liftRound Int.ceil (w i) := rfl

theorem maxT_apply (x : FVec Ideal S8x4x1536x1536 .f32) (g : Fin 8) (e : Fin 4) (r : Fin 1536) (z : Fin 1) :
    maxT x (ix4 g e r z) = rowMax fun n : Fin 1536 => x (ix4 g e r n) := by
  unfold maxT rowMax
  rw [ceil_at, axis_apply, rowMax_host, bot_word]

theorem powT_apply (x : FVec Ideal S8x4x1536x1536 .f32) (mx : FVec Ideal S8x4x1536x1 .f32) (g : Fin 8) (e : Fin 4) (r n : Fin 1536) :
    powT x mx (ix4 g e r n) = Ideal.exp2 (x (ix4 g e r n) - mx (ix4 g e r 0)) := by
  unfold powT
  pointwise
  rw [show Ideal.ofBits .f32 0x40000000#32 = ((2 : ℝ) : EReal) from two_bits, pow_two]

theorem denT_apply (p : FVec Ideal S8x4x1536x1536 .f32) (r : Fin 1536) (g : Fin 8) (e : Fin 4) :
    denT p (ix3 r g e) = ∑ n : Fin 1536, p (ix4 g e r n) := by
  unfold denT
  pointwise

theorem accT_apply (v : FVec Ideal S1536x1024 .bf16) (vs : FVec Ideal S8 .f32) (p : FVec Ideal S8x4x1536x1536 .f32) (r : Fin 1536) (g : Fin 8) (e : Fin 4) (l : Fin 128) :
    accT v vs p (ix4 r g e l) = ∑ n : Fin 1536, p (ix4 g e r n) * vs (ix1 g) * at2 v n.val (128 * g.val + l.val) := by
  unfold accT
  pointwise
  refine Finset.sum_congr rfl fun n _ => ?_
  rw [mul_comm]
  congr 1
  exact eq_at2_of v _ (by rfl) (by show g.val * 128 + l.val = _; ring)

theorem divT_apply (v : FVec Ideal S1536x1024 .bf16) (vs : FVec Ideal S8 .f32) (p : FVec Ideal S8x4x1536x1536 .f32) (r : Fin 1536) (g : Fin 8) (e : Fin 4) (l : Fin 128) :
    divT v vs p (ix4 r g e l) = Ideal.div (∑ n : Fin 1536, p (ix4 g e r n) * vs (ix1 g) * at2 v n.val (128 * g.val + l.val)) (∑ n : Fin 1536, p (ix4 g e r n)) := by
  rw [← accT_apply, ← denT_apply]
  unfold divT
  pointwise

/-- The f32 result at an entry: head `e` of group `g`, column `l`. -/
theorem attnT_apply (q : FVec Ideal S1536x4096 .bf16) (k v : FVec Ideal S1536x1024 .bf16) (x : IVec S4 32) (ks vs : FVec Ideal S8 .f32)
    (r : Fin 1536) (g : Fin 8) (e : Fin 4) (l : Fin 128) :
    attnT q k v x ks vs (ix2 r ⟨512 * g.val + 128 * e.val + l.val, by omega⟩)
      = attnN (fun n : Fin 1536 => visW (segN x) r.val n.val)
          (fun n => (∑ d : Fin 128, at2 q r.val (512 * g.val + 128 * e.val + d.val) * at2 k n.val (128 * g.val + d.val))
            * (ks (ix1 g) * Ideal.ofBits .f32 0x3DB504F3#32) * Ideal.ofBits .f32 0x3FB8AA3B#32)
          (fun n => at2 v n.val (128 * g.val + l.val)) (vs (ix1 g)) := by
  unfold attnT
  rw [shapeCast_apply _ _ (ix2 r ⟨512 * g.val + 128 * e.val + l.val, by omega⟩) (ix4 r g e l)
    (by rewrite [Shape.rowMajor_val_four, Shape.rowMajor_val_two]
        show ((r.val * 8 + g.val) * 4 + e.val) * 128 + l.val = r.val * 4096 + (512 * g.val + 128 * e.val + l.val)
        omega), divT_apply]
  unfold attnN pT
  simp only [powT_apply, maxT_apply, maskT_apply, visT_apply, scoreT_apply]

end Cert.ReferenceAttnIdeal.Val

end
-- ==== Proof.AttnAlg.lean ====
module

public import proofs.«01_k».proof.Proof.AttnValue
public import proofs.«01_k».proof.Proof.AttnRefAt
public import proofs.«01_k».proof.Defs

@[expose] public section

set_option maxRecDepth 16384

/-!
  The attention call: from equal arguments the ideal kernel and the reference return equal arrays. Both sides hold, at row `R`,
  head `e` of group `g` and column `l`, the same weighted mean over the keys that the row sees.
-/

noncomputable section

namespace Cert.AttnAlg

open Idealize.ShloMosaic Idealize.ShloMosaic.TcCoe Idealize.SL.Sem Idealize.ShloMosaic.Pointwise Cert.Packed

theorem split_index (i : (⟨2, ![1536, 4096]⟩ : Shape).Idx) :
    ∃ (r : Fin 1536) (g : Fin 8) (e : Fin 4) (l : Fin 128), ∃ hn : 512 * g.val + 128 * e.val + l.val < 4096, i = ix2 r ⟨512 * g.val + 128 * e.val + l.val, hn⟩ := by
  have h1 : (i 1).val < 4096 := (i 1).isLt
  have hs : 512 * ((i 1).val / 512) + 128 * ((i 1).val % 512 / 128) + (i 1).val % 128 = (i 1).val := by omega
  refine ⟨i 0, ⟨(i 1).val / 512, by omega⟩, ⟨(i 1).val % 512 / 128, by omega⟩, ⟨(i 1).val % 128, Nat.mod_lt _ (by norm_num)⟩, ?_, ?_⟩
  · show 512 * ((i 1).val / 512) + 128 * ((i 1).val % 512 / 128) + (i 1).val % 128 < 4096
    omega
  · refine funext fun a => ?_
    match a with
    | ⟨0, _⟩ => rfl
    | ⟨1, _⟩ => exact Fin.ext hs.symm

/-- Both sides number the rows' segments alike. -/
theorem seg_eq (x : IVec Cert.KernelAttnIdeal.S4 32) : Cert.ReferenceAttnIdeal.Val.segN x = Cert.KernelAttnIdeal.Val.segKN x := rfl

section

variable (m : (ℓ : Loc Cert.KernelAttnIdeal.nD Cert.KernelAttnIdeal.τ Cert.KernelAttnIdeal.sig) → Buf (Elt Ideal) ℓ)
variable (m' : (ℓ : Loc Cert.ReferenceAttnIdeal.nD Cert.ReferenceAttnIdeal.τ Cert.ReferenceAttnIdeal.sig) → Buf (Elt Ideal) ℓ)
variable (c : Dev Cert.KernelAttnIdeal.nD)

/-- The reference's argument. -/
abbrev argR (b : Ref Cert.ReferenceAttnIdeal.sig .tc) : b.ty.Contents (Elt Ideal) :=
  m' ((c : Thread Cert.ReferenceAttnIdeal.nD Cert.ReferenceAttnIdeal.τ).loc b)

local notation "SameArgs" =>
  (argR m' c Cert.ReferenceAttnIdeal.main_arg0 = Cert.KernelAttnIdeal.Val.arg m c Cert.KernelAttnIdeal.main_arg0
  ∧ argR m' c Cert.ReferenceAttnIdeal.main_arg1 = Cert.KernelAttnIdeal.Val.arg m c Cert.KernelAttnIdeal.main_arg1
  ∧ argR m' c Cert.ReferenceAttnIdeal.main_arg2 = Cert.KernelAttnIdeal.Val.arg m c Cert.KernelAttnIdeal.main_arg2
  ∧ argR m' c Cert.ReferenceAttnIdeal.main_arg3 = Cert.KernelAttnIdeal.Val.arg m c Cert.KernelAttnIdeal.main_arg3
  ∧ argR m' c Cert.ReferenceAttnIdeal.main_arg4 = Cert.KernelAttnIdeal.Val.arg m c Cert.KernelAttnIdeal.main_arg4
  ∧ argR m' c Cert.ReferenceAttnIdeal.main_arg5 = Cert.KernelAttnIdeal.Val.arg m c Cert.KernelAttnIdeal.main_arg5)

/-- The reference's result at an entry. -/
theorem ref_apply (h : SameArgs) (r : Fin 1536) (g : Fin 8) (e : Fin 4) (l : Fin 128) :
    Cert.ReferenceAttnIdeal.Val.res m' c (ix2 r ⟨512 * g.val + 128 * e.val + l.val, by omega⟩) = Cert.KernelAttnIdeal.Val.entry m c r.val g e l := by
  obtain ⟨h0, h1, h2, h3, h4, h5⟩ := h
  refine (Cert.ReferenceAttnIdeal.Val.attnT_apply _ _ _ _ _ _ r g e l).trans ?_
  unfold Cert.KernelAttnIdeal.Val.entry
  rw [← h0, ← h1, ← h2, ← h3, ← h4, ← h5]
  rfl

theorem f32_eq (h : SameArgs) :
    (Cert.ReferenceAttnIdeal.Val.res m' c : Vec Ideal Cert.KernelAttnIdeal.S1536x4096 .f32)
      = ((Cert.KernelAttnIdeal.Gen.dats m 0 c).arrAt 7 Cert.KernelAttnIdeal.cfg0.N : Vec Ideal Cert.KernelAttnIdeal.S1536x4096 .f32) := by
  refine funext fun i => ?_
  obtain ⟨r, g, e, l, hn, rfl⟩ := split_index i
  exact (ref_apply m m' c h r g e l).trans (Cert.KernelAttnIdeal.Val.res7_apply m c r g e l).symm

theorem bf16_eq (h : SameArgs) :
    ((truncf .bf16 (Cert.ReferenceAttnIdeal.Val.res m' c) (by decide) : FVec Ideal Cert.ReferenceAttnIdeal.S1536x4096 .bf16) : Vec Ideal Cert.KernelAttnIdeal.S1536x4096 .bf16)
      = ((Cert.KernelAttnIdeal.Gen.dats m 0 c).arrAt 8 Cert.KernelAttnIdeal.cfg0.N : Vec Ideal Cert.KernelAttnIdeal.S1536x4096 .bf16) := by
  refine funext fun i => ?_
  obtain ⟨r, g, e, l, hn, rfl⟩ := split_index i
  exact (ref_apply m m' c h r g e l).trans (Cert.KernelAttnIdeal.Val.res8_apply m c r g e l).symm

end

/-- From equal arguments the attention call and its reference return equal arrays. -/
theorem algebraic : Cert.algebraic_KernelAttnIdeal_ReferenceAttnIdeal (hKernelAttnIdeal := Cert.KernelAttnIdeal.Gen.facts)
    (hReferenceAttnIdeal := Cert.ReferenceAttnIdeal.Gen.facts) := by
  intro m g m' g' _ hargs
  refine ⟨fun c => (Cert.KernelAttnIdeal.Gen.dats m 0 c).arrAt 7 Cert.KernelAttnIdeal.cfg0.N,
    fun c => (Cert.KernelAttnIdeal.Gen.dats m 0 c).arrAt 8 Cert.KernelAttnIdeal.cfg0.N,
    Cert.KernelAttnIdeal.Value.run_blocks m g, ?_⟩
  exact θ_run_mono (θ_run_and (Cert.ReferenceAttnIdeal.Val.run m' g') (Cert.ReferenceAttnIdeal.Gen.frame m' g'))
    fun r h c => ⟨(h.1 c).1.trans (f32_eq m m' c (hargs c)), (h.1 c).2.trans (bf16_eq m m' c (hargs c)), h.2.1 c⟩

end Cert.AttnAlg

end
-- ==== Proof.lean ====
module

public import proofs.«01_k».proof.Proof.Value
public import proofs.«01_k».proof.Proof.RefVal
public import proofs.«01_k».proof.Proof.QkvAlg
public import proofs.«01_k».proof.Proof.LnVal
public import proofs.«01_k».proof.Proof.AttnAlg
public import proofs.«01_k».proof.Proof.Gen.KernelAttnIdeal.Value
public import proofs.«01_k».proof.Proof.Gen.KernelAttn
public import proofs.«01_k».proof.Proof.Gen.KernelAttn.Frame
public import proofs.«01_k».proof.Proof.Gen.KernelAttnIdeal
public import proofs.«01_k».proof.Proof.Gen.KernelAttnIdeal.Frame
public import proofs.«01_k».proof.Proof.Gen.ReferenceAttnIdeal
public import proofs.«01_k».proof.Proof.Gen.ReferenceAttnIdeal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelQkv
public import proofs.«01_k».proof.Proof.Gen.KernelQkv.Frame
public import proofs.«01_k».proof.Proof.Gen.KernelQkvIdeal
public import proofs.«01_k».proof.Proof.Gen.KernelQkvIdeal.Frame
public import proofs.«01_k».proof.Proof.Gen.KernelLn
public import proofs.«01_k».proof.Proof.Gen.KernelLn.Frame
public import proofs.«01_k».proof.Proof.Gen.KernelLnIdeal
public import proofs.«01_k».proof.Proof.Gen.KernelLnIdeal.Frame
public import proofs.«01_k».proof.Proof.Gen.ReferenceQkvIdeal
public import proofs.«01_k».proof.Proof.Gen.ReferenceQkvIdeal.Read
public import proofs.«01_k».proof.Proof.Gen.ReferenceQkvIdeal.Run
public import proofs.«01_k».proof.Proof.Gen.KernelQkvIdeal.Value
public import proofs.«01_k».proof.Proof.Gen.KernelLnIdeal.Value
public import proofs.«01_k».proof.Proof.Gen.ReferenceLnIdeal.Run
public import proofs.«01_k».proof.Proof.Gen.ReferenceLnIdeal.Read
public import Idealize.ShloMosaic.Adequacy
public import Idealize.ShloMosaic.Init

@[expose] public section

noncomputable section

namespace Cert.Proof

open Idealize.ShloMosaic Idealize.SL.Sem Cert.Kernel

/-- From equal arguments the ideal kernel and the reference return equal arrays: both hold `outN` of the arguments
    (`Cert.KernelIdeal.Val.kernel_run`, `Cert.ReferenceIdeal.Val.ref_apply`). -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Val.resK m c, ?_, ?_⟩
  · exact θ_run_mono (θ_run_and (Cert.KernelIdeal.Val.kernel_run m g) (Cert.KernelIdeal.Gen.frame m g))
      fun r h c => ⟨h.1 c, h.2.1 c⟩
  · refine (θ_run (Cert.ReferenceIdeal.defs (F := Ideal)) _ _).mono (fun r h c => ?_) (Cert.ReferenceIdeal.Value.run (F := Ideal) m' g')
    obtain ⟨hv, hrest⟩ := h c
    refine ⟨hv.trans ?_, hrest⟩
    obtain ⟨h0, h1, h2, h3, h4, h5, h6, h7, h8⟩ := hargs c
    rw [Cert.ReferenceIdeal.Read.val_main_v74_eq, h0, h1, h2, h3, h4, h5, h6, h7, h8]
    exact funext fun i => Cert.ReferenceIdeal.Val.ref_apply _ _ _ _ _ _ _ _ _ i

/-- The reference's frame: its arguments end unchanged, and it declares no semaphore. -/
theorem frameR : Cert.quiescent_ReferenceIdeal (hReferenceIdeal := Cert.ReferenceIdeal.Gen.facts) := fun m ρ _ =>
  θ_run_mono (Cert.ReferenceIdeal.Value.run (F := Ideal) m ρ)
    fun r h => ⟨fun c => (h c).2, sem_eq_zero_of_no_sems (by decide) r.2⟩

/-- The frame of the reference of q, k and v. -/
theorem frameQkv : Cert.quiescent_ReferenceQkvIdeal (hReferenceQkvIdeal := Cert.ReferenceQkvIdeal.Gen.facts) := fun m ρ _ =>
  θ_run_mono (Cert.ReferenceQkvIdeal.Value.run (F := Ideal) m ρ)
    fun r h => ⟨fun c => (h c).2.2.2, sem_eq_zero_of_no_sems (by decide) r.2⟩

/-- The layer norm's reference's frame. -/
theorem frameLn : Cert.quiescent_ReferenceLnIdeal (hReferenceLnIdeal := Cert.ReferenceLnIdeal.Gen.facts) := fun m ρ _ =>
  θ_run_mono (Cert.ReferenceLnIdeal.Value.run (F := Ideal) m ρ)
    fun r h => ⟨fun c => (h c).2, sem_eq_zero_of_no_sems (by decide) r.2⟩

theorem claim : Cert.Claim := ⟨Cert.Kernel.Gen.facts, Cert.KernelIdeal.Gen.facts, Cert.ReferenceIdeal.Gen.facts,
  Cert.KernelQkv.Gen.facts, Cert.KernelQkvIdeal.Gen.facts, Cert.ReferenceQkvIdeal.Gen.facts,
  Cert.KernelLn.Gen.facts, Cert.KernelLnIdeal.Gen.facts, Cert.ReferenceLnIdeal.Gen.facts,
  Cert.KernelAttn.Gen.facts, Cert.KernelAttnIdeal.Gen.facts, Cert.ReferenceAttnIdeal.Gen.facts,
  fun m ρ _ => Cert.Kernel.Gen.frame m ρ, fun m ρ _ => Cert.KernelIdeal.Gen.frame m ρ, frameR,
  fun m ρ _ => Cert.KernelQkv.Gen.frame m ρ, fun m ρ _ => Cert.KernelQkvIdeal.Gen.frame m ρ,
  frameQkv,
  fun m ρ _ => Cert.KernelLn.Gen.frame m ρ, fun m ρ _ => Cert.KernelLnIdeal.Gen.frame m ρ, frameLn,
  fun m ρ _ => Cert.KernelAttn.Gen.frame m ρ, fun m ρ _ => Cert.KernelAttnIdeal.Gen.frame m ρ,
  fun m ρ _ => Cert.ReferenceAttnIdeal.Gen.frame m ρ,
  trivial, algebraic, trivial, Cert.QkvAlg.algebraic, trivial, Cert.LnVal.algebraic, trivial, Cert.AttnAlg.algebraic⟩

end Cert.Proof

end
